-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 4096]⟩ ⟨2, ![4096, 4096]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 512]⟩ ⟨2, ![4096, 2048]⟩ 1 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 512]⟩ ⟨2, ![4096, 2048]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x4096 : Shape := ⟨2, ![1024, 4096]⟩
abbrev S4096x512 : Shape := ⟨2, ![4096, 512]⟩
abbrev S3x4096x128 : Shape := ⟨3, ![3, 4096, 128]⟩
abbrev S1024x2048 : Shape := ⟨2, ![1024, 2048]⟩
abbrev S3x1024x512 : Shape := ⟨3, ![3, 1024, 512]⟩
abbrev S8x128 : Shape := ⟨2, ![8, 128]⟩
abbrev S3x8x128 : Shape := ⟨3, ![3, 8, 128]⟩
abbrev S6 : Shape := ⟨1, ![6]⟩
abbrev S3 : Shape := ⟨1, ![3]⟩
abbrev S_ : Shape := ⟨0, ![]⟩
abbrev S1 : Shape := ⟨1, ![1]⟩
abbrev S1x4096x128 : Shape := ⟨3, ![1, 4096, 128]⟩
abbrev S4096x128 : Shape := ⟨2, ![4096, 128]⟩
abbrev S1024x128 : Shape := ⟨2, ![1024, 128]⟩
abbrev S1024x512 : Shape := ⟨2, ![1024, 512]⟩
abbrev S512x128 : Shape := ⟨2, ![512, 128]⟩
abbrev S1x1024x128 : Shape := ⟨3, ![1, 1024, 128]⟩
abbrev S1x1x1 : Shape := ⟨3, ![1, 1, 1]⟩
abbrev S1x512x128 : Shape := ⟨3, ![1, 512, 128]⟩
abbrev S1x8x128 : Shape := ⟨3, ![1, 8, 128]⟩
abbrev S1x3x8x128 : Shape := ⟨4, ![1, 3, 8, 128]⟩
abbrev S1x1x1x1 : Shape := ⟨4, ![1, 1, 1, 1]⟩
abbrev S1x1024x512 : Shape := ⟨3, ![1, 1024, 512]⟩

abbrev nBuf : Space → Nat
  | .hbm => 3
  | .vmem => 11
  | .smem => 0
  | _ => 0

abbrev bufTy : (tb : Table) → Fin (tcTables nBuf tb) → BufTy
  | .hbm, ⟨0, _⟩ => ⟨S1024x4096, .f32⟩
  | .hbm, ⟨1, _⟩ => ⟨S4096x512, .f32⟩
  | .hbm, ⟨2, _⟩ => ⟨S4096x512, .f32⟩
  | .local _ .vmem, ⟨0, _⟩ => ⟨S1024x4096, .f32⟩
  | .local _ .vmem, ⟨1, _⟩ => ⟨S4096x512, .f32⟩
  | .local _ .vmem, ⟨2, _⟩ => ⟨S4096x512, .f32⟩
  | .local _ .vmem, ⟨3, _⟩ => ⟨S4096x512, .bf16⟩
  | .local _ .vmem, ⟨4, _⟩ => ⟨S3x4096x128, .bf16⟩
  | .local _ .vmem, ⟨5, _⟩ => ⟨S3x4096x128, .bf16⟩
  | .local _ .vmem, ⟨6, _⟩ => ⟨S1024x2048, .f32⟩
  | .local _ .vmem, ⟨7, _⟩ => ⟨S1024x2048, .i8⟩
  | .local _ .vmem, ⟨8, _⟩ => ⟨S3x1024x512, .i8⟩
  | .local _ .vmem, ⟨9, _⟩ => ⟨S8x128, .f32⟩
  | .local _ .vmem, ⟨10, _⟩ => ⟨S3x8x128, .f32⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 3 → Bool
  | ⟨0, _⟩ => true
  | ⟨1, _⟩ => true
  | ⟨2, _⟩ => false
  | _ => false

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  (ofTc nBuf bufTy 3 33 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_sem0_0 : DmaSem sig := 0
abbrev cc0_sem1_0 : DmaSem sig := 1
abbrev cc0_sem2_0 : DmaSem sig := 2
abbrev barrier0 : Sem sig := 2

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_6 : BitVec 32 := 1#32
  let v9 : BitVec 32 := Scalar.muli v7 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_8 : BitVec 32 := 1#32
  let v11 : BitVec 32 := Scalar.muli v4 c1_i32_8
  let v12 : BitVec 32 := Scalar.addi c0_i32_9 v11
  v12.toNat
def k0_dev3 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_16 : BitVec 32 := 1#32
  let v19 : BitVec 32 := Scalar.muli v4 c1_i32_16
  let v20 : BitVec 32 := Scalar.addi c0_i32_17 v19
  v20.toNat
def k0_dev4 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_25 : BitVec 32 := 1#32
  let v28 : BitVec 32 := Scalar.muli v7 c1_i32_25
  let v29 : BitVec 32 := Scalar.addi c0_i32_26 v28
  v29.toNat
def k0_dev5 (d0 : Dev nD) : Nat :=
  let c0_i32_34 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_33 : BitVec 32 := 1#32
  let v37 : BitVec 32 := Scalar.muli v4 c1_i32_33
  let v38 : BitVec 32 := Scalar.addi c0_i32_34 v37
  v38.toNat
def k0_dev6 (d0 : Dev nD) : Nat :=
  let c0_i32_42 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_41 : BitVec 32 := 1#32
  let v46 : BitVec 32 := Scalar.muli v7 c1_i32_41
  let v47 : BitVec 32 := Scalar.addi c0_i32_42 v46
  v47.toNat
def k0_off1 (d0 : Dev nD) (c0_i32_82 : BitVec 32) : Fin 2 → Nat :=
  let c0_83 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32 : BitVec 32 := 512#32
  let v111 : BitVec 32 := Scalar.muli v2 c512_i32
  let v112 : BitVec 32 := Scalar.addi v111 c0_i32_82
  let v113 : Index := Scalar.indexCast v112
  ![0, v113.toNat]
def k0_dev7 (d0 : Dev nD) : Nat :=
  let c0_i32_242 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_241 : BitVec 32 := 1#32
  let v317 : BitVec 32 := Scalar.muli v4 c1_i32_241
  let v318 : BitVec 32 := Scalar.addi c0_i32_242 v317
  v318.toNat
def k0_dev8 (d0 : Dev nD) : Nat :=
  let c0_i32_252 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_251 : BitVec 32 := 1#32
  let v327 : BitVec 32 := Scalar.muli v7 c1_i32_251
  let v328 : BitVec 32 := Scalar.addi c0_i32_252 v327
  v328.toNat
def k0_off2 (d0 : Dev nD) (c3_i32 : BitVec 32) (c0_i32_310 : BitVec 32) : Fin 2 → Nat :=
  let c0_311 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v337 : BitVec 32 := Scalar.addi v2 c3_i32
  let c4_i32_257 : BitVec 32 := 4#32
  let v338 : BitVec 32 := Scalar.remsi v337 c4_i32_257
  let c512_i32_309 : BitVec 32 := 512#32
  let v395 : BitVec 32 := Scalar.muli v338 c512_i32_309
  let v396 : BitVec 32 := Scalar.addi v395 c0_i32_310
  let v397 : Index := Scalar.indexCast v396
  ![0, v397.toNat]
def k0_off3 (d0 : Dev nD) (c0_i32_313 : BitVec 32) (c0_i32_368 : BitVec 32) : Fin 2 → Nat :=
  let c0_369 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_312 : BitVec 32 := 1#32
  let v401 : BitVec 32 := Scalar.addi v2 c1_i32_312
  let v402 : BitVec 32 := Scalar.addi v401 c0_i32_313
  let c4_i32_314 : BitVec 32 := 4#32
  let v403 : BitVec 32 := Scalar.remsi v402 c4_i32_314
  let c512_i32_366 : BitVec 32 := 512#32
  let v460 : BitVec 32 := Scalar.muli v403 c512_i32_366
  let c256_i32_367 : BitVec 32 := 256#32
  let v461 : BitVec 32 := Scalar.addi v460 c256_i32_367
  let v462 : BitVec 32 := Scalar.addi v461 c0_i32_368
  let v463 : Index := Scalar.indexCast v462
  ![0, v463.toNat]
def k0_dev9 (d0 : Dev nD) : Nat :=
  let c0_i32_390 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_389 : BitVec 32 := 1#32
  let v479 : BitVec 32 := Scalar.muli v7 c1_i32_389
  let v480 : BitVec 32 := Scalar.addi c0_i32_390 v479
  v480.toNat
def k0_dev10 (d0 : Dev nD) : Nat :=
  let c0_i32_393 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_392 : BitVec 32 := 1#32
  let v481 : BitVec 32 := Scalar.muli v4 c1_i32_392
  let v482 : BitVec 32 := Scalar.addi c0_i32_393 v481
  v482.toNat
def k0_dev11 (d0 : Dev nD) : Nat :=
  let c0_i32_421 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_420 : BitVec 32 := 1#32
  let v497 : BitVec 32 := Scalar.muli v4 c1_i32_420
  let v498 : BitVec 32 := Scalar.addi c0_i32_421 v497
  v498.toNat
def k0_dev12 (d0 : Dev nD) : Nat :=
  let c0_i32_431 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_430 : BitVec 32 := 1#32
  let v507 : BitVec 32 := Scalar.muli v7 c1_i32_430
  let v508 : BitVec 32 := Scalar.addi c0_i32_431 v507
  v508.toNat
def k0_dev13 (d0 : Dev nD) : Nat :=
  let c0_i32_569 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_568 : BitVec 32 := 1#32
  let v659 : BitVec 32 := Scalar.muli v7 c1_i32_568
  let v660 : BitVec 32 := Scalar.addi c0_i32_569 v659
  v660.toNat
def k0_dev14 (d0 : Dev nD) : Nat :=
  let c0_i32_572 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_571 : BitVec 32 := 1#32
  let v661 : BitVec 32 := Scalar.muli v4 c1_i32_571
  let v662 : BitVec 32 := Scalar.addi c0_i32_572 v661
  v662.toNat
def k0_dev15 (d0 : Dev nD) : Nat :=
  let c0_i32_602 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_601 : BitVec 32 := 1#32
  let v679 : BitVec 32 := Scalar.muli v4 c1_i32_601
  let v680 : BitVec 32 := Scalar.addi c0_i32_602 v679
  v680.toNat
def k0_dev16 (d0 : Dev nD) : Nat :=
  let c0_i32_612 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_611 : BitVec 32 := 1#32
  let v689 : BitVec 32 := Scalar.muli v7 c1_i32_611
  let v690 : BitVec 32 := Scalar.addi c0_i32_612 v689
  v690.toNat
def k0_dev17 (d0 : Dev nD) : Nat :=
  let c0_i32_750 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_749 : BitVec 32 := 1#32
  let v841 : BitVec 32 := Scalar.muli v7 c1_i32_749
  let v842 : BitVec 32 := Scalar.addi c0_i32_750 v841
  v842.toNat
def k0_dev18 (d0 : Dev nD) : Nat :=
  let c0_i32_753 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_752 : BitVec 32 := 1#32
  let v843 : BitVec 32 := Scalar.muli v4 c1_i32_752
  let v844 : BitVec 32 := Scalar.addi c0_i32_753 v843
  v844.toNat
def k0_dev19 (d0 : Dev nD) : Nat :=
  let c0_i32_782 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_781 : BitVec 32 := 1#32
  let v861 : BitVec 32 := Scalar.muli v4 c1_i32_781
  let v862 : BitVec 32 := Scalar.addi c0_i32_782 v861
  v862.toNat
def k0_dev20 (d0 : Dev nD) : Nat :=
  let c0_i32_792 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_791 : BitVec 32 := 1#32
  let v871 : BitVec 32 := Scalar.muli v7 c1_i32_791
  let v872 : BitVec 32 := Scalar.addi c0_i32_792 v871
  v872.toNat
def k0_dev21 (d0 : Dev nD) : Nat :=
  let c0_i32_1205 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1199 : BitVec 32 := 1#32
  let v1319 : BitVec 32 := Scalar.addi v2 c1_i32_1199
  let c4_i32_1200 : BitVec 32 := 4#32
  let v1320 : BitVec 32 := Scalar.remsi v1319 c4_i32_1200
  let c1_i32_1204 : BitVec 32 := 1#32
  let v1321 : BitVec 32 := Scalar.muli v1320 c1_i32_1204
  let v1322 : BitVec 32 := Scalar.addi c0_i32_1205 v1321
  v1322.toNat
def k0_dev22 (d0 : Dev nD) : Nat :=
  let c0_i32_1214 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_1208 : BitVec 32 := 2#32
  let v1329 : BitVec 32 := Scalar.addi v2 c2_i32_1208
  let c4_i32_1209 : BitVec 32 := 4#32
  let v1330 : BitVec 32 := Scalar.remsi v1329 c4_i32_1209
  let c1_i32_1213 : BitVec 32 := 1#32
  let v1331 : BitVec 32 := Scalar.muli v1330 c1_i32_1213
  let v1332 : BitVec 32 := Scalar.addi c0_i32_1214 v1331
  v1332.toNat
def k0_dev23 (d0 : Dev nD) : Nat :=
  let c0_i32_1223 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_1217 : BitVec 32 := 3#32
  let v1339 : BitVec 32 := Scalar.addi v2 c3_i32_1217
  let c4_i32_1218 : BitVec 32 := 4#32
  let v1340 : BitVec 32 := Scalar.remsi v1339 c4_i32_1218
  let c1_i32_1222 : BitVec 32 := 1#32
  let v1341 : BitVec 32 := Scalar.muli v1340 c1_i32_1222
  let v1342 : BitVec 32 := Scalar.addi c0_i32_1223 v1341
  v1342.toNat
def k0_off4 (d0 : Dev nD) (c1_i32_1252 : BitVec 32) : Fin 2 → Nat :=
  let c0_1255 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1374 : BitVec 32 := Scalar.addi v2 c1_i32_1252
  let c4_i32_1253 : BitVec 32 := 4#32
  let v1375 : BitVec 32 := Scalar.remsi v1374 c4_i32_1253
  let c512_i32_1254 : BitVec 32 := 512#32
  let v1376 : BitVec 32 := Scalar.muli v1375 c512_i32_1254
  let v1377 : Index := Scalar.indexCast v1376
  ![0, v1377.toNat]
def k0_off5 (d0 : Dev nD) (c1_i32_1252 : BitVec 32) : Fin 2 → Nat :=
  let c0_i32_1268 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1374 : BitVec 32 := Scalar.addi v2 c1_i32_1252
  let c4_i32_1253 : BitVec 32 := 4#32
  let v1375 : BitVec 32 := Scalar.remsi v1374 c4_i32_1253
  let c512_i32_1260 : BitVec 32 := 512#32
  let v1392 : BitVec 32 := Scalar.muli v1375 c512_i32_1260
  ![0, v1392.toNat]
def k0_dev24 (d0 : Dev nD) : Nat :=
  let c0_i32_1265 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1252 : BitVec 32 := 1#32
  let v1374 : BitVec 32 := Scalar.addi v2 c1_i32_1252
  let c4_i32_1253 : BitVec 32 := 4#32
  let v1375 : BitVec 32 := Scalar.remsi v1374 c4_i32_1253
  let c1_i32_1264 : BitVec 32 := 1#32
  let v1393 : BitVec 32 := Scalar.muli v1375 c1_i32_1264
  let v1394 : BitVec 32 := Scalar.addi c0_i32_1265 v1393
  v1394.toNat
def k0_dev25 (d0 : Dev nD) : Nat :=
  let c0_i32_1282 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_1269 : BitVec 32 := 2#32
  let v1402 : BitVec 32 := Scalar.addi v2 c2_i32_1269
  let c4_i32_1270 : BitVec 32 := 4#32
  let v1403 : BitVec 32 := Scalar.remsi v1402 c4_i32_1270
  let c1_i32_1281 : BitVec 32 := 1#32
  let v1421 : BitVec 32 := Scalar.muli v1403 c1_i32_1281
  let v1422 : BitVec 32 := Scalar.addi c0_i32_1282 v1421
  v1422.toNat
def k0_dev26 (d0 : Dev nD) : Nat :=
  let c0_i32_1299 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_1286 : BitVec 32 := 3#32
  let v1430 : BitVec 32 := Scalar.addi v2 c3_i32_1286
  let c4_i32_1287 : BitVec 32 := 4#32
  let v1431 : BitVec 32 := Scalar.remsi v1430 c4_i32_1287
  let c1_i32_1298 : BitVec 32 := 1#32
  let v1449 : BitVec 32 := Scalar.muli v1431 c1_i32_1298
  let v1450 : BitVec 32 := Scalar.addi c0_i32_1299 v1449
  v1450.toNat
def k0_off6 (d0 : Dev nD) : Fin 2 → Nat :=
  let c0_1304 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_1303 : BitVec 32 := 512#32
  let v1458 : BitVec 32 := Scalar.muli v2 c512_i32_1303
  let v1459 : Index := Scalar.indexCast v1458
  ![0, v1459.toNat]
def k0_off7 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32 : BitVec 32 := 1024#32
  let v1470 : BitVec 32 := Scalar.muli v2 c1024_i32
  let v1471 : Index := Scalar.indexCast v1470
  let c0_1307 : Index := 0#32
  ![v1471.toNat, 0]
def k0_off8 (d0 : Dev nD) (c0_i32_1332 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1494 : BitVec 32 := Scalar.addi v2 c0_i32_1332
  let c1_i32_1333 : BitVec 32 := 1#32
  let v1495 : BitVec 32 := Scalar.addi v1494 c1_i32_1333
  let c4_i32_1334 : BitVec 32 := 4#32
  let v1496 : BitVec 32 := Scalar.remsi v1495 c4_i32_1334
  let c1024_i32_1338 : BitVec 32 := 1024#32
  let v1502 : BitVec 32 := Scalar.muli v1496 c1024_i32_1338
  let v1503 : Index := Scalar.indexCast v1502
  let c0_1339 : Index := 0#32
  ![v1503.toNat, 0]
abbrev stage0_0 : Fin 1 → Memref sig .tc .vmem S1024x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S_, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S4096x2048, .f32⟩
  | .hbm, ⟨18, _⟩ => ⟨S4096x2048, .f32⟩
  | .hbm, ⟨19, _⟩ => ⟨S_, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_cst_3 : Ref sig .tc := ⟨.hbm, 15, rfl⟩
abbrev main_call1_v0 : Ref sig .tc := ⟨.hbm, 16, rfl⟩
abbrev main_call1_v1 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩

abbrev nD : Nat := 1
abbrev τ : Topo := Topo.v7x

variable {F : FTy → Type} [FloatOps F]
-- ==== Proof.Prog.lean ====
/-
  THE KERNEL'S BODY, STAGE BY STAGE.

  `cc0_body` is printed as one long sequence of memory operations. Here the same sequence is written as a handful of
  stages, each a program transformer "do this, then go on with `k`": a barrier, the ring sends, the blocked product
  (`gemm`), a step of the ring, the exchange of the local maxima, the quantisation and the all-to-all. `body_eq` says
  the printed body IS this program, by definitional unfolding, so that each stage is proved once.
-/
module

public import proofs.«01_k».proof.Proof.Gen.KernelIdeal.Launch
public import proofs.«01_k».proof.Proof.Gen.KernelIdeal.Points
public import Idealize.ShloMosaic.Lib.Pipeline.Regions

@[expose] public section

noncomputable section

namespace Cert.KernelIdeal.Ring

open Idealize.ShloMosaic Idealize.ShloMosaic.TcCoe
open Idealize.SL.Sem
open Cert.KernelIdeal.Gen

variable {F : FTy → Type} [FloatOps F]

/-- The body's programs. -/
abbrev PR (F : FTy → Type) := Prog (TpuEff nD τ sig (Elt F) Λ₀ .tc) PUnit

/-! ## Buffers, slots and semaphores -/

/-- This device's rows of `x`. -/
abbrev xM : Memref sig .tc .vmem S1024x4096 .f32 := Memref.whole cc0_stg0_0
/-- This device's columns of `w`. -/
abbrev wM : Memref sig .tc .vmem S4096x512 .f32 := Memref.whole cc0_stg1_0
/-- The result. -/
abbrev oM : Memref sig .tc .vmem S4096x512 .f32 := Memref.whole cc0_stg2_0
/-- The narrowed copy of `w`. -/
abbrev hM : Memref sig .tc .vmem S4096x512 .bf16 := Memref.whole cc0_scratch0
/-- The slots of the clockwise ring. -/
abbrev rM : Memref sig .tc .vmem S3x4096x128 .bf16 := Memref.whole cc0_scratch1
/-- The slots of the counterclockwise ring. -/
abbrev lM : Memref sig .tc .vmem S3x4096x128 .bf16 := Memref.whole cc0_scratch2
/-- The products after the relu. -/
abbrev yM : Memref sig .tc .vmem S1024x2048 .f32 := Memref.whole cc0_scratch3
/-- The quantised products. -/
abbrev qM : Memref sig .tc .vmem S1024x2048 .i8 := Memref.whole cc0_scratch4
/-- The slots of the all-to-all. -/
abbrev aM : Memref sig .tc .vmem S3x1024x512 .i8 := Memref.whole cc0_scratch5
/-- The local maximum. -/
abbrev mM : Memref sig .tc .vmem S8x128 .f32 := Memref.whole cc0_scratch6
/-- The slots of the other devices' maxima. -/
abbrev gM : Memref sig .tc .vmem S3x8x128 .f32 := Memref.whole cc0_scratch7

/-- Column block `j` lies within the narrowed weights. -/
theorem wCols_inb (j : Fin 4) : ∀ a, (![0, 128 * j.val] : Fin 2 → ℕ) a + S4096x128.size a ≤ S4096x512.size a := by
  revert j; decide
/-- A column block of the narrowed weights covers whole words. -/
theorem wCols_words : ∀ j : Fin 4, (Rect.unit (s := S4096x512) ![0, 128 * j.val] S4096x128.size (wCols_inb j)).WholeWords (EltTy.packing .bf16) := by
  decide
/-- Slot `s` lies within its direction's buffer. -/
theorem slot_inb (s : Fin 3) : ∀ a, (![s.val, 0, 0] : Fin 3 → ℕ) a + S1x4096x128.size a ≤ S3x4096x128.size a := by
  revert s; decide
/-- A slot of the ring covers whole words. -/
theorem slot_words : ∀ s : Fin 3, (Rect.unit (s := S3x4096x128) ![s.val, 0, 0] S1x4096x128.size (slot_inb s)).WholeWords (EltTy.packing .bf16) := by
  decide
/-- Slot `s` lies within the buffer of the tiles. -/
theorem aSlot_inb (s : Fin 3) : ∀ a, (![s.val, 0, 0] : Fin 3 → ℕ) a + S1x1024x512.size a ≤ S3x1024x512.size a := by
  revert s; decide
/-- A slot of the tiles covers whole words. -/
theorem aSlot_words : ∀ s : Fin 3, (Rect.unit (s := S3x1024x512) ![s.val, 0, 0] S1x1024x512.size (aSlot_inb s)).WholeWords (EltTy.packing .i8) := by
  decide
/-- Slot `s` lies within the buffer of the maxima. -/
theorem gSlot_inb (s : Fin 3) : ∀ a, (![s.val, 0, 0] : Fin 3 → ℕ) a + S1x8x128.size a ≤ S3x8x128.size a := by
  revert s; decide
/-- Block `b` of 512 columns lies within `x`. -/
theorem xBlk_inb (b : Fin 8) : ∀ a, (![0, 512 * b.val] : Fin 2 → ℕ) a + S1024x512.size a ≤ S1024x4096.size a := by
  revert b; decide
/-- Block `b` of rows of column block `j` lies within `w`. -/
theorem wBlk_inb (b : Fin 8) (j : Fin 4) : ∀ a, (![512 * b.val, 128 * j.val] : Fin 2 → ℕ) a + S512x128.size a ≤ S4096x512.size a := by
  revert b j; decide
/-- Block `b` of rows of slot `s` lies within its direction's buffer. -/
theorem sBlk_inb (s : Fin 3) (b : Fin 8) : ∀ a, (![s.val, 512 * b.val, 0] : Fin 3 → ℕ) a + S1x512x128.size a ≤ S3x4096x128.size a := by
  revert b s; decide
/-- Number `m` lies within a row of six semaphores. -/
theorem sem6_inb (m : Fin 6) : ∀ a, (![m.val] : Fin 1 → ℕ) a + S1.size a ≤ S6.size a := by
  revert m; decide
/-- Number `s` lies within a row of three semaphores. -/
theorem sem3_inb (s : Fin 3) : ∀ a, (![s.val] : Fin 1 → ℕ) a + S1.size a ≤ S3.size a := by
  revert s; decide

/-- Columns `128j …` of the narrowed `w`. -/
def wCols (j : Fin 4) : Memref sig .tc .vmem S4096x128 .bf16 :=
  hM.slice (Rect.unit (s := S4096x512) ![0, 128 * j.val] S4096x128.size (wCols_inb j)) (fun _ => rfl)
/-- The buffer of a direction's slots: clockwise (`true`) or counterclockwise. -/
def rings : Bool → Memref sig .tc .vmem S3x4096x128 .bf16
  | true => rM
  | false => lM
/-- The buffer of either direction is viewed whole. -/
theorem rings_whole : ∀ d, (rings d).IsWhole
  | true => Memref.isWhole_whole _
  | false => Memref.isWhole_whole _
/-- Slot `s` of a direction. -/
def slot (d : Bool) (s : Fin 3) : Memref sig .tc .vmem S4096x128 .bf16 :=
  ((rings d).slice (Rect.unit (s := S3x4096x128) ![s.val, 0, 0] S1x4096x128.size (slot_inb s)) (fun _ => rfl)).squeeze
    S4096x128 squeezes_S1x4096x128_S4096x128
/-- Slot `s` of the all-to-all. -/
def aSlot (s : Fin 3) : Memref sig .tc .vmem S1024x512 .i8 :=
  (aM.slice (Rect.unit (s := S3x1024x512) ![s.val, 0, 0] S1x1024x512.size (aSlot_inb s)) (fun _ => rfl)).squeeze
    S1024x512 squeezes_S1x1024x512_S1024x512
/-- Slot `s` of the maxima. -/
def gSlot (s : Fin 3) : Memref sig .tc .vmem S8x128 .f32 :=
  (gM.slice (Rect.unit (s := S3x8x128) ![s.val, 0, 0] S1x8x128.size (gSlot_inb s)) (fun _ => rfl)).squeeze
    S8x128 squeezes_S1x8x128_S8x128
/-- The quantised columns at an offset. -/
def qCols (off : Fin 2 → ℕ) (h : ∀ a, off a + S1024x512.size a ≤ S1024x2048.size a) : Memref sig .tc .vmem S1024x512 .i8 :=
  qM.slice (Rect.unit (s := S1024x2048) off S1024x512.size h) (fun _ => rfl)

/-- The source's view is word exact. -/
theorem wCols_exact (j : Fin 4) : (wCols j).view.WordExact := (Memref.isWhole_whole _).wordExact_slice rfl _ (wCols_words j)
/-- A slot's view is word exact. -/
theorem slot_exact (d : Bool) (s : Fin 3) : (slot d s).view.WordExact := by
  unfold slot; exact ((rings_whole d).wordExact_slice rfl _ (slot_words s)).reshape _ _
/-- A slot of the all-to-all is word exact. -/
theorem aSlot_exact (s : Fin 3) : (aSlot s).view.WordExact := by
  unfold aSlot; exact ((Memref.isWhole_whole _).wordExact_slice rfl _ (aSlot_words s)).reshape _ _
/-- A slot of the maxima is word exact. -/
theorem gSlot_exact (s : Fin 3) : (gSlot s).view.WordExact := by
  unfold gSlot; exact (View.wordExact_bits rfl).reshape _ _
/-- Quantised columns whose words are whole are word exact. -/
theorem qCols_exact (off : Fin 2 → ℕ) (h) (hw : (Rect.unit (s := S1024x2048) off S1024x512.size h).WholeWords (EltTy.packing .i8)) :
    (qCols off h).view.WordExact := (Memref.isWhole_whole _).wordExact_slice rfl _ hw

/-- Entry `m` of an array of six semaphores. -/
def sem6 (a : DmaSems sig S6) (m : Fin 6) : DmaSem sig :=
  ((a.slice (Rect.unit (s := S6) ![m.val] S1.size (sem6_inb m))).squeeze S_ squeezes_S1_S_).sem
/-- Entry `s` of an array of three semaphores. -/
def sem3 (a : DmaSems sig S3) (s : Fin 3) : DmaSem sig :=
  ((a.slice (Rect.unit (s := S3) ![s.val] S1.size (sem3_inb s))).squeeze S_ squeezes_S1_S_).sem

/-- The slot message `m` travels to. -/
def sl (m : Fin 6) : Fin 3 := ⟨m.val % 3, Nat.mod_lt _ (by decide)⟩
/-- The slot message `m ≥ 2` was received in before it is sent on. -/
def sl' (m : Fin 6) : Fin 3 := ⟨(m.val + 1) % 3, Nat.mod_lt _ (by decide)⟩
/-- The columns of a first message, by direction. -/
def colOf (d : Bool) (m : Fin 6) : Fin 4 := ⟨(bif d then 0 else 2) + m.val % 2, by cases d <;> simp <;> omega⟩

/-- Departure semaphores of a direction. -/
def sendS : Bool → Fin 6 → DmaSem sig
  | true, m => sem6 cc0_scratch8 m
  | false, m => sem6 cc0_scratch10 m
/-- Arrival semaphores of a direction. -/
def recvS : Bool → Fin 3 → DmaSem sig
  | true, s => sem3 cc0_scratch9 s
  | false, s => sem3 cc0_scratch11 s
/-- Credit semaphores of a direction. -/
def credS : Bool → Sem sig
  | true => cc0_scratch16.sem
  | false => cc0_scratch17.sem
/-- The barrier. -/
def barS : Sem sig := (SemArray.scalar (sig.barrier 0 rfl) : Sems sig S_).sem

/-- Where message `m` is sent from: the narrowed `w`, or the slot it was received in. -/
def srcOf (d : Bool) (m : Fin 6) : Memref sig .tc .vmem S4096x128 .bf16 :=
  if m.val < 2 then wCols (colOf d m) else slot d (sl' m)
/-- The source's view is word exact. -/
theorem srcOf_exact (d : Bool) (m : Fin 6) : (srcOf d m).view.WordExact := by
  unfold srcOf; split
  · exact wCols_exact _
  · exact slot_exact _ _

/-! ## Values -/

/-- `w` narrowed. -/
def half (w : Vec F S4096x512 .f32) : FVec F S4096x512 .bf16 :=
  shapeCast S4096x512 (truncf .bf16 (shapeCast S4096x512 w shapeCasts_S4096x512_S4096x512) bitsLt_bf16_f32) shapeCasts_S4096x512_S4096x512
/-- One more term of a product whose right operand is `w` itself. -/
def macW (acc : FVec F S1024x128 .f32) (x : Vec F S1024x512 .f32) (w : Vec F S512x128 .f32) : FVec F S1024x128 .f32 :=
  addf acc (matmul dot_S1024x512_S512x128_S1024x128_1_0_0_1_n_n none (shapeCast S1024x512 x shapeCasts_S1024x512_S1024x512)
    (shapeCast S512x128 w shapeCasts_S512x128_S512x128) (constant S1024x128 .f32 0x00000000#32))
/-- One more term of a product whose right operand is a received slot. -/
def macS (acc : FVec F S1024x128 .f32) (x : Vec F S1024x512 .f32) (w : Vec F S1x512x128 .bf16) : FVec F S1024x128 .f32 :=
  addf acc (matmul dot_S1024x512_S512x128_S1024x128_1_0_0_1_n_n none (shapeCast S1024x512 x shapeCasts_S1024x512_S1024x512)
    (shapeCast S512x128 w shapeCasts_S1x512x128_S512x128) (constant S1024x128 .f32 0x00000000#32))
/-- The product before its first term. -/
def acc0 : FVec F S1024x128 .f32 := broadcast S1024x128 (Scalar.ofBits .f32 0x00000000#32)
/-- The relu. -/
def relu (a : FVec F S1024x128 .f32) : FVec F S1024x128 .f32 :=
  maximumf a (broadcast S1024x128 (Scalar.ofBits .f32 0x00000000#32))
/-- The running maximum, after one more block. -/
def maxB (l : F .f32) (y : FVec F S1024x128 .f32) : F .f32 :=
  Scalar.maximumf l (extractAt ![0, 0, 0] (shapeCast S1x1x1 (multiReduction .maximumf [1, 2] S1
    (shapeCast S1x1024x128 y shapeCasts_S1024x128_S1x1024x128) 0xFF800000#32 reduces_S1x1024x128_S1 (.inl rfl) rfl)
    shapeCasts_S1_S1x1x1) inpos_S1x1x1_p0_0_0)
/-- The scale: the largest of all maxima over 127. -/
def scaleOf (l : F .f32) (g : Vec F S3x8x128 .f32) : F .f32 :=
  Scalar.divf (Scalar.maximumf l (extractAt ![0, 0, 0, 0] (shapeCast S1x1x1x1 (multiReduction .maximumf [1, 2, 3] S1
    (shapeCast S1x3x8x128 g shapeCasts_S3x8x128_S1x3x8x128) 0xFF800000#32 reduces_S1x3x8x128_S1 (.inl rfl) rfl)
    shapeCasts_S1_S1x1x1x1) inpos_S1x1x1x1_p0_0_0_0)) (Scalar.ofBits .f32 0x42FE0000#32)
/-- The clipped, rounded tile. -/
def quant (sc : F .f32) (t : Vec F S1024x512 .f32) : FVec F S1024x512 .f32 :=
  minimumf (broadcast S1024x512 (Scalar.ofBits .f32 0x42FE0000#32))
    (maximumf (broadcast S1024x512 (Scalar.ofBits .f32 0xC2FE0000#32)) (roundeven (divf t (broadcast S1024x512 sc))))
/-- The tile as it travels. -/
def quant8 (sc : F .f32) (t : Vec F S1024x512 .f32) : IVec S1024x512 8 :=
  shapeCast S1024x512 (fptosi 8 (quant sc t)) shapeCasts_S1024x512_S1024x512
/-- The tile scaled back. -/
def deq (sc : F .f32) (t : Vec F S1024x512 .f32) : FVec F S1024x512 .f32 := mulf (quant sc t) (broadcast S1024x512 sc)
/-- A received tile scaled back. -/
def deq8 (sc : F .f32) (t : Vec F S1x1024x512 .i8) : FVec F S1024x512 .f32 :=
  mulf (sitofp .f32 (shapeCast S1024x512 t shapeCasts_S1x1024x512_S1024x512)) (broadcast S1024x512 sc)

/-! ## Stages -/

/-- Send message `m` of direction `d` to `dev`. -/
def ringSend (d : Bool) (m : Fin 6) (dev : Dev nD) (k : PR F) : PR F :=
  .op (.enqueueDma (srcOf d m) (.remote (Dev.tc dev) (slot d (sl m)) (.dma (sendS d m))) (.dma (recvS d (sl m)))
    (srcOf_exact d m) (slot_exact d (sl m)) ⟨⟨rfl, Or.inl rfl⟩, trivial⟩) fun _ => k
/-- Wait for message `m` of direction `d` to arrive. -/
def ringRecv (d : Bool) (m : Fin 6) (k : PR F) : PR F :=
  .op (.waitDma2 (recvS d (sl m)) (srcOf d m) (slot d (sl m)) (srcOf_exact d m) (slot_exact d (sl m))) fun _ => k
/-- Wait for message `m` of direction `d` to have left. -/
def ringDone (d : Bool) (m : Fin 6) (k : PR F) : PR F :=
  .op (.waitDma2 (sendS d m) (slot d (sl m)) (srcOf d m) (slot_exact d (sl m)) (srcOf_exact d m)) fun _ => k
/-- Signal one unit on `sm` of device `dev`. -/
def sig1 (dev : Dev nD) (sm : Sem sig) (k : PR F) : PR F := .op (.semSignal (dev, .tc) sm (1#32 : BitVec 32).toInt) fun _ => k
/-- Wait for one unit of credit. -/
def wait1 (sm : Sem sig) (n : BitVec 32) (k : PR F) : PR F := .op (.semWait sm n.toInt) fun _ => k

/-- Store a block of products. -/
def storeY (off : Fin 2 → ℕ) (h : ∀ a, off a + S1024x128.size a ≤ S1024x2048.size a) (y : FVec F S1024x128 .f32) (k : PR F) : PR F :=
  .op (.load yM (Rect.unit (s := S1024x2048) off S1024x128.size h).toLoadRect (View.loadsAt_vmem h_S1024x128)) fun _ =>
  .op (.store yM (Rect.unit (s := S1024x2048) off S1024x128.size h) (shapeCast S1024x128 y shapeCasts_S1024x128_S1024x128)
    Finset.univ (View.stores_vmem_bits_univ h_S1024x128 rfl) (.inl rfl)) fun _ => k

/-- The blocked product with columns `128j …` of `w`. -/
def gemmW (j : Fin 4) : List (Fin 8) → FVec F S1024x128 .f32 → (FVec F S1024x128 .f32 → PR F) → PR F
  | [], acc, k => k acc
  | b :: l, acc, k =>
    .op (.load xM (Rect.unit (s := S1024x4096) ![0, 512 * b.val] S1024x512.size (xBlk_inb b)).toLoadRect (View.loadsAt_vmem h_S1024x512)) fun x =>
    .op (.load wM (Rect.unit (s := S4096x512) ![512 * b.val, 128 * j.val] S512x128.size (wBlk_inb b j)).toLoadRect (View.loadsAt_vmem h_S512x128)) fun w =>
    gemmW j l (macW acc x w) k
/-- The blocked product with a received slot. -/
def gemmS (d : Bool) (s : Fin 3) : List (Fin 8) → FVec F S1024x128 .f32 → (FVec F S1024x128 .f32 → PR F) → PR F
  | [], acc, k => k acc
  | b :: l, acc, k =>
    .op (.load xM (Rect.unit (s := S1024x4096) ![0, 512 * b.val] S1024x512.size (xBlk_inb b)).toLoadRect (View.loadsAt_vmem h_S1024x512)) fun x =>
    .op (.load (rings d) (Rect.unit (s := S3x4096x128) ![s.val, 512 * b.val, 0] S1x512x128.size (sBlk_inb s b)).toLoadRect (View.loadsAt_vmem h_S1x512x128)) fun w =>
    gemmS d s l (macS acc x w) k

/-- The eight blocks of the contraction. -/
abbrev blks : List (Fin 8) := [0, 1, 2, 3, 4, 5, 6, 7]

/-- One block of products with this device's own columns: product, relu, store; the running maximum goes on. -/
def ownBlk (d0 : Dev nD) (j : Fin 4) (l : F .f32) (k : F .f32 → PR F) : PR F :=
  gemmW j blks acc0 fun a => storeY (k0_off1 d0 (BitVec.ofNat 32 (128 * j.val))) (k0_off1_inb d0 j) (relu a) (k (maxB l (relu a)))

/-- One block of products with a received slot. -/
def slotBlk (d : Bool) (s : Fin 3) (off : Fin 2 → ℕ) (h : ∀ a, off a + S1024x128.size a ≤ S1024x2048.size a) (l : F .f32)
    (k : F .f32 → PR F) : PR F :=
  gemmS d s blks acc0 fun a => storeY off h (relu a) (k (maxB l (relu a)))

/-- The two blocks of step `2h + b`. -/
def stepBlks (d0 : Dev nD) (m : Fin 6) (h : Fin 3) (b : Fin 2) (l : F .f32) (k : F .f32 → PR F) : PR F :=
  slotBlk true (sl m) (k0_off2 d0 (BitVec.ofNat 32 (1 + (2 - h.val))) (BitVec.ofNat 32 (128 * b.val))) (k0_off2_inb d0 ⟨2 - h.val, by omega⟩ b) l fun l =>
  slotBlk false (sl m) (k0_off3 d0 (BitVec.ofNat 32 h.val) (BitVec.ofNat 32 (128 * b.val))) (k0_off3_inb d0 h b) l k

/-- Send the maximum to `dev`'s slot `2 − d`. -/
def maxSend (d : Fin 3) (dev : Dev nD) (k : PR F) : PR F :=
  .op (.enqueueDma mM (.remote (Dev.tc dev) (gSlot d.rev) (.dma (sem3 cc0_scratch14 d))) (.dma (sem3 cc0_scratch15 d.rev))
    (Memref.isWhole_whole _).wordExact (gSlot_exact d.rev) ⟨⟨rfl, Or.inl rfl⟩, trivial⟩) fun _ => k
/-- Wait for a maximum to arrive. -/
def maxRecv (d : Fin 3) (k : PR F) : PR F :=
  .op (.waitDma2 (sem3 cc0_scratch15 d.rev) mM (gSlot d.rev) (Memref.isWhole_whole _).wordExact (gSlot_exact d.rev)) fun _ => k
/-- Wait for a maximum to have left. -/
def maxDone (d : Fin 3) (k : PR F) : PR F :=
  .op (.waitDma2 (sem3 cc0_scratch14 d) (gSlot d.rev) mM (gSlot_exact d.rev) (Memref.isWhole_whole _).wordExact) fun _ => k

/-- Columns of the tile for the device `d + 1` to the right. -/
abbrev qT (d0 : Dev nD) (d : Fin 3) : Memref sig .tc .vmem S1024x512 .i8 :=
  qCols (k0_off5 d0 (BitVec.ofNat 32 (1 + d.val))) (k0_off5_inb d0 d)
/-- The columns of a tile to be sent cover whole words. -/
theorem qT_exact (d0 : Dev nD) (d : Fin 3) : (qT d0 d).view.WordExact := qCols_exact _ _ (k0_off5_wordsi8 d0 d)

/-- Quantise a tile, then send it. -/
def tileSend (d0 : Dev nD) (sc : F .f32) (d : Fin 3) (dev : Dev nD) (k : PR F) : PR F :=
  .op (.load yM (Rect.unit (s := S1024x2048) (k0_off4 d0 (BitVec.ofNat 32 (1 + d.val))) S1024x512.size (k0_off4_inb d0 d)).toLoadRect (View.loadsAt_vmem h_S1024x512)) fun t =>
  .op (.load qM (Rect.unit (s := S1024x2048) (k0_off4 d0 (BitVec.ofNat 32 (1 + d.val))) S1024x512.size (k0_off4_inb d0 d)).toLoadRect (View.loadsAt_vmem h_S1024x512)) fun _ =>
  .op (.store qM (Rect.unit (s := S1024x2048) (k0_off4 d0 (BitVec.ofNat 32 (1 + d.val))) S1024x512.size (k0_off4_inb d0 d)) (quant8 sc t) Finset.univ
    (View.stores_vmem h_S1024x512 ((Memref.isWhole_whole _).storeExact_slice rfl _ (k0_off4_packedi8 d0 d)) (fun _ => rfl)) (.inl rfl)) fun _ =>
  .op (.enqueueDma (qT d0 d) (.remote (Dev.tc dev) (aSlot d.rev) (.dma (sem3 cc0_scratch12 d))) (.dma (sem3 cc0_scratch13 d.rev))
    (qT_exact d0 d) (aSlot_exact d.rev) ⟨⟨rfl, Or.inl rfl⟩, trivial⟩) fun _ => k
/-- Wait for a tile to arrive. -/
def tileRecv (d0 : Dev nD) (d : Fin 3) (k : PR F) : PR F :=
  .op (.waitDma2 (sem3 cc0_scratch13 d.rev) (qT d0 d) (aSlot d.rev) (qT_exact d0 d) (aSlot_exact d.rev)) fun _ => k
/-- Wait for a tile to have left. -/
def tileDone (d0 : Dev nD) (d : Fin 3) (k : PR F) : PR F :=
  .op (.waitDma2 (sem3 cc0_scratch12 d) (aSlot d.rev) (qT d0 d) (aSlot_exact d.rev) (qT_exact d0 d)) fun _ => k

/-- Store rows of the result. -/
def storeO (off : Fin 2 → ℕ) (h : ∀ a, off a + S1024x512.size a ≤ S4096x512.size a) (v : FVec F S1024x512 .f32) (k : PR F) : PR F :=
  .op (.load oM (Rect.unit (s := S4096x512) off S1024x512.size h).toLoadRect (View.loadsAt_vmem h_S1024x512)) fun _ =>
  .op (.store oM (Rect.unit (s := S4096x512) off S1024x512.size h) v Finset.univ (View.stores_vmem_bits_univ h_S1024x512 rfl) (.inl rfl)) fun _ => k
/-- This device's own tile. -/
def ownTile (d0 : Dev nD) (sc : F .f32) (k : PR F) : PR F :=
  .op (.load yM (Rect.unit (s := S1024x2048) (k0_off6 d0) S1024x512.size (k0_off6_inb d0)).toLoadRect (View.loadsAt_vmem h_S1024x512)) fun t =>
  storeO (k0_off7 d0) (k0_off7_inb d0) (deq sc t) k
/-- A received tile. -/
def slotTile (d0 : Dev nD) (sc : F .f32) (s : Fin 3) (k : PR F) : PR F :=
  .op (.load aM (Rect.unit (s := S3x1024x512) ![s.val, 0, 0] S1x1024x512.size (aSlot_inb s)).toLoadRect (View.loadsAt_vmem h_S1x1024x512)) fun t =>
  storeO (k0_off8 d0 (BitVec.ofNat 32 s.val)) (k0_off8_inb d0 s) (deq8 sc t) k

/-- The whole of `w` lies within `w`. -/
theorem inbH : ∀ a, (![0, 0] : Fin 2 → ℕ) a + S4096x512.size a ≤ S4096x512.size a := inb_S4096x512_S4096x512_0_0

/-- Narrow `w`. -/
def narrow (k : PR F) : PR F :=
  .op (.load wM (Rect.unit (s := S4096x512) ![0, 0] S4096x512.size inbH).toLoadRect (View.loadsAt_vmem h_S4096x512)) fun w =>
  .op (.load hM (Rect.unit (s := S4096x512) ![0, 0] S4096x512.size inbH).toLoadRect (View.loadsAt_vmem h_S4096x512)) fun _ =>
  .op (.store hM (Rect.unit (s := S4096x512) ![0, 0] S4096x512.size inbH) (half w) Finset.univ
    (View.stores_vmem h_S4096x512 ((Memref.isWhole_whole _).storeExact_slice rfl _ packedbf16_S4096x512_S4096x512_0_0) (fun _ => rfl)) (.inl rfl)) fun _ => k

/-- Write the local maximum down. -/
def storeM (l : F .f32) (k : PR F) : PR F :=
  .op (.load mM (Rect.unit (s := S8x128) ![0, 0] S8x128.size inb_S8x128_S8x128_0_0).toLoadRect (View.loadsAt_vmem h_S8x128)) fun _ =>
  .op (.store mM (Rect.unit (s := S8x128) ![0, 0] S8x128.size inb_S8x128_S8x128_0_0) (shapeCast S8x128 (broadcast S8x128 l) shapeCasts_S8x128_S8x128) Finset.univ
    (View.stores_vmem_bits_univ h_S8x128 rfl) (.inl rfl)) fun _ => k

/-- Read the maxima that arrived. -/
def loadG (k : Vec F S3x8x128 .f32 → PR F) : PR F :=
  .op (.load gM (Rect.unit (s := S3x8x128) ![0, 0, 0] S3x8x128.size inb_S3x8x128_S3x8x128_0_0_0).toLoadRect (View.loadsAt_vmem h_S3x8x128)) k

/-- The end: wait for everything sent at the start and at the end to have left. -/
def tailWaits (d0 : Dev nD) : PR F :=
  ringDone true 0 <| ringDone false 0 <| ringDone true 1 <| ringDone false 1 <|
  maxDone 0 <| maxDone 1 <| maxDone 2 <| tileDone d0 0 <| tileDone d0 1 <| tileDone d0 2 <| .ret ⟨⟩

/-- From the local maximum on. -/
def second (d0 : Dev nD) (l : F .f32) : PR F :=
  storeM l <|
  maxSend 0 ⟨k0_dev21 d0, k0_dev21_lt d0⟩ <| maxSend 1 ⟨k0_dev22 d0, k0_dev22_lt d0⟩ <| maxSend 2 ⟨k0_dev23 d0, k0_dev23_lt d0⟩ <|
  maxRecv 0 <| maxRecv 1 <| maxRecv 2 <| loadG fun g =>
  tileSend d0 (scaleOf l g) 0 ⟨k0_dev24 d0, k0_dev24_lt d0⟩ <|
  tileSend d0 (scaleOf l g) 1 ⟨k0_dev25 d0, k0_dev25_lt d0⟩ <|
  tileSend d0 (scaleOf l g) 2 ⟨k0_dev26 d0, k0_dev26_lt d0⟩ <|
  ownTile d0 (scaleOf l g) <|
  tileRecv d0 0 <| tileRecv d0 1 <| tileRecv d0 2 <|
  slotTile d0 (scaleOf l g) 0 <| slotTile d0 (scaleOf l g) 1 <| slotTile d0 (scaleOf l g) 2 <|
  tailWaits d0

/-- The ring's six steps. -/
def steps (d0 : Dev nD) (l : F .f32) : PR F :=
  ringRecv true 0 <| ringRecv false 0 <|
  ringSend true 2 ⟨k0_dev7 d0, k0_dev7_lt d0⟩ <| ringSend false 2 ⟨k0_dev8 d0, k0_dev8_lt d0⟩ <|
  stepBlks d0 0 0 0 l fun l => ringDone true 2 <| ringDone false 2 <|
  sig1 ⟨k0_dev9 d0, k0_dev9_lt d0⟩ (credS true) <| sig1 ⟨k0_dev10 d0, k0_dev10_lt d0⟩ (credS false) <|
  ringRecv true 1 <| ringRecv false 1 <| wait1 (credS true) 1#32 <| wait1 (credS false) 1#32 <|
  ringSend true 3 ⟨k0_dev11 d0, k0_dev11_lt d0⟩ <| ringSend false 3 ⟨k0_dev12 d0, k0_dev12_lt d0⟩ <|
  stepBlks d0 1 0 1 l fun l => ringDone true 3 <| ringDone false 3 <|
  sig1 ⟨k0_dev13 d0, k0_dev13_lt d0⟩ (credS true) <| sig1 ⟨k0_dev14 d0, k0_dev14_lt d0⟩ (credS false) <|
  ringRecv true 2 <| ringRecv false 2 <| wait1 (credS true) 1#32 <| wait1 (credS false) 1#32 <|
  ringSend true 4 ⟨k0_dev15 d0, k0_dev15_lt d0⟩ <| ringSend false 4 ⟨k0_dev16 d0, k0_dev16_lt d0⟩ <|
  stepBlks d0 2 1 0 l fun l => ringDone true 4 <| ringDone false 4 <|
  sig1 ⟨k0_dev17 d0, k0_dev17_lt d0⟩ (credS true) <| sig1 ⟨k0_dev18 d0, k0_dev18_lt d0⟩ (credS false) <|
  ringRecv true 3 <| ringRecv false 3 <| wait1 (credS true) 1#32 <| wait1 (credS false) 1#32 <|
  ringSend true 5 ⟨k0_dev19 d0, k0_dev19_lt d0⟩ <| ringSend false 5 ⟨k0_dev20 d0, k0_dev20_lt d0⟩ <|
  stepBlks d0 3 1 1 l fun l => ringDone true 5 <| ringDone false 5 <|
  ringRecv true 4 <| ringRecv false 4 <| stepBlks d0 4 2 0 l fun l =>
  ringRecv true 5 <| ringRecv false 5 <| stepBlks d0 5 2 1 l fun l => second d0 l

/-- The body on device `d0`. -/
def bodyOn (d0 : Dev nD) : PR F :=
  sig1 ⟨k0_dev1 d0, k0_dev1_lt d0⟩ barS <| sig1 ⟨k0_dev2 d0, k0_dev2_lt d0⟩ barS <| wait1 barS 2#32 <|
  narrow <|
  ringSend true 0 ⟨k0_dev3 d0, k0_dev3_lt d0⟩ <| ringSend false 0 ⟨k0_dev4 d0, k0_dev4_lt d0⟩ <|
  ringSend true 1 ⟨k0_dev5 d0, k0_dev5_lt d0⟩ <| ringSend false 1 ⟨k0_dev6 d0, k0_dev6_lt d0⟩ <|
  ownBlk d0 0 (Scalar.ofBits .f32 0x00000000#32) fun l => ownBlk d0 1 l fun l => ownBlk d0 2 l fun l => ownBlk d0 3 l fun l =>
  steps d0 l

/-- The body: it reads its device, then runs `bodyOn` it. -/
def body : PR F := .op .deviceId fun d0 => bodyOn d0

set_option maxRecDepth 65536 in
/-- The printed body is the staged one. -/
theorem body_eq : bodyAt0 (F := F) t0_0 = body := by chain_rfl

end Cert.KernelIdeal.Ring

end
-- ==== Proof.Ties.lean ====
/-
  WHO TALKS TO WHOM.

  The devices stand in a ring of four. Every semaphore the kernel uses is a `Kind`; every payment a device makes on a
  semaphore (a signal, the arrival or the departure of a copy) is a `Due`. This file says, for each due, which
  device's semaphore it is paid on, how much, in which round of that semaphore, and at which level; and it computes the
  printed device numbers and offsets in these terms.
-/
module

public import proofs.«01_k».proof.Proof.Prog
public import Mathlib.Tactic.DeriveFintype

@[expose] public section

noncomputable section

namespace Cert.KernelIdeal.Ring

open Idealize.ShloMosaic Idealize.ShloMosaic.TcCoe
open Idealize.SL.Sem
open Cert.KernelIdeal.Gen

/-! ## The ring -/

/-- The device `k` places to the right. -/
def rot (k : ℕ) (c : Dev nD) : Dev nD := ⟨(c.val + k) % 4, Nat.mod_lt _ (by decide)⟩
/-- The next device of a direction: right for clockwise (`true`), left for counterclockwise. -/
def nx (d : Bool) (c : Dev nD) : Dev nD := bif d then rot 1 c else rot 3 c
/-- The device before. -/
abbrev pv (d : Bool) (c : Dev nD) : Dev nD := nx (!d) c
/-- The device whose columns message `m` of a direction brings to `c`. -/
def orig (d : Bool) (m : Fin 6) (c : Dev nD) : Dev nD := bif d then rot (3 - m.val / 2) c else rot (1 + m.val / 2) c

/-- The next of the device before is the device. -/
theorem nx_pv (d : Bool) (c : Dev nD) : nx d (pv d c) = c := by revert d c; decide
/-- The device before the next is the device. -/
theorem pv_nx (d : Bool) (c : Dev nD) : pv d (nx d c) = c := by revert d c; decide
/-- No message brings a device its own columns. -/
theorem orig_ne (d : Bool) (m : Fin 6) (c : Dev nD) : orig d m c ≠ c := by revert d m c; decide
/-- The first two messages bring the sender's own columns. -/
theorem orig_first (d : Bool) (m : Fin 6) (c : Dev nD) (h : m.val < 2) : orig d m (nx d c) = c := by
  revert d m c; decide
/-- A message sent on is the message two earlier at the sender. -/
theorem orig_next (d : Bool) (m : Fin 4) (c : Dev nD) :
    orig d ⟨m.val + 2, by omega⟩ (nx d c) = orig d ⟨m.val, by omega⟩ c := by revert d m c; decide
/-- A message sent on carries the same column block. -/
theorem colOf_next (d : Bool) (m : Fin 4) : colOf d ⟨m.val + 2, by omega⟩ = colOf d ⟨m.val, by omega⟩ := by
  revert d m; decide

/-! ## Semaphores -/

/-- The kernel's semaphores. -/
inductive Kind
  | bar | cred (d : Bool) | send (d : Bool) (m : Fin 6) | recv (d : Bool) (s : Fin 3)
  | mSend (e : Fin 3) | mRecv (s : Fin 3) | tSend (e : Fin 3) | tRecv (s : Fin 3)
  deriving DecidableEq, Fintype

/-- The semaphore of a kind. -/
@[reducible] def semOf : Kind → SemLoc sig
  | .bar => .reg barS
  | .cred d => .reg (credS d)
  | .send d m => .dma (sendS d m)
  | .recv d s => .dma (recvS d s)
  | .mSend e => .dma (sem3 cc0_scratch14 e)
  | .mRecv s => .dma (sem3 cc0_scratch15 s)
  | .tSend e => .dma (sem3 cc0_scratch12 e)
  | .tRecv s => .dma (sem3 cc0_scratch13 s)

/-- All kinds. -/
def allKinds : List Kind :=
  [.bar, .cred true, .cred false]
    ++ (List.finRange 6).map (.send true) ++ (List.finRange 6).map (.send false)
    ++ (List.finRange 3).map (.recv true) ++ (List.finRange 3).map (.recv false)
    ++ (List.finRange 3).map .mSend ++ (List.finRange 3).map .mRecv ++ (List.finRange 3).map .tSend ++ (List.finRange 3).map .tRecv

/-- The kind of a semaphore, if the kernel uses it. -/
def kindOf (g : SemLoc sig) : Option Kind := allKinds.find? fun k => semOf k = g

/-- The kind of a kind's semaphore is that kind. -/
theorem kindOf_semOf : ∀ k, kindOf (semOf k) = some k := by decide +kernel
/-- Different kinds have different semaphores. -/
theorem semOf_inj : Function.Injective semOf := fun a b h => by
  have := congrArg kindOf h; rw [kindOf_semOf, kindOf_semOf] at this; exact Option.some.inj this

/-- The semaphore of a kind on a device. -/
abbrev cell (c : Dev nD) (k : Kind) : GSem nD τ sig := ((c : Thread nD τ), semOf k)

/-- Different devices or kinds have different semaphores. -/
theorem cell_inj : Function.Injective fun p : Dev nD × Kind => cell p.1 p.2 := by
  rintro ⟨c, k⟩ ⟨c', k'⟩ h
  have h1 : c = c' := congrArg (fun g : GSem nD τ sig => g.1.1) h
  have h2 : k = k' := semOf_inj (congrArg Prod.snd h)
  rw [h1, h2]

/-- Units of a slot of the ring, -/
def NR : ℕ := (slot true 0).view.dmaCredit
/-- of a maximum, -/
def NM : ℕ := (gSlot 0).view.dmaCredit
/-- of a tile. -/
def NT : ℕ := (aSlot 0).view.dmaCredit
/-- A slot of the ring has at least one unit. -/
theorem NR_pos : 0 < NR := View.dmaCredit_pos _ (by decide)
/-- A maximum has at least one unit. -/
theorem NM_pos : 0 < NM := View.dmaCredit_pos _ (by decide)
/-- A tile has at least one unit. -/
theorem NT_pos : 0 < NT := View.dmaCredit_pos _ (by decide)
/-- Every slot of the ring has the same number of units. -/
theorem slot_credit (d : Bool) (s : Fin 3) : (slot d s).view.dmaCredit = NR := by cases d <;> rfl
/-- Every source of a message has as many units as a slot. -/
theorem srcOf_credit (d : Bool) (m : Fin 6) : (srcOf d m).view.dmaCredit = NR := by
  unfold srcOf; split
  · rfl
  · exact slot_credit _ _
/-- Every slot of the maxima has the units of a maximum. -/
theorem gSlot_credit (s : Fin 3) : (gSlot s).view.dmaCredit = NM := rfl
/-- The local maximum has the units of a maximum. -/
theorem mM_credit : mM.view.dmaCredit = NM := rfl
/-- Every slot of the tiles has the units of a tile. -/
theorem aSlot_credit (s : Fin 3) : (aSlot s).view.dmaCredit = NT := rfl
/-- Every tile to be sent has the units of a tile. -/
theorem qT_credit (c : Dev nD) (d : Fin 3) : (qT c d).view.dmaCredit = NT := rfl

/-- Units of one payment on a semaphore of a kind. -/
@[reducible] def units : Kind → ℕ
  | .bar => 1
  | .cred _ => 1
  | .send _ _ => NR
  | .recv _ _ => NR
  | .mSend _ => NM
  | .mRecv _ => NM
  | .tSend _ => NT
  | .tRecv _ => NT
/-- Every payment has at least one unit. -/
theorem units_pos (k : Kind) : 0 < units k := by
  cases k <;> first | exact Nat.one_pos | exact NR_pos | exact NM_pos | exact NT_pos

/-! ## Dues -/

/-- What a device pays: a barrier signal, a credit, a message of the ring, a maximum, a tile — each on another device —,
    and the departures of its own copies, on its own semaphores. -/
inductive Due
  | bar (d : Bool) | cred (d : Bool) (k : Fin 3) | ring (d : Bool) (m : Fin 6) | max (e : Fin 3) | tile (e : Fin 3)
  | left (d : Bool) (m : Fin 6) | mLeft (e : Fin 3) | tLeft (e : Fin 3)
  deriving DecidableEq, Fintype

namespace Due

/-- The device it is paid on. -/
@[reducible] def dev (c : Dev nD) : Due → Dev nD
  | .bar d => pv d c
  | .cred d _ => pv d c
  | .ring d _ => nx d c
  | .max e => rot (1 + e.val) c
  | .tile e => rot (1 + e.val) c
  | .left _ _ => c
  | .mLeft _ => c
  | .tLeft _ => c
/-- The kind of semaphore it is paid on. -/
@[reducible] def kind : Due → Kind
  | .bar _ => .bar
  | .cred d _ => .cred d
  | .ring d m => .recv d (sl m)
  | .max e => .mRecv e.rev
  | .tile e => .tRecv e.rev
  | .left d m => .send d m
  | .mLeft e => .mSend e
  | .tLeft e => .tSend e
/-- The round of that semaphore. -/
@[reducible] def rnd : Due → ℕ
  | .ring _ m => m.val / 3
  | _ => 0
/-- The duty's name. -/
@[reducible] def nm : Due → Fin 3
  | .bar d => bif d then 1 else 0
  | .cred _ k => k
  | _ => 0
/-- Its level. -/
@[reducible] def ix : Due → ℕ
  | .bar _ => 1
  | .cred _ k => 2 * k.val + 3
  | .ring _ m => 2 * m.val + 2
  | .max _ => 20
  | .tile _ => 21
  | _ => 0
/-- Where it is paid. -/
abbrev at_ (c : Dev nD) (x : Due) : GSem nD τ sig := cell (x.dev c) x.kind

end Due

/-- What a device pays on others, in program order. -/
def dues : List Due :=
  [.bar true, .bar false, .ring true 0, .ring false 0, .ring true 1, .ring false 1,
   .ring true 2, .ring false 2, .cred true 0, .cred false 0, .ring true 3, .ring false 3, .cred true 1, .cred false 1,
   .ring true 4, .ring false 4, .cred true 2, .cred false 2, .ring true 5, .ring false 5,
   .max 0, .max 1, .max 2, .tile 0, .tile 1, .tile 2]

/-! ## The printed device numbers and offsets -/

/-- Printed device number 1 is the next one counterclockwise. -/
theorem dev1 (c : Dev nD) : (⟨k0_dev1 c, k0_dev1_lt c⟩ : Dev nD) = nx false c := by revert c; decide +kernel
/-- Printed device number 2 is the next one clockwise. -/
theorem dev2 (c : Dev nD) : (⟨k0_dev2 c, k0_dev2_lt c⟩ : Dev nD) = nx true c := by revert c; decide +kernel
/-- Printed device number 3 is the next one clockwise. -/
theorem dev3 (c : Dev nD) : (⟨k0_dev3 c, k0_dev3_lt c⟩ : Dev nD) = nx true c := by revert c; decide +kernel
/-- Printed device number 4 is the next one counterclockwise. -/
theorem dev4 (c : Dev nD) : (⟨k0_dev4 c, k0_dev4_lt c⟩ : Dev nD) = nx false c := by revert c; decide +kernel
/-- Printed device number 5 is the next one clockwise. -/
theorem dev5 (c : Dev nD) : (⟨k0_dev5 c, k0_dev5_lt c⟩ : Dev nD) = nx true c := by revert c; decide +kernel
/-- Printed device number 6 is the next one counterclockwise. -/
theorem dev6 (c : Dev nD) : (⟨k0_dev6 c, k0_dev6_lt c⟩ : Dev nD) = nx false c := by revert c; decide +kernel
/-- Printed device number 7 is the next one clockwise. -/
theorem dev7 (c : Dev nD) : (⟨k0_dev7 c, k0_dev7_lt c⟩ : Dev nD) = nx true c := by revert c; decide +kernel
/-- Printed device number 8 is the next one counterclockwise. -/
theorem dev8 (c : Dev nD) : (⟨k0_dev8 c, k0_dev8_lt c⟩ : Dev nD) = nx false c := by revert c; decide +kernel
/-- Printed device number 9 is the next one counterclockwise. -/
theorem dev9 (c : Dev nD) : (⟨k0_dev9 c, k0_dev9_lt c⟩ : Dev nD) = nx false c := by revert c; decide +kernel
/-- Printed device number 10 is the next one clockwise. -/
theorem dev10 (c : Dev nD) : (⟨k0_dev10 c, k0_dev10_lt c⟩ : Dev nD) = nx true c := by revert c; decide +kernel
/-- Printed device number 11 is the next one clockwise. -/
theorem dev11 (c : Dev nD) : (⟨k0_dev11 c, k0_dev11_lt c⟩ : Dev nD) = nx true c := by revert c; decide +kernel
/-- Printed device number 12 is the next one counterclockwise. -/
theorem dev12 (c : Dev nD) : (⟨k0_dev12 c, k0_dev12_lt c⟩ : Dev nD) = nx false c := by revert c; decide +kernel
/-- Printed device number 13 is the next one counterclockwise. -/
theorem dev13 (c : Dev nD) : (⟨k0_dev13 c, k0_dev13_lt c⟩ : Dev nD) = nx false c := by revert c; decide +kernel
/-- Printed device number 14 is the next one clockwise. -/
theorem dev14 (c : Dev nD) : (⟨k0_dev14 c, k0_dev14_lt c⟩ : Dev nD) = nx true c := by revert c; decide +kernel
/-- Printed device number 15 is the next one clockwise. -/
theorem dev15 (c : Dev nD) : (⟨k0_dev15 c, k0_dev15_lt c⟩ : Dev nD) = nx true c := by revert c; decide +kernel
/-- Printed device number 16 is the next one counterclockwise. -/
theorem dev16 (c : Dev nD) : (⟨k0_dev16 c, k0_dev16_lt c⟩ : Dev nD) = nx false c := by revert c; decide +kernel
/-- Printed device number 17 is the next one counterclockwise. -/
theorem dev17 (c : Dev nD) : (⟨k0_dev17 c, k0_dev17_lt c⟩ : Dev nD) = nx false c := by revert c; decide +kernel
/-- Printed device number 18 is the next one clockwise. -/
theorem dev18 (c : Dev nD) : (⟨k0_dev18 c, k0_dev18_lt c⟩ : Dev nD) = nx true c := by revert c; decide +kernel
/-- Printed device number 19 is the next one clockwise. -/
theorem dev19 (c : Dev nD) : (⟨k0_dev19 c, k0_dev19_lt c⟩ : Dev nD) = nx true c := by revert c; decide +kernel
/-- Printed device number 20 is the next one counterclockwise. -/
theorem dev20 (c : Dev nD) : (⟨k0_dev20 c, k0_dev20_lt c⟩ : Dev nD) = nx false c := by revert c; decide +kernel
/-- Printed device number 21 is one place to the right. -/
theorem dev21 (c : Dev nD) : (⟨k0_dev21 c, k0_dev21_lt c⟩ : Dev nD) = rot (1 + 0) c := by revert c; decide +kernel
/-- Printed device number 22 is two places to the right. -/
theorem dev22 (c : Dev nD) : (⟨k0_dev22 c, k0_dev22_lt c⟩ : Dev nD) = rot (1 + 1) c := by revert c; decide +kernel
/-- Printed device number 23 is three places to the right. -/
theorem dev23 (c : Dev nD) : (⟨k0_dev23 c, k0_dev23_lt c⟩ : Dev nD) = rot (1 + 2) c := by revert c; decide +kernel
/-- Printed device number 24 is one place to the right. -/
theorem dev24 (c : Dev nD) : (⟨k0_dev24 c, k0_dev24_lt c⟩ : Dev nD) = rot (1 + 0) c := by revert c; decide +kernel
/-- Printed device number 25 is two places to the right. -/
theorem dev25 (c : Dev nD) : (⟨k0_dev25 c, k0_dev25_lt c⟩ : Dev nD) = rot (1 + 1) c := by revert c; decide +kernel
/-- Printed device number 26 is three places to the right. -/
theorem dev26 (c : Dev nD) : (⟨k0_dev26 c, k0_dev26_lt c⟩ : Dev nD) = rot (1 + 2) c := by revert c; decide +kernel

/-- Where the block of products with columns `128j …` of device `o` stands. -/
def yOff (o : Dev nD) (j : Fin 4) : Fin 2 → ℕ := ![0, 512 * o.val + 128 * j.val]
/-- Where the products with all columns of device `o` stand. -/
def tOff (o : Dev nD) : Fin 2 → ℕ := ![0, 512 * o.val]
/-- Where the rows of device `o` stand in the result. -/
def oOff (o : Dev nD) : Fin 2 → ℕ := ![1024 * o.val, 0]

/-- A block of products lies within their buffer. -/
theorem yOff_inb (o : Dev nD) (j : Fin 4) : ∀ a, yOff o j a + S1024x128.size a ≤ S1024x2048.size a := by revert o j; decide
/-- The tile of a device lies within the products' buffer. -/
theorem tOff_inb (o : Dev nD) : ∀ a, tOff o a + S1024x512.size a ≤ S1024x2048.size a := by revert o; decide
/-- The rows of a device lie within the result. -/
theorem oOff_inb (o : Dev nD) : ∀ a, oOff o a + S1024x512.size a ≤ S4096x512.size a := by revert o; decide

/-- The printed offset of a block of the device's own columns is the stated one. -/
theorem off1 (c : Dev nD) (j : Fin 4) : k0_off1 c (BitVec.ofNat 32 (128 * j.val)) = yOff c j := by revert c j; decide +kernel
/-- The message of step `2h + b`. -/
def msgOf (h : Fin 3) (b : Fin 2) : Fin 6 := ⟨2 * h.val + b.val, by omega⟩
/-- The printed offset of a clockwise message's block is the stated one. -/
theorem off2 (c : Dev nD) (h : Fin 3) (b : Fin 2) :
    k0_off2 c (BitVec.ofNat 32 (1 + (2 - h.val))) (BitVec.ofNat 32 (128 * b.val)) = yOff (orig true (msgOf h b) c) (colOf true (msgOf h b)) := by
  revert c h b; decide +kernel
/-- The printed offset of a counterclockwise message's block is the stated one. -/
theorem off3 (c : Dev nD) (h : Fin 3) (b : Fin 2) :
    k0_off3 c (BitVec.ofNat 32 h.val) (BitVec.ofNat 32 (128 * b.val)) = yOff (orig false (msgOf h b) c) (colOf false (msgOf h b)) := by
  revert c h b; decide +kernel
/-- The printed offset of the tile to be quantised is its receiver's. -/
theorem off4 (c : Dev nD) (d : Fin 3) : k0_off4 c (BitVec.ofNat 32 (1 + d.val)) = tOff (rot (1 + d.val) c) := by
  revert c d; decide +kernel
/-- The printed offset of the tile to be sent is its receiver's. -/
theorem off5 (c : Dev nD) (d : Fin 3) : k0_off5 c (BitVec.ofNat 32 (1 + d.val)) = tOff (rot (1 + d.val) c) := by
  revert c d; decide +kernel
/-- The printed offset of the device's own tile is the device's. -/
theorem off6 (c : Dev nD) : k0_off6 c = tOff c := by revert c; decide +kernel
/-- The printed offset of the device's own rows of the result is the device's. -/
theorem off7 (c : Dev nD) : k0_off7 c = oOff c := by revert c; decide +kernel
/-- The printed offset of a received tile's rows in the result is its sender's. -/
theorem off8 (c : Dev nD) (s : Fin 3) : k0_off8 c (BitVec.ofNat 32 s.val) = oOff (rot (1 + s.val) c) := by
  revert c s; decide +kernel

end Cert.KernelIdeal.Ring

end
-- ==== Proof.Vals.lean ====
/-
  WHAT EACH DEVICE COMPUTES.

  From the devices' rows of `x` and columns of `w`: the column blocks that travel, the products, the maxima, the
  scale, the tiles and the result, each as the kernel computes it (over any float values).
-/
module

public import proofs.«01_k».proof.Proof.Ties
public import Idealize.ShloMosaic.Lib.Pointwise.Index

@[expose] public section

noncomputable section

namespace Cert.KernelIdeal.Ring

open Idealize.ShloMosaic Idealize.ShloMosaic.TcCoe
open Idealize.SL.Sem
open Cert.KernelIdeal.Gen

variable {F : FTy → Type} [FloatOps F]
variable (x : Dev nD → Vec F S1024x4096 .f32) (w : Dev nD → Vec F S4096x512 .f32)

/-- Columns `128j …` of device `o`, narrowed: what a message of the ring carries. -/
def msgVal (o : Dev nD) (j : Fin 4) : Vec F S4096x128 .bf16 := (wCols j).view.read (Elt F) (half (w o))
/-- What message `m` of a direction brings to `c`. -/
def rv (c : Dev nD) (d : Bool) (m : Fin 6) : Vec F S4096x128 .bf16 := msgVal w (orig d m c) (colOf d m)

/-- Block `b` of the contraction, of `x`, -/
abbrev xB (X : Vec F S1024x4096 .f32) (b : Fin 8) : Vec F S1024x512 .f32 :=
  xM.view.readAt (Elt F) (Rect.unit (s := S1024x4096) ![0, 512 * b.val] S1024x512.size (xBlk_inb b)).toLoadRect X
/-- of columns of `w`, -/
abbrev wB (W : Vec F S4096x512 .f32) (j : Fin 4) (b : Fin 8) : Vec F S512x128 .f32 :=
  wM.view.readAt (Elt F) (Rect.unit (s := S4096x512) ![512 * b.val, 128 * j.val] S512x128.size (wBlk_inb b j)).toLoadRect W
/-- of a message. -/
def vB (v : Vec F S4096x128 .bf16) (b : Fin 8) : Vec F S1x512x128 .bf16 :=
  fun i => v (ix2 (n0 := 4096) (n1 := 128) ⟨512 * b.val + (i 1).val, by have h : (i 1).val < 512 := (i 1).isLt; have := b.isLt; omega⟩ (i 2))

/-- The blocked product with this device's own columns. -/
def gW (X : Vec F S1024x4096 .f32) (W : Vec F S4096x512 .f32) (j : Fin 4) : FVec F S1024x128 .f32 :=
  blks.foldl (fun a b => macW a (xB X b) (wB W j b)) acc0
/-- The blocked product with a message. -/
def gS (X : Vec F S1024x4096 .f32) (v : Vec F S4096x128 .bf16) : FVec F S1024x128 .f32 :=
  blks.foldl (fun a b => macS a (xB X b) (vB v b)) acc0

/-- The products of device `c` with columns `128j …` of device `o`, after the relu. -/
def yv (c o : Dev nD) (j : Fin 4) : FVec F S1024x128 .f32 :=
  if o = c then relu (gW (x c) (w c) j) else relu (gS (x c) (msgVal w o j))

/-- The blocks of products, in the order a device computes them. -/
def order (c : Dev nD) : List (Dev nD × Fin 4) :=
  [(c, 0), (c, 1), (c, 2), (c, 3)]
    ++ ((List.finRange 6).map fun m => [(orig true m c, colOf true m), (orig false m c, colOf false m)]).flatten

/-- The largest product of device `c`. -/
def lmaxOf (c : Dev nD) : F .f32 :=
  (order c).foldl (fun l p => maxB l (yv x w c p.1 p.2)) (Scalar.ofBits .f32 0x00000000#32)

/-- All products of device `c`. -/
def yFull (c : Dev nD) : Vec F S1024x2048 .f32 := fun i =>
  yv x w c ⟨(i 1).val / 512, by have h : (i 1).val < 2048 := (i 1).isLt; show _ < 4; omega⟩
    ⟨(i 1).val % 512 / 128, by omega⟩ (ix2 (n0 := 1024) (n1 := 128) (i 0) ⟨(i 1).val % 128, Nat.mod_lt _ (by decide)⟩)

/-- The maximum as it travels. -/
def mFull (c : Dev nD) : Vec F S8x128 .f32 := shapeCast S8x128 (broadcast S8x128 (lmaxOf x w c)) shapeCasts_S8x128_S8x128
/-- The maxima that arrive at `c`. -/
def gFull (c : Dev nD) : Vec F S3x8x128 .f32 := fun i => mFull x w (rot (1 + (i 0).val) c) (ix2 (n0 := 8) (n1 := 128) (i 1) (i 2))
/-- The scale at `c`. -/
def scale (c : Dev nD) : F .f32 := scaleOf (lmaxOf x w c) (gFull x w c)
/-- The products of `c` with all columns of `o`. -/
def tile (c o : Dev nD) : Vec F S1024x512 .f32 :=
  yM.view.readAt (Elt F) (Rect.unit (s := S1024x2048) (tOff o) S1024x512.size (tOff_inb o)).toLoadRect (yFull x w c)
/-- The tile device `e` sends `c`. -/
def tileV (e c : Dev nD) : Vec F S1024x512 .i8 := quant8 (scale x w e) (tile x w e c)
/-- Rows of device `o` in the result at `c`. -/
def outV (c o : Dev nD) : Vec F S1024x512 .f32 :=
  if o = c then deq (scale x w c) (tile x w c c) else deq8 (scale x w c) fun i => tileV x w o c (ix2 (n0 := 1024) (n1 := 512) (i 1) (i 2))
/-- The result at `c`. -/
def outFull (c : Dev nD) : Vec F S4096x512 .f32 := fun i =>
  outV x w c ⟨(i 0).val / 1024, by have h : (i 0).val < 4096 := (i 0).isLt; show _ < 4; omega⟩
    (ix2 (n0 := 1024) (n1 := 512) ⟨(i 0).val % 1024, Nat.mod_lt _ (by decide)⟩ (i 1))

/-- A message sent on is the one two earlier at the sender. -/
theorem rv_next (c : Dev nD) (d : Bool) (m : Fin 4) :
    rv w (nx d c) d ⟨m.val + 2, by omega⟩ = rv w c d ⟨m.val, by omega⟩ := by
  unfold rv; rw [orig_next, colOf_next]
/-- A first message is the sender's own columns. -/
theorem rv_first (c : Dev nD) (d : Bool) (m : Fin 6) (h : m.val < 2) : rv w (nx d c) d m = msgVal w c (colOf d m) := by
  unfold rv; rw [orig_first d m c h]

end Cert.KernelIdeal.Ring

end
-- ==== Proof.Sched.lean ====
/-
  THE SCHEDULE.

  What each payment on each semaphore hands over. The barrier signal of a device hands its neighbour the slots that
  neighbour will write; a message of the ring hands the receiver its slot holding the message; a credit hands the
  sender the knowledge that the first slots have been released (the slots themselves lie in shared invariants, one per
  slot, from which the sender takes them); a maximum and a tile hand over their slots holding them; a departure hands
  back what was lent to the copy. The slot of the device opposite is reached by no barrier signal: the neighbour
  between forwards it with its first message.
-/
module

public import proofs.«01_k».proof.Proof.Vals
public import Idealize.ShloMosaic.Lib.Release
public import Idealize.ShloMosaic.Lib.Ring.Trips
public import Idealize.ShloMosaic.Lib.Pipeline.Launch
public import Idealize.ShloMosaic.Lib.Pipeline.Kit
public import Idealize.ShloMosaic.Lib.Pipeline.TalkSites
public import Idealize.ShloMosaic.Lib.Pipeline.SiteBlocks
public import Idealize.ShloMosaic.Lib.Tactic

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (shares3 pointsTo_thirds)
open Cert.KernelIdeal.Gen

variable {F : FTy → Type} [FloatOps F]

/-! ## The resource algebra -/

/-- A slot of the ring: device, direction, number. -/
abbrev Key : Type := Dev nD × Bool × Fin 3
/-- The schedule's resources: rounds on semaphores with up to three duties each. -/
abbrev UB : Type := URounds (GSem nD τ sig) (Fin 3)
/-- The slots' resources: how often each has been released. -/
abbrev US : Type := Release.USlots Key
/-- All of them, with the staging pipeline's. -/
abbrev UU : Type := UR sig nD τ × (UB × US)

local notation "𝕄" => MT nD τ sig ℕ (Elt F) ℕ UU ℕ

/-- The staging pipeline's part, -/
def EP : Emb (UR sig nD τ) (MT nD τ sig ℕ (Elt F) ℕ UU ℕ) := embL
/-- the schedule's part, -/
def ER : Emb UB (MT nD τ sig ℕ (Elt F) ℕ UU ℕ) := (Emb.inl : Emb UB (UB × US)).trans embR
/-- the slots' part. -/
def ES : Emb US (MT nD τ sig ℕ (Elt F) ℕ UU ℕ) := (Emb.inr : Emb US (UB × US)).trans embR

/-- The pipeline's part lies among the resources an invariant may hold. -/
instance EP_landsIn : (EP (F := F)).LandsIn (upEmb : UEmb _ 𝕄) := by unfold EP; infer_instance
/-- The schedule's part lies among the resources an invariant may hold. -/
instance ER_landsIn : (ER (F := F)).LandsIn (upEmb : UEmb _ 𝕄) := by unfold ER; infer_instance
/-- The slots' part lies among the resources an invariant may hold. -/
instance ES_landsIn : (ES (F := F)).LandsIn (upEmb : UEmb _ 𝕄) := by unfold ES; infer_instance

/-! ## Buffers held -/

section Held
variable {s : Shape} {e : EltTy} (M : Memref sig .tc .vmem s e) (c : Dev nD)

/-- Device `c` holds what `M` views, at any contents. -/
def free : sProp 𝕄 := Release.slot (M.view.loc (c : Thread nD τ)) M.view.set
/-- Device `c` holds a share of what `M` views, reading `v`. -/
def part (q : PosShare TreeShare) (v : Vec F s e) : sProp 𝕄 :=
  iprop(∃ f, (M.view.loc (c : Thread nD τ) ↦[M.view.set]{q} f) ∗ ⌜M.view.read (Elt F) f = v⌝)
/-- Device `c` holds what `M` views, reading `v`. -/
abbrev holds (v : Vec F s e) : sProp 𝕄 := part M c fullShare v
/-- A share of it, at any contents. -/
def lent (q : PosShare TreeShare) : sProp 𝕄 := iprop(∃ f, (M.view.loc (c : Thread nD τ) ↦[M.view.set]{q} f))

/-- A buffer at any contents may be put into an invariant. -/
instance free_storable : BI.Storable (upEmb : UEmb _ 𝕄) (free (F := F) M c) := by unfold free; infer_instance
/-- A share of a buffer with known contents may be put into an invariant. -/
instance part_storable (q) (v : Vec F s e) : BI.Storable (upEmb : UEmb _ 𝕄) (part M c q v) := by unfold part; infer_instance
/-- A share of a buffer at any contents may be put into an invariant. -/
instance lent_storable (q) : BI.Storable (upEmb : UEmb _ 𝕄) (lent (F := F) M c q) := by unfold lent; infer_instance

/-- A buffer with known contents is a buffer at some contents. -/
theorem holds_free (v : Vec F s e) : holds M c v ⊢ free (F := F) M c := by
  unfold holds part free Release.slot
  iintro ⟨%f, H, -⟩
  iexists f; iexact H

/-- What a copy writes is held. -/
theorem holds_written (f : Buf (Elt F) (M.view.loc (c : Thread nD τ))) (v : Vec F s e) :
    (M.view.loc (c : Thread nD τ) ↦[M.view.set]{fullShare} M.view.write (Elt F) f v Finset.univ : sProp 𝕄) ⊢ holds M c v := by
  unfold holds part
  iintro H
  iexists _
  isplitl [H]; · iexact H
  ipureintro; exact View.read_write_univ _ _

end Held

/-! ## Payloads -/

section Pay
variable (x : Dev nD → Vec F S1024x4096 .f32) (w : Dev nD → Vec F S4096x512 .f32)

/-- The two small slots at number `s` of a device: of the maxima and of the tiles. -/
def pair (s : Fin 3) (c : Dev nD) : sProp 𝕄 := iprop(free (gSlot s) c ∗ free (aSlot s) c)
/-- The number of the small slots a neighbour writes. -/
def near (d : Bool) : Fin 3 := bif d then 2 else 0

/-- What the barrier signal from `nx d c` hands `c`. -/
def barPay (c : Dev nD) (d : Bool) : sProp 𝕄 :=
  iprop((free (slot d 0) (nx d c) ∗ free (slot d 1) (nx d c) ∗ free (slot d 2) (nx d c)) ∗ pair (near d) (nx d c)
    ∗ (if d then iprop(emp) else pair 1 (nx d c)))
/-- The extra hand-over with the first clockwise message. -/
def extra (c : Dev nD) (d : Bool) (m : ℕ) : sProp 𝕄 := if d = true ∧ m = 0 then pair 1 (rot 2 c) else iprop(emp)
/-- What message `m` hands `c`. -/
def ringPay (c : Dev nD) (d : Bool) (m : Fin 6) : sProp 𝕄 := iprop(holds (slot d (sl m)) c (rv w c d m) ∗ extra c d m.val)
/-- Message of a slot and a round. -/
def msgAt (s : Fin 3) (r : ℕ) : Fin 6 := ⟨(3 * r + s.val) % 6, Nat.mod_lt _ (by decide)⟩
/-- Slot `j` of a direction has been released once by the next device, which has also moved to its second round. -/
def credFact (b : Dev nD) (d : Bool) (j : Fin 3) : sProp 𝕄 :=
  iprop(Release.released ES (nx d b, d, j) 1 ∗ reached ER (cell (nx d b) (.recv d j)) 1)
/-- What the credits up to `k` say. -/
def credPay (b : Dev nD) (d : Bool) (k : Fin 3) : sProp 𝕄 := Release.heard (credFact b d) (Finset.univ.filter (· ≤ k))
/-- The share of its source a message borrows: all of the narrowed columns, half of a slot, which is read meanwhile. -/
def shr (m : Fin 6) : PosShare TreeShare := if m.val < 2 then fullShare else fullShare.right
/-- What the departure of message `m` hands back. -/
def leftPay (c : Dev nD) (d : Bool) (m : Fin 6) : sProp 𝕄 := lent (srcOf d m) c (shr m)

/-- What a payment hands over, by kind, round and name. -/
def payK (c : Dev nD) : Kind → ℕ → Fin 3 → sProp 𝕄
  | .bar, _, n => if n = 1 then barPay c true else barPay c false
  | .cred d, _, n => credPay c d n
  | .send d m, _, _ => leftPay c d m
  | .recv d s, r, _ => iprop(holds (slot d s) c (rv w c d (msgAt s r)) ∗ extra c d (msgAt s r).val)
  | .mSend e, _, _ => (mM.view.loc (c : Thread nD τ) ↦[mM.view.set]{shares3 fullShare e} mFull x w c)
  | .mRecv s, _, _ => holds (gSlot s) c (mFull x w (rot (1 + s.val) c))
  | .tSend e, _, _ => free (qT c e) c
  | .tRecv s, _, _ => holds (aSlot s) c (tileV x w (rot (1 + s.val) c) c)

/-- The two small slots may be put into an invariant. -/
instance pair_storable (s c) : BI.Storable (upEmb : UEmb _ 𝕄) (pair (F := F) s c) := by unfold pair; infer_instance
/-- What a barrier signal hands over may be put into an invariant. -/
instance barPay_storable (c d) : BI.Storable (upEmb : UEmb _ 𝕄) (barPay (F := F) c d) := by
  unfold barPay; cases d <;> infer_instance
/-- The extra hand-over may be put into an invariant. -/
instance extra_storable (c d m) : BI.Storable (upEmb : UEmb _ 𝕄) (extra (F := F) c d m) := by
  unfold extra; split <;> infer_instance
/-- That a slot has been released may be put into an invariant. -/
instance credFact_storable (b d j) : BI.Storable (upEmb : UEmb _ 𝕄) (credFact (F := F) b d j) := by
  unfold credFact; infer_instance
/-- That a slot has been released stays true. -/
instance credFact_persistent (b d j) : BI.Persistent (credFact (F := F) b d j) := by unfold credFact; infer_instance
/-- What a credit says may be put into an invariant. -/
instance credPay_storable (b d j) : BI.Storable (upEmb : UEmb _ 𝕄) (credPay (F := F) b d j) := by
  unfold credPay; infer_instance
/-- What a credit says stays true. -/
instance credPay_persistent (b d j) : BI.Persistent (credPay (F := F) b d j) := by unfold credPay; infer_instance
/-- What a departure hands back may be put into an invariant. -/
instance leftPay_storable (c d m) : BI.Storable (upEmb : UEmb _ 𝕄) (leftPay (F := F) c d m) := by
  unfold leftPay; infer_instance
/-- What any payment hands over may be put into an invariant. -/
instance payK_storable (c k r n) : BI.Storable (upEmb : UEmb _ 𝕄) (payK x w c k r n) := by
  cases k <;> unfold payK <;> (try split) <;> infer_instance

/-! ## The schedule -/

/-- The duties of a round of a semaphore of a kind. -/
def dutiesK : Kind → ℕ → Finset (Fin 3)
  | .bar, 0 => {0, 1}
  | .cred _, 0 => Finset.univ
  | .recv _ _, 0 => {0}
  | .recv _ _, 1 => {0}
  | .send _ _, 0 => {0}
  | .mSend _, 0 => {0}
  | .mRecv _, 0 => {0}
  | .tSend _, 0 => {0}
  | .tRecv _, 0 => {0}
  | _, _ => ∅

/-- The schedule. -/
def sched : Rounds.Schedule (GSem nD τ sig) (Fin 3) 𝕄 where
  duties g r := if g.1.2 = .tc then (match kindOf g.2 with | some k => dutiesK k r | none => ∅) else ∅
  amount g _ _ := match kindOf g.2 with | some k => units k | none => 1
  payload g r n := match kindOf g.2 with | some k => payK x w g.1.1 k r n | none => iprop(emp)
  amount_pos g _ _ _ := by
    split
    · exact units_pos _
    · exact Nat.one_pos

/-- Every payload of the schedule may be put into an invariant. -/
instance sched_storable (g : GSem nD τ sig) (r : ℕ) (n : Fin 3) :
    BI.Storable (upEmb : UEmb _ 𝕄) ((sched x w).payload g r n) := by
  show BI.Storable upEmb (match kindOf g.2 with | some k => payK x w g.1.1 k r n | none => iprop(emp))
  split <;> infer_instance

variable (c : Dev nD) (k : Kind) (r : ℕ)
/-- The schedule's duties on a semaphore are those of its kind. -/
theorem duties_cell : (sched x w).duties (cell c k) r = dutiesK k r := by
  dsimp only [sched]; rw [if_pos rfl, kindOf_semOf]
/-- The schedule's amount on a semaphore is the units of its kind. -/
theorem amount_cell (n : Fin 3) : (sched x w).amount (cell c k) r n = units k := by
  dsimp only [sched]; rw [kindOf_semOf]
/-- The schedule's payload on a semaphore is what its kind hands over. -/
theorem payload_cell (n : Fin 3) : (sched x w).payload (cell c k) r n = payK x w c k r n := by
  dsimp only [sched]; rw [kindOf_semOf]
/-- A round of a semaphore amounts to its number of duties times its units. -/
theorem expect_cell : (sched x w).expect (cell c k) r = (dutiesK k r).card * units k := by
  unfold Rounds.Schedule.expect Rounds.Schedule.amountOf
  rw [duties_cell, Finset.sum_congr rfl (fun n _ => amount_cell x w c k r n), Finset.sum_const, smul_eq_mul]
/-- From the third round on no semaphore has duties. -/
theorem duties_late : ∀ r, 2 ≤ r → (sched x w).duties (cell c k) r = ∅ := fun r hr => by
  rw [duties_cell]
  match r, hr with
  | r + 2, _ => cases k <;> rfl
/-- From the second round on only the ring's arrival semaphores have duties. -/
theorem duties_late1 (h : ∀ d s, k ≠ .recv d s) : ∀ r, 1 ≤ r → (sched x w).duties (cell c k) r = ∅ := fun r hr => by
  rw [duties_cell]
  match r, hr with
  | 1, _ => cases k <;> first | rfl | exact absurd rfl (h _ _)
  | r + 2, _ => cases k <;> rfl

end Pay

end Cert.KernelIdeal.Ring

end
-- ==== Proof.Rules.lean ====
/-
  ONE STAGE AT A TIME: COMMUNICATION.

  What a device still has to pay (`todo`), what it has still to be paid (`inc`) and how far it has come on each of its
  semaphores (`pos`) are lists and counts in program order; each signal, copy and wait takes the head of a list.
-/
module

public import proofs.«01_k».proof.Proof.Sched

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (shares3 pointsTo_thirds)
open Idealize.ShloMosaic.TalkSites (tallyL tallyL_pos)
open Cert.KernelIdeal.Gen

variable {F : FTy → Type} [FloatOps F]

local notation "𝕄" => MT nD τ sig ℕ (Elt F) ℕ UU ℕ

variable (x : Dev nD → Vec F S1024x4096 .f32) (w : Dev nD → Vec F S4096x512 .f32)

/-- No loop needs a variant. -/
abbrev 𝒱₀ : Variants := Variants.none
/-- Device `c` runs `k`. -/
abbrev run (c : Dev nD) (k : PR F) (Q : PUnit → sProp 𝕄) : sProp 𝕄 :=
  wp frame (wpE (defs₀ (F := F)) 𝒱₀ (c : Thread nD τ) none) Set.univ k Q

/-! ## What everybody knows -/

/-- The invariants of all semaphores and of all slots, and that every semaphore's first round is open. -/
def recs (κ : Dev nD × Kind → ℕ) (ι : Key → ℕ) : sProp 𝕄 :=
  iprop((bigSep Finset.univ fun p : Dev nD × Kind => cellInv ER (sched x w) (κ p) (cell p.1 p.2))
    ∗ (bigSep Finset.univ fun p : Dev nD × Kind => reached ER (cell p.1 p.2) 0)
    ∗ (bigSep Finset.univ fun k : Key => Release.slotInv ES (ι k) k (free (slot k.2.1 k.2.2) k.1))
    ∗ levAts (SiteBlocks.L 22) SiteBlocks.lv)

variable {x w} {κ : Dev nD × Kind → ℕ} {ι : Key → ℕ}

/-- What everybody knows may be used again and again. -/
instance recs_persistent : BI.Persistent (recs x w κ ι) := by unfold recs; infer_instance

/-- Everybody knows the invariant of each semaphore. -/
theorem recs_inv (c : Dev nD) (k : Kind) : recs x w κ ι ⊢ cellInv ER (sched x w) (κ (c, k)) (cell c k) := by
  have h : (bigSep Finset.univ fun p : Dev nD × Kind => cellInv ER (sched x w) (κ p) (cell p.1 p.2))
      ⊢ cellInv ER (sched x w) (κ (c, k)) (cell c k) := bigSep_elim (Finset.mem_univ (c, k))
  unfold recs
  iintro ⟨H, -⟩
  iapply h; iexact H
/-- Everybody knows that each semaphore's first round is open. -/
theorem recs_reached (c : Dev nD) (k : Kind) : recs x w κ ι ⊢ reached ER (cell c k) 0 := by
  have h : (bigSep Finset.univ fun p : Dev nD × Kind => (reached ER (cell p.1 p.2) 0 : sProp 𝕄))
      ⊢ reached ER (cell c k) 0 := bigSep_elim (Finset.mem_univ (c, k))
  unfold recs
  iintro ⟨-, H, -⟩
  iapply h; iexact H
/-- Everybody knows the invariant of each slot of the ring. -/
theorem recs_slot (k : Key) : recs x w κ ι ⊢ Release.slotInv ES (ι k) k (free (slot k.2.1 k.2.2) k.1) := by
  have h : (bigSep Finset.univ fun k : Key => Release.slotInv ES (ι k) k (free (slot k.2.1 k.2.2) k.1))
      ⊢ (Release.slotInv ES (ι k) k (free (slot k.2.1 k.2.2) k.1) : sProp 𝕄) := bigSep_elim (Finset.mem_univ k)
  unfold recs
  iintro ⟨-, -, H, -⟩
  iapply h; iexact H
/-- Everybody knows the order of the levels. -/
theorem recs_lev : recs x w κ ι ⊢ levAts (SiteBlocks.L 22) SiteBlocks.lv := by
  unfold recs
  iintro ⟨-, -, -, H⟩
  iexact H

/-! ## What is still to pay -/

/-- A due as a payment. -/
abbrev pay (c : Dev nD) (p : Due) : TalkSites.Pay nD τ sig := (p.at_ c, p.ix, units p.kind)
/-- The right to make a payment. -/
def tok (c : Dev nD) (p : Due) : sProp 𝕄 := dutyTok ER (p.at_ c) p.rnd p.nm
/-- With a copy's arrival goes its departure. -/
def mate : Due → Option Due
  | .ring d m => some (.left d m)
  | .max e => some (.mLeft e)
  | .tile e => some (.tLeft e)
  | _ => none
/-- The rights of a due and its departure. -/
def toks (c : Dev nD) (p : Due) : sProp 𝕄 :=
  iprop(tok c p ∗ (match mate p with | some q => tok c q | none => iprop(emp)))
/-- What is still to pay, in order, and the rights to do so. -/
def todo (c : Dev nD) (l : List Due) : sProp 𝕄 :=
  iprop((∃ W, owes (c : Thread nD τ) (tallyL (l.map (pay c))) W) ∗ bigSepL l (toks c))
/-- What is still to be paid, in order. -/
def inc (c : Dev nD) (l : List (Kind × ℕ × ℕ)) : sProp 𝕄 :=
  bigSepL l fun p => cred (tallyAt (cell c p.1) p.2.1 p.2.2)

/-- Each due is among the duties of its semaphore in its round. -/
theorem due_mem : ∀ p : Due, p.nm ∈ dutiesK p.kind p.rnd := by decide

/-- What is held for a list is held for its head and for its tail. -/
theorem list_cons (Φ : Due → sProp 𝕄) (p : Due) (l : List Due) : bigSepL (p :: l) Φ ⊢ iprop(Φ p ∗ bigSepL l Φ) :=
  Entails.of_eq (bigSepL_cons _ _ _)
/-- What is to be received is the first payment and the rest. -/
theorem inc_cons (c : Dev nD) (p : Kind × ℕ × ℕ) (l : List (Kind × ℕ × ℕ)) :
    inc (F := F) c (p :: l) ⊢ iprop(cred (tallyAt (cell c p.1) p.2.1 p.2.2) ∗ inc c l) := by
  unfold inc; exact Entails.of_eq (bigSepL_cons _ _ _)

/-- What is to pay is the first due with its rights, and the rest. -/
theorem todo_cons (c : Dev nD) (p : Due) (l : List Due) :
    todo (F := F) c (p :: l) ⊢ ∃ W, owes (c : Thread nD τ) (tallyL (l.map (pay c)) + tallyAt (p.at_ c) p.ix (units p.kind)) W
      ∗ toks c p ∗ bigSepL l (toks c) := by
  unfold todo
  rw [List.map_cons, tallyL, add_comm]
  iintro ⟨⟨%W, Ho⟩, Hl⟩
  ihave Hl := (list_cons (toks c) p l) $$ Hl
  icases Hl with ⟨Ht, Hl⟩
  iexists W
  isplitl [Ho]; · iexact Ho
  isplitl [Ht] <;> iassumption
/-- A debt for a list of dues, with the rights to pay them, is what is to pay. -/
theorem todo_intro (c : Dev nD) (l : List Due) (W) :
    iprop(owes (c : Thread nD τ) (tallyL (l.map (pay c))) W ∗ bigSepL l (toks c)) ⊢ todo (F := F) c l := by
  unfold todo
  iintro ⟨Ho, Hl⟩
  isplitl [Ho]; · iexists W; iexact Ho
  iexact Hl

/-- A wait at level `i` is allowed when everything still to pay lies above. -/
theorem mayWait (c : Dev nD) (sm : SemLoc sig) (i : ℕ) (l : List Due) (hi : i < 22) (h : ∀ p ∈ l, i < p.ix ∧ p.ix < 22) :
    (levAts (SiteBlocks.L 22) SiteBlocks.lv : sProp 𝕄) ⊢ MayWait (c : Thread nD τ) sm i (tallyL (l.map (pay c))) :=
  SiteBlocks.mayWait_of hi c sm _ fun g k hk => by
    obtain ⟨y, hy, rfl, rfl⟩ := tallyL_pos hk
    obtain ⟨p, hp, rfl⟩ := List.mem_map.mp hy
    exact ⟨SiteBlocks.mem_L' rfl (h p hp).2, (h p hp).1⟩

/-! ## Signals -/

/-- A signal pays the first due and hands over what belongs to it. -/
theorem sig_rule (c : Dev nD) (p : Due) (l : List Due) (c' : Dev nD) (sm : Sem sig) (hs : semOf p.kind = .reg sm)
    (hc : p.dev c = c') (hu : units p.kind = 1) (hr : p.rnd = 0) (k : PR F) (Q : PUnit → sProp 𝕄) :
    iprop(recs x w κ ι ∗ todo c (p :: l) ∗ payK x w c' p.kind p.rnd p.nm ∗ (todo c l -∗ run c k Q)) ⊢ run c (sig1 c' sm k) Q := by
  subst hc
  unfold sig1
  show _ ⊢ run c (.op (.semSignal (p.dev c, .tc) sm ((1 : ℕ) : ℤ)) _) Q
  have e : cell (p.dev c) p.kind = ((p.dev c : Thread nD τ), .reg sm) := by unfold cell; rw [hs]
  have hd : p.nm ∈ (sched x w).duties (cell (p.dev c) p.kind) p.rnd := (duties_cell x w (p.dev c) p.kind p.rnd).symm ▸ due_mem p
  have ha := (amount_cell x w (p.dev c) p.kind p.rnd p.nm).trans hu
  have hpay := Entails.of_eq (payload_cell x w (p.dev c) p.kind p.rnd p.nm).symm
  have hrc : recs x w κ ι ⊢ reached ER (cell (p.dev c) p.kind) p.rnd := by rw [hr]; exact recs_reached _ _
  have hi := recs_inv (x := x) (w := w) (κ := κ) (ι := ι) (p.dev c) p.kind
  have ht : todo (F := F) c (p :: l) ⊢ ∃ W, owes (c : Thread nD τ) (tallyL (l.map (pay c)) + tallyAt (cell (p.dev c) p.kind) p.ix 1) W
      ∗ dutyTok ER (cell (p.dev c) p.kind) p.rnd p.nm ∗ bigSepL l (toks c) := by
    rw [← hu]
    refine (todo_cons c p l).trans ?_
    unfold toks tok
    iintro ⟨%W, Ho, ⟨Ht, -⟩, Hl⟩
    iexists W
    isplitl [Ho]; · iexact Ho
    isplitl [Ht] <;> iassumption
  rw [e] at hd ha hpay hrc hi ht
  iintro ⟨#HR, Ht, Hp, Hk⟩
  ihave Ht := ht $$ Ht
  icases Ht with ⟨%W, Ho, Htk, Hl⟩
  ihave #Hrc := hrc $$ HR
  ihave #Hi := hi $$ HR
  ihave Hp := hpay $$ Hp
  iapply (Rounds.wp_signal 𝒱₀ ER (sched x w) (c : Thread nD τ) none (dst := (p.dev c : Thread nD τ)) (κ := κ (p.dev c, p.kind))
      hd ha p.ix (tallyL (l.map (pay c))) rfl) $$ [Ho Htk Hp]
  · isplitr; · iexact Hi
    isplitl [Ho]; · iexact Ho
    isplitl [Htk]; · iexact Htk
    isplitl [Hp]; · iexact Hp
    iexact Hrc
  iintro Ho
  iapply Hk
  iapply (todo_intro c l W)
  isplitl [Ho] <;> iassumption

/-! ## Copies -/

/-- A copy pays the first due: its arrival hands over the destination holding what was sent, its departure the source. -/
theorem copy_rule (c : Dev nD) (p q : Due) (l : List Due) {s : Shape} {e : EltTy} {src dst : Memref sig .tc .vmem s e} {sS sR : SemLoc sig}
    (hpq : mate p = some q) (hq : q.dev c = c) (hS : semOf q.kind = sS) (hR : semOf p.kind = sR) {c' : Dev nD} (hc : p.dev c = c')
    {hsc} {hsrc : src.view.WordExact} {hdst : dst.view.WordExact}
    {hsem : DmaTarget.Typed .vmem sR (.remote (Dev.tc c' : Thread nD τ) dst sS hsc)}
    (hN : dst.view.amount sR = units p.kind) (hN' : units q.kind = units p.kind) (hq0 : q.rnd = 0)
    {qs : PosShare TreeShare} {fs : Buf (Elt F) (src.view.loc (c : Thread nD τ))} {Fr : sProp 𝕄}
    (hpay₁ : (src.view.loc (c : Thread nD τ) ↦[src.view.set]{qs} fs) ⊢ payK x w c q.kind q.rnd q.nm)
    (hpay₂ : iprop(holds dst c' (src.view.read (Elt F) fs) ∗ Fr) ⊢ payK x w c' p.kind p.rnd p.nm)
    (k : PR F) (Q : PUnit → sProp 𝕄) :
    iprop(recs x w κ ι ∗ reached ER (cell c' p.kind) p.rnd ∗ (src.view.loc (c : Thread nD τ) ↦[src.view.set]{qs} fs) ∗ free dst c' ∗ Fr
        ∗ todo c (p :: l) ∗ (cred (tallyAt (cell c q.kind) q.ix (units q.kind)) ∗ todo c l -∗ run c k Q))
      ⊢ run c (.op (.enqueueDma src (.remote (Dev.tc c' : Thread nD τ) dst sS hsc) sR hsrc hdst hsem) fun _ => k) Q := by
  subst hc
  subst hS
  subst hR
  have hd₁ : q.nm ∈ (sched x w).duties (cell c q.kind) q.rnd := (duties_cell x w c q.kind q.rnd).symm ▸ due_mem q
  have hd₂ : p.nm ∈ (sched x w).duties (cell (p.dev c) p.kind) p.rnd := (duties_cell x w (p.dev c) p.kind p.rnd).symm ▸ due_mem p
  have ha₁ := (amount_cell x w c q.kind q.rnd q.nm).trans hN'
  have ha₂ := amount_cell x w (p.dev c) p.kind p.rnd p.nm
  have hp₁ := hpay₁.trans (Entails.of_eq (payload_cell x w c q.kind q.rnd q.nm).symm)
  have hp₂ := hpay₂.trans (Entails.of_eq (payload_cell x w (p.dev c) p.kind p.rnd p.nm).symm)
  have hrc : recs x w κ ι ⊢ reached ER (cell c q.kind) q.rnd := by rw [hq0]; exact recs_reached _ _
  have hi₁ := recs_inv (x := x) (w := w) (κ := κ) (ι := ι) c q.kind
  have hi₂ := recs_inv (x := x) (w := w) (κ := κ) (ι := ι) (p.dev c) p.kind
  have htk : toks (F := F) c p ⊢ iprop(tok c p ∗ dutyTok ER (cell c q.kind) q.rnd q.nm) := by
    unfold toks tok; rw [hpq]; dsimp only [Due.at_]; rw [hq]
  rw [hN']
  iintro ⟨#HR, #Hrp, Hsrc, Hdst, HF, Ht, Hk⟩
  ihave Ht := (todo_cons c p l) $$ Ht
  icases Ht with ⟨%W, Ho, Htt, Hl⟩
  ihave Htt := htk $$ Htt
  icases Htt with ⟨Htp, Htq⟩
  ihave #Hrq := hrc $$ HR
  ihave #Hi₁ := hi₁ $$ HR
  ihave #Hi₂ := hi₂ $$ HR
  unfold tok free Release.slot
  icases Hdst with ⟨%fd, Hdst⟩
  iapply (Rounds.wp_send_pointsTo_with 𝒱₀ ER (sched x w) (c : Thread nD τ) none (c' := (p.dev c : Thread nD τ)) (κ₁ := κ (c, q.kind)) (κ₂ := κ (p.dev c, p.kind))
      (r₁ := q.rnd) (r₂ := p.rnd) (d₁ := q.nm) (d₂ := p.nm) (fs := fs) (fd := fd) (F := Fr)
      hd₁ hd₂ p.ix q.ix (units p.kind) hN ha₁ ha₂ (tallyL (l.map (pay c))) rfl hp₁ ((sep_mono_l (holds_written dst (p.dev c) fd _)).trans hp₂))
    $$ [Hsrc Hdst HF Ho Htq Htp]
  · isplitr; · iexact Hi₁
    isplitr; · iexact Hi₂
    isplitl [Hsrc]; · iexact Hsrc
    isplitl [Hdst HF]
    · isplitl [Hdst]; · iexact Hdst
      iexact HF
    isplitl [Ho]; · iexact Ho
    isplitl [Htq]; · iexact Htq
    isplitr; · iexact Hrq
    isplitl [Htp]; · iexact Htp
    iexact Hrp
  iintro ⟨Hc, Ho⟩
  iapply Hk
  isplitl [Hc]; · iexact Hc
  iapply (todo_intro c l W)
  isplitl [Ho] <;> iassumption

/-! ## Waits -/

/-- Not a credit semaphore: one that is waited for whole rounds at a time. -/
def whole : Kind → Bool
  | .cred _ => false
  | _ => true
/-- How far a device has come on its semaphores: the rounds it has waited for, as a list. -/
def pos (c : Dev nD) (l : List Kind) : sProp 𝕄 :=
  bigSep (Finset.univ.filter fun k => whole k = true) fun k => atPos ER (cell c k) (l.count k) ∅ 0

/-- The place on one semaphore can be taken out and put back one round on. -/
theorem pos_take (c : Dev nD) (l : List Kind) (k : Kind) (hk : whole k = true) :
    pos (F := F) c l ⊢ iprop(atPos ER (cell c k) (l.count k) ∅ 0 ∗ (atPos ER (cell c k) (l.count k + 1) ∅ 0 -∗ pos c (k :: l))) := by
  have hm : k ∈ Finset.univ.filter fun k => whole k = true := by simp [hk]
  have e : (bigSep ((Finset.univ.filter fun k => whole k = true).erase k) fun j => (atPos ER (cell c j) (l.count j) ∅ 0 : sProp 𝕄))
      = bigSep ((Finset.univ.filter fun k => whole k = true).erase k) fun j => atPos ER (cell c j) ((k :: l).count j) ∅ 0 :=
    bigSep_congr fun j hj => by rw [List.count_cons_of_ne (Finset.ne_of_mem_erase hj).symm]
  have h1 : pos (F := F) c l ⊢ iprop(atPos ER (cell c k) (l.count k) ∅ 0
      ∗ bigSep ((Finset.univ.filter fun k => whole k = true).erase k) fun j => atPos ER (cell c j) ((k :: l).count j) ∅ 0) := by
    rw [← e]; exact Entails.of_eq (bigSep_erase (Φ := fun j => (atPos ER (cell c j) (l.count j) ∅ 0 : sProp 𝕄)) hm)
  have h2 : iprop(atPos ER (cell c k) (l.count k + 1) ∅ 0
      ∗ bigSep ((Finset.univ.filter fun k => whole k = true).erase k) fun j => atPos ER (cell c j) ((k :: l).count j) ∅ 0)
      ⊢ pos (F := F) c (k :: l) := by
    have := Entails.of_eq (bigSep_erase (Φ := fun j => (atPos ER (cell c j) ((k :: l).count j) ∅ 0 : sProp 𝕄)) hm).symm
    rw [List.count_cons_self] at this; exact this
  iintro H
  ihave H := h1 $$ H
  icases H with ⟨Ha, Hr⟩
  isplitl [Ha]; · iexact Ha
  iintro Ha
  iapply h2
  isplitl [Ha] <;> iassumption

/-- A wait for a whole round. -/
theorem wait_rule (c : Dev nD) (k₀ : Kind) (i n r : ℕ) (lp : List Kind) (l : List Due) {sm : SemLoc sig} (hs : semOf k₀ = sm)
    {wt : TpuEff nD τ sig (Elt F) Λ₀ .tc PUnit}
    (hw : ∀ K : PUnit → sProp 𝕄, wpE (defs₀ (F := F)) 𝒱₀ (c : Thread nD τ) none Set.univ wt K = waitSpec (c : Thread nD τ) Set.univ sm n K)
    (hk₀ : whole k₀ = true) (hr : lp.count k₀ = r) (hn : (dutiesK k₀ r).card * units k₀ = n) (hi : i < 22) (hl : ∀ p ∈ l, i < p.ix ∧ p.ix < 22)
    (k : PR F) (Q : PUnit → sProp 𝕄) :
    iprop(recs x w κ ι ∗ cred (tallyAt (cell c k₀) i n) ∗ todo c l ∗ pos c lp
        ∗ (todo c l ∗ pos c (k₀ :: lp) ∗ reached ER (cell c k₀) (r + 1) ∗ bigSep (dutiesK k₀ r) (payK x w c k₀ r) -∗ run c k Q))
      ⊢ run c (.op wt fun _ => k) Q := by
  subst hs
  subst hr
  have hi₁ := recs_inv (x := x) (w := w) (κ := κ) (ι := ι) c k₀
  have hx : 0 + n = (sched x w).expect (cell c k₀) (lp.count k₀) := by rw [Nat.zero_add, expect_cell, hn]
  have hp : bigSep ((sched x w).duties (cell c k₀) (lp.count k₀) \ ∅) (fun d => (sched x w).payload (cell c k₀) (lp.count k₀) d)
      ⊢ bigSep (dutiesK k₀ (lp.count k₀)) (payK x w c k₀ (lp.count k₀)) :=
    Entails.of_eq (by rw [Finset.sdiff_empty, duties_cell]; exact bigSep_congr fun d _ => payload_cell x w c k₀ _ d)
  unfold todo
  iintro ⟨#HR, Hc, ⟨⟨%W, Ho⟩, Hl⟩, Hpos, Hk⟩
  ihave #Hi₁ := hi₁ $$ HR
  ihave #Hlev := recs_lev $$ HR
  ihave Hpos := (pos_take c lp k₀ hk₀) $$ Hpos
  icases Hpos with ⟨Hat, Hback⟩
  iapply (Rounds.wp_wait_rest_token 𝒱₀ ER (sched x w) (c : Thread nD τ) none (κ := κ (c, k₀)) hw (Set.mem_univ _) i
      (O := tallyL (l.map (pay c))) (W := W) (R := lp.count k₀) (m := 0) (T := ∅) hx) $$ [Hc Ho Hat]
  · isplitr; · iexact Hi₁
    isplitl [Hc]; · iexact Hc
    isplitl [Ho]; · iexact Ho
    isplitr; · iapply (mayWait c (semOf k₀) i l hi hl); iexact Hlev
    iexact Hat
  iintro ⟨Ho, Hat, Hr, Hpay⟩
  iapply Hk
  isplitl [Ho Hl]
  · isplitl [Ho]; · iexists _; iexact Ho
    iexact Hl
  isplitl [Hback Hat]; · iapply Hback; iexact Hat
  isplitl [Hr]; · iexact Hr
  iapply hp; iexact Hpay

end Cert.KernelIdeal.Ring

end
-- ==== Proof.Mem.lean ====
/-
  THE BUFFERS' STAGES: LOADS, PRODUCTS AND STORES.

  What each memory stage of the body does to the buffers held.
-/
module

public import proofs.«01_k».proof.Proof.Rules
public import Idealize.ShloMosaic.Lib.Ring
public import Idealize.ShloMosaic.Lib.ValueLayout

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal.Gen
open Idealize.ShloMosaic.ValueIdx (shapeCast_1ab_ab_apply)

variable {F : FTy → Type} [FloatOps F]

local notation "𝕄" => MT nD τ sig ℕ (Elt F) ℕ UU ℕ

/-! ## Indices of slots and stores -/

/-- A store covers its rectangle, -/
theorem put_in (b : Ref sig .tc) (r : Rect b.ty.shape) (f : b.ty.Contents (Elt F)) (v : r.shape.Idx → Elt F b.ty.elt) (z : r.shape.Idx) :
    ((View.whole b).slice r).write (Elt F) f v Finset.univ (r.emb z) = v z :=
  View.write_emb_of_mem (v := (View.whole b).slice r) f v (Finset.mem_univ z)
/-- and nothing else. -/
theorem put_off (b : Ref sig .tc) (r : Rect b.ty.shape) (f : b.ty.Contents (Elt F)) (v : r.shape.Idx → Elt F b.ty.elt) (i : b.ty.shape.Idx)
    (h : i ∉ r.set) : ((View.whole b).slice r).write (Elt F) f v Finset.univ i = f i :=
  View.write_of_not_mem (v := (View.whole b).slice r) f v Finset.univ (by rw [View.setOn_univ, View.set_slice_whole]; exact h)

/-- The cells of a block of rows of a slot lie in that slot. -/
theorem slot_set (d : Bool) (s : Fin 3) (b : Fin 8) :
    (rings d).view.setOn (Rect.unit (s := S3x4096x128) ![s.val, 512 * b.val, 0] S1x512x128.size (sBlk_inb s b)).toLoadRect.set
      ⊆ ((rings d).view.slice (Rect.unit (s := S3x4096x128) ![s.val, 0, 0] S1x4096x128.size (slot_inb s))).set := by
  rw [View.set_slice]
  unfold View.setOn
  refine Finset.map_subset_map.mpr fun i hi => ?_
  have hi' := Rect.mem_set_unit.mp hi
  refine Rect.mem_set_unit.mpr fun a => ?_
  have ha := hi' a
  have hb := b.isLt
  fin_cases a <;> simp at ha ⊢ <;> omega

/-- Slot `s` of a received block reads entry `s`. -/
theorem slot_read (d : Bool) (s : Fin 3) (f : (rings d).view.ty.Contents (Elt F)) (i : Fin 4096) (j : Fin 128) :
    (slot d s).view.read (Elt F) f (ix2 i j) = (rings d).view.read (Elt F) f (ix3 s i j) := by
  have h := congrFun (Memref.read_squeeze_slice (Val := Elt F) (rings d) (Rect.unit (s := S3x4096x128) ![s.val, 0, 0] S1x4096x128.size (slot_inb s))
    (fun _ => rfl) squeezes_S1x4096x128_S4096x128 squeezes_S1x4096x128_S4096x128.numel_eq f) (ix2 i j)
  refine h.trans ((shapeCast_1ab_ab_apply (a := 4096) (b := 128) _ _ i j).trans ?_)
  rw [View.readAt_apply]
  refine congrArg _ (funext fun a => Fin.ext ?_)
  fin_cases a
  · show s.val + 1 * 0 = s.val; omega
  · show 0 + 1 * i.val = i.val; omega
  · show 0 + 1 * j.val = j.val; omega

/-- A block of rows loaded from the ring's buffer is that block of what the slot reads. -/
theorem slot_block (d : Bool) (s : Fin 3) (b : Fin 8) (f : (rings d).view.ty.Contents (Elt F)) :
    (rings d).view.readAt (Elt F) (Rect.unit (s := S3x4096x128) ![s.val, 512 * b.val, 0] S1x512x128.size (sBlk_inb s b)).toLoadRect f
      = vB ((slot d s).view.read (Elt F) f) b := by
  funext i
  unfold vB
  rw [View.readAt_apply]
  refine Eq.trans ?_ (slot_read d s f _ _).symm
  refine congrArg _ (funext fun a => Fin.ext ?_)
  have h0 : (i 0).val < 1 := (i 0).isLt
  fin_cases a <;> simp [ix3] <;> omega

/-! ## Products -/

/-- A device's whole buffer at a value. -/
abbrev at_ {s : Shape} {e : EltTy} (M : Memref sig .tc .vmem s e) (c : Dev nD) (f : Buf (Elt F) (M.view.loc (c : Thread nD τ))) : sProp 𝕄 :=
  M.view.loc (c : Thread nD τ) ↦{fullShare} f

/-- A store into a buffer held whole. -/
theorem store_rule (c : Dev nD) {s : Shape} {e : EltTy} (M : Memref sig .tc .vmem s e) (r : Rect s) (v : r.shape.Idx → Elt F e)
    {hx : (M.access r).Stores Finset.univ} {hm : (Finset.univ : Finset r.shape.Idx) = Finset.univ ∨ ∀ a, r.stride a = 1}
    (S : Finset (Idx (M.view.loc (c : Thread nD τ)))) (hS : (M.access r).set ⊆ S) (f : Buf (Elt F) (M.view.loc (c : Thread nD τ)))
    (k : PR F) (Q : PUnit → sProp 𝕄) :
    iprop((M.view.loc (c : Thread nD τ) ↦[S]{fullShare} f)
        ∗ ((M.view.loc (c : Thread nD τ) ↦[S]{fullShare} (M.access r).write (Elt F) f v Finset.univ) -∗ run c k Q))
      ⊢ run c (.op (.store M r v Finset.univ hx hm) fun _ => k) Q := by
  have h : (M.view.loc (c : Thread nD τ) ↦[S]{fullShare} f : sProp 𝕄)
      ⊢ iprop(((M.view.loc (c : Thread nD τ) ↦[S]{fullShare} (M.access r).write (Elt F) f v Finset.univ) -∗ run c k Q)
        -∗ run c (.op (.store M r v Finset.univ hx hm) fun _ => k) Q) :=
    wp_store 𝒱₀ (c : Thread nD τ) none Set.univ (m := M) (r := r) (w := v) (Mk := Finset.univ) (hx := hx) (hm := hm)
      (k := fun _ => k) (S := S) (f := f) hS
  iintro ⟨H, Hk⟩
  ihave H' := h $$ H
  iapply H'
  iexact Hk

/-- Adding up products with blocks of the device's own weights gives the stated sum and changes neither input. -/
theorem gemmW_rule (c : Dev nD) (j : Fin 4) (X : Vec F S1024x4096 .f32) (W : Vec F S4096x512 .f32)
    (k : FVec F S1024x128 .f32 → PR F) (Q : PUnit → sProp 𝕄) : ∀ (l : List (Fin 8)) (acc : FVec F S1024x128 .f32),
    iprop(at_ xM c X ∗ at_ wM c W
        ∗ (at_ xM c X ∗ at_ wM c W -∗ run c (k (l.foldl (fun a b => macW a (xB X b) (wB W j b)) acc)) Q))
      ⊢ run c (gemmW j l acc k) Q
  | [], acc => by
    unfold gemmW
    iintro ⟨Hx, Hw, Hk⟩
    iapply Hk
    isplitl [Hx] <;> iassumption
  | b :: l, acc => by
    unfold gemmW
    iintro ⟨Hx, Hw, Hk⟩
    iapply (wp_load 𝒱₀ (c : Thread nD τ) none Set.univ (m := xM) (Finset.subset_univ _)) $$ Hx
    iintro Hx
    iapply (wp_load 𝒱₀ (c : Thread nD τ) none Set.univ (m := wM) (Finset.subset_univ _)) $$ Hw
    iintro Hw
    iapply (gemmW_rule c j X W k Q l (macW acc (xB X b) (wB W j b)))
    isplitl [Hx]; · iexact Hx
    isplitl [Hw]; · iexact Hw
    iexact Hk

/-- Loading a block of rows from a slot held in part gives that block of its contents. -/
theorem slotLoad_rule (c : Dev nD) (d : Bool) (s : Fin 3) (b : Fin 8) (q : PosShare TreeShare) (v : Vec F S4096x128 .bf16)
    {hl : (rings d).view.LoadsAt (Rect.unit (s := S3x4096x128) ![s.val, 512 * b.val, 0] S1x512x128.size (sBlk_inb s b)).toLoadRect}
    (k : Vec F S1x512x128 .bf16 → PR F) (Q : PUnit → sProp 𝕄) :
    iprop(part (slot d s) c q v ∗ (part (slot d s) c q v -∗ run c (k (vB v b)) Q))
      ⊢ run c (.op (.load (rings d) (Rect.unit (s := S3x4096x128) ![s.val, 512 * b.val, 0] S1x512x128.size (sBlk_inb s b)).toLoadRect hl) k) Q := by
  have hs : (rings d).view.setOn (Rect.unit (s := S3x4096x128) ![s.val, 512 * b.val, 0] S1x512x128.size (sBlk_inb s b)).toLoadRect.set
      ⊆ (slot d s).view.set := by
    unfold slot; rw [Memref.set_view_squeeze]; exact slot_set d s b
  have hp : part (slot d s) c q v = iprop(∃ f : Buf (Elt F) ((rings d).view.loc (c : Thread nD τ)),
      ((rings d).view.loc (c : Thread nD τ) ↦[(slot d s).view.set]{q} f) ∗ ⌜(slot d s).view.read (Elt F) f = v⌝) := rfl
  rw [hp]
  iintro ⟨⟨%f, H, %hf⟩, Hk⟩
  have e : (rings d).view.readAt (Elt F) (Rect.unit (s := S3x4096x128) ![s.val, 512 * b.val, 0] S1x512x128.size (sBlk_inb s b)).toLoadRect f = vB v b :=
    (slot_block d s b f).trans (congrArg (vB · b) hf)
  iapply (wp_load 𝒱₀ (c : Thread nD τ) none Set.univ (m := rings d) (q := q) (f := f) hs) $$ H
  irw [e]
  iintro H
  iapply Hk
  iexists f
  isplitl [H]; · iexact H
  ipureintro; exact hf

/-- Adding up products with blocks of a slot gives the stated sum and changes neither input. -/
theorem gemmS_rule (c : Dev nD) (d : Bool) (s : Fin 3) (q : PosShare TreeShare) (X : Vec F S1024x4096 .f32) (v : Vec F S4096x128 .bf16)
    (k : FVec F S1024x128 .f32 → PR F) (Q : PUnit → sProp 𝕄) : ∀ (l : List (Fin 8)) (acc : FVec F S1024x128 .f32),
    iprop(at_ xM c X ∗ part (slot d s) c q v
        ∗ (at_ xM c X ∗ part (slot d s) c q v -∗ run c (k (l.foldl (fun a b => macS a (xB X b) (vB v b)) acc)) Q))
      ⊢ run c (gemmS d s l acc k) Q
  | [], acc => by
    unfold gemmS
    iintro ⟨Hx, Hw, Hk⟩
    iapply Hk
    isplitl [Hx] <;> iassumption
  | b :: l, acc => by
    unfold gemmS
    iintro ⟨Hx, Hw, Hk⟩
    iapply (wp_load 𝒱₀ (c : Thread nD τ) none Set.univ (m := xM) (Finset.subset_univ _)) $$ Hx
    iintro Hx
    iapply (slotLoad_rule c d s b q v)
    isplitl [Hw]; · iexact Hw
    iintro Hw
    iapply (gemmS_rule c d s q X v k Q l (macS acc (xB X b) (vB v b)))
    isplitl [Hx]; · iexact Hx
    isplitl [Hw]; · iexact Hw
    iexact Hk

/-! ## The products' buffer -/

variable (x : Dev nD → Vec F S1024x4096 .f32) (w : Dev nD → Vec F S4096x512 .f32)

/-- The block of columns an index lies in. -/
def blkOf (i : S1024x2048.Idx) : Dev nD × Fin 4 :=
  (⟨(i 1).val / 512, by have h : (i 1).val < 2048 := (i 1).isLt; show _ < 4; omega⟩, ⟨(i 1).val % 512 / 128, by omega⟩)
/-- The products' buffer, right on the blocks listed. -/
def yHeld (c : Dev nD) (D : List (Dev nD × Fin 4)) : sProp 𝕄 :=
  iprop(∃ f : Vec F S1024x2048 .f32, at_ yM c f ∗ ⌜∀ i, blkOf i ∈ D → f i = yFull x w c i⌝)
/-- The running maximum over the blocks listed. -/
def lm (c : Dev nD) (D : List (Dev nD × Fin 4)) : F .f32 :=
  D.foldl (fun l p => maxB l (yv x w c p.1 p.2)) (Scalar.ofBits .f32 0x00000000#32)

/-- One block more: the running maximum takes in that block. -/
theorem lm_snoc (c : Dev nD) (D : List (Dev nD × Fin 4)) (p : Dev nD × Fin 4) :
    lm x w c (D ++ [p]) = maxB (lm x w c D) (yv x w c p.1 p.2) := by
  unfold lm; rw [List.foldl_append]; rfl

variable {x w}

/-- After a block is stored, the buffer is right on that block too. -/
theorem y_stored (c : Dev nD) (D : List (Dev nD × Fin 4)) (o : Dev nD) (j : Fin 4) (f : Vec F S1024x2048 .f32)
    (hf : ∀ i, blkOf i ∈ D → f i = yFull x w c i) (i : S1024x2048.Idx) (hi : blkOf i ∈ D ++ [(o, j)]) :
    (yM.access (Rect.unit (s := S1024x2048) (yOff o j) S1024x128.size (yOff_inb o j))).write (Elt F) f
      (shapeCast S1024x128 (yv x w c o j) shapeCasts_S1024x128_S1024x128) Finset.univ i = yFull x w c i := by
  rw [shapeCast_self]
  have h1 : (i 1).val < 2048 := (i 1).isLt
  have h0 : (i 0).val < 1024 := (i 0).isLt
  by_cases hb : blkOf i = (o, j)
  · have ho : (i 1).val / 512 = o.val := congrArg (fun p => p.1.val) hb
    have hj : (i 1).val % 512 / 128 = j.val := congrArg (fun p => p.2.val) hb
    have hz : (Rect.unit (s := S1024x2048) (yOff o j) S1024x128.size (yOff_inb o j)).emb
        (ix2 (n0 := 1024) (n1 := 128) (i 0) ⟨(i 1).val % 128, Nat.mod_lt _ (by decide)⟩) = i := by
      refine funext fun a => Fin.ext ?_
      rw [Rect.emb_apply]
      fin_cases a
      · show 0 + 1 * (i 0).val = (i 0).val; omega
      · show 512 * o.val + 128 * j.val + 1 * ((i 1).val % 128) = (i 1).val; omega
    refine Eq.trans (congrArg _ hz.symm) ((put_in cc0_scratch3 _ f _ _).trans ?_)
    unfold yFull
    rw [show (⟨(i 1).val / 512, _⟩ : Dev nD) = o from Fin.ext ho, show (⟨(i 1).val % 512 / 128, _⟩ : Fin 4) = j from Fin.ext hj]
  · rw [← hf i (by rcases List.mem_append.mp hi with h | h; · exact h
                   exact absurd (List.mem_singleton.mp h) hb)]
    refine put_off cc0_scratch3 _ f _ i fun hm => hb ?_
    have hm' := Rect.mem_set_unit.mp hm (1 : Fin 2)
    have hj := j.isLt
    have ho : o.val < 4 := o.isLt
    simp [yOff] at hm'
    refine Prod.ext (Fin.ext ?_) (Fin.ext ?_)
    · show (i 1).val / 512 = o.val; omega
    · show (i 1).val % 512 / 128 = j.val; omega

/-- Storing a block of products makes the products' buffer right on one block more. -/
theorem storeY_rule (c : Dev nD) (D : List (Dev nD × Fin 4)) (o : Dev nD) (j : Fin 4) (off : Fin 2 → ℕ)
    (h : ∀ a, off a + S1024x128.size a ≤ S1024x2048.size a) (ho : off = yOff o j) (k : PR F) (Q : PUnit → sProp 𝕄) :
    iprop(yHeld x w c D ∗ (yHeld x w c (D ++ [(o, j)]) -∗ run c k Q)) ⊢ run c (storeY off h (yv x w c o j) k) Q := by
  subst ho
  unfold yHeld storeY
  iintro ⟨⟨%f, H, %hf⟩, Hk⟩
  iapply (wp_load 𝒱₀ (c : Thread nD τ) none Set.univ (m := yM) (Finset.subset_univ _)) $$ H
  iintro H
  iapply (store_rule c yM (Rect.unit (s := S1024x2048) (yOff o j) S1024x128.size h) (shapeCast S1024x128 (yv x w c o j) shapeCasts_S1024x128_S1024x128)
    Finset.univ (Finset.subset_univ _) f k Q)
  isplitl [H]; · iexact H
  iintro H
  iapply Hk
  iexists _
  isplitl [H]; · iexact H
  ipureintro; exact y_stored c D o j f hf

/-- A block of products with this device's own columns. -/
theorem ownBlk_rule (c : Dev nD) (D : List (Dev nD × Fin 4)) (j : Fin 4) (ho : k0_off1 c (BitVec.ofNat 32 (128 * j.val)) = yOff c j)
    (k : F .f32 → PR F) (Q : PUnit → sProp 𝕄) :
    iprop(at_ xM c (x c) ∗ at_ wM c (w c) ∗ yHeld x w c D
        ∗ (at_ xM c (x c) ∗ at_ wM c (w c) ∗ yHeld x w c (D ++ [(c, j)]) -∗ run c (k (lm x w c (D ++ [(c, j)]))) Q))
      ⊢ run c (ownBlk c j (lm x w c D) k) Q := by
  have hv : relu (gW (x c) (w c) j) = yv x w c c j := by unfold yv; rw [if_pos rfl]
  rw [lm_snoc]
  unfold ownBlk
  iintro ⟨Hx, Hw, Hy, Hk⟩
  iapply (gemmW_rule c j (x c) (w c) _ Q blks acc0)
  isplitl [Hx]; · iexact Hx
  isplitl [Hw]; · iexact Hw
  iintro ⟨Hx, Hw⟩
  have e : blks.foldl (fun a b => macW a (xB (x c) b) (wB (w c) j b)) acc0 = gW (x c) (w c) j := rfl
  rw [e, hv]
  iapply (storeY_rule c D c j _ (k0_off1_inb c j) ho _ Q)
  isplitl [Hy]; · iexact Hy
  iintro Hy
  iapply Hk
  isplitl [Hx]; · iexact Hx
  isplitl [Hw]; · iexact Hw
  iexact Hy

/-- A block of products with a received slot. -/
theorem slotBlk_rule (c : Dev nD) (D : List (Dev nD × Fin 4)) (d : Bool) (s : Fin 3) (q : PosShare TreeShare) (o : Dev nD) (j : Fin 4)
    (off : Fin 2 → ℕ) (h : ∀ a, off a + S1024x128.size a ≤ S1024x2048.size a) (ho : off = yOff o j) (hc : o ≠ c)
    (k : F .f32 → PR F) (Q : PUnit → sProp 𝕄) :
    iprop(at_ xM c (x c) ∗ part (slot d s) c q (msgVal w o j) ∗ yHeld x w c D
        ∗ (at_ xM c (x c) ∗ part (slot d s) c q (msgVal w o j) ∗ yHeld x w c (D ++ [(o, j)]) -∗ run c (k (lm x w c (D ++ [(o, j)]))) Q))
      ⊢ run c (slotBlk d s off h (lm x w c D) k) Q := by
  have hv : relu (gS (x c) (msgVal w o j)) = yv x w c o j := by unfold yv; rw [if_neg hc]
  rw [lm_snoc]
  unfold slotBlk
  iintro ⟨Hx, Hw, Hy, Hk⟩
  iapply (gemmS_rule c d s q (x c) (msgVal w o j) _ Q blks acc0)
  isplitl [Hx]; · iexact Hx
  isplitl [Hw]; · iexact Hw
  iintro ⟨Hx, Hw⟩
  have e : blks.foldl (fun a b => macS a (xB (x c) b) (vB (msgVal w o j) b)) acc0 = gS (x c) (msgVal w o j) := rfl
  rw [e, hv]
  iapply (storeY_rule c D o j off h ho _ Q)
  isplitl [Hy]; · iexact Hy
  iintro Hy
  iapply Hk
  isplitl [Hx]; · iexact Hx
  isplitl [Hw]; · iexact Hw
  iexact Hy

end Cert.KernelIdeal.Ring

end
-- ==== Proof.Bufs.lean ====
/-
  THE BUFFERS' PARTS: SPLITTING, LENDING AND JOINING.

  The narrowed columns, the slots and the tiles are disjoint parts of their buffers; shares of a part are lent and
  come back.
-/
module

public import proofs.«01_k».proof.Proof.Mem

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx (shapeCast_1ab_ab_apply)
open Idealize.ShloMosaic.Ring (shares3 pointsTo_thirds pointsTo_blocks pointsTo_blocks_join_exists slots3_split slots3_join
  slots3_split_spare slots3_join_spare)
open Cert.KernelIdeal.Gen

variable {F : FTy → Type} [FloatOps F]

local notation "𝕄" => MT nD τ sig ℕ (Elt F) ℕ UU ℕ

/-! ## The parts -/

/-- The cells of column block `j` of the narrowed weights are those of its rectangle. -/
theorem wCols_set (j : Fin 4) : (wCols j).view.set = (Rect.unit (s := S4096x512) ![0, 128 * j.val] S4096x128.size (wCols_inb j)).set :=
  View.set_slice_whole _ _
/-- Entry `s` of a stack of three. -/
def lead {A B : ℕ} (inb : ∀ s : Fin 3, ∀ a, (![s.val, 0, 0] : Fin 3 → ℕ) a + (![1, A, B] : Fin 3 → ℕ) a ≤ (![3, A, B] : Fin 3 → ℕ) a) (s : Fin 3) :
    Finset (⟨3, ![3, A, B]⟩ : Shape).Idx := (Rect.unit (s := ⟨3, ![3, A, B]⟩) ![s.val, 0, 0] ![1, A, B] (inb s)).set
/-- The cells of a clockwise slot are those with its number in front. -/
theorem slot_set_true (s : Fin 3) : (slot true s).view.set = lead slot_inb s := (View.set_reshape _ _).trans (View.set_slice_whole _ _)
/-- The cells of a counterclockwise slot are those with its number in front. -/
theorem slot_set_false (s : Fin 3) : (slot false s).view.set = lead slot_inb s := (View.set_reshape _ _).trans (View.set_slice_whole _ _)
/-- The cells of a slot of the maxima are those with its number in front. -/
theorem gSlot_set (s : Fin 3) : (gSlot s).view.set = lead gSlot_inb s := (View.set_reshape _ _).trans (View.set_slice_whole _ _)
/-- The cells of a slot of the tiles are those with its number in front. -/
theorem aSlot_set (s : Fin 3) : (aSlot s).view.set = lead aSlot_inb s := (View.set_reshape _ _).trans (View.set_slice_whole _ _)

/-- The set of columns `128j …`. -/
def colsSet (j : Fin 4) : Finset S4096x512.Idx := (Rect.unit (s := S4096x512) ![0, 128 * j.val] S4096x128.size (wCols_inb j)).set

/-- Different column blocks share no cell. -/
theorem cols_disj (j j' : Fin 4) (h : j ≠ j') : Disjoint (colsSet j) (colsSet j') := by
  refine Rect.unit_disjoint (1 : Fin 2) ?_
  have : j.val ≠ j'.val := fun e => h (Fin.ext e)
  show 128 * j.val + 128 ≤ 128 * j'.val ∨ 128 * j'.val + 128 ≤ 128 * j.val
  omega
/-- The four column blocks are the whole buffer. -/
theorem cols_cover : Finset.univ.biUnion colsSet = Finset.univ := by
  refine Finset.eq_univ_of_forall fun i => ?_
  have h0 : (i (0 : Fin 2)).val < 4096 := (i (0 : Fin 2)).isLt
  have h1 : (i (1 : Fin 2)).val < 512 := (i (1 : Fin 2)).isLt
  refine Finset.mem_biUnion.mpr ⟨⟨(i (1 : Fin 2)).val / 128, by omega⟩, Finset.mem_univ _, ?_⟩
  refine Rect.mem_set_unit.mpr fun a => ?_
  fin_cases a
  · show 0 ≤ (i (0 : Fin 2)).val ∧ (i (0 : Fin 2)).val < 0 + 4096; omega
  · show 128 * ((i (1 : Fin 2)).val / 128) ≤ (i (1 : Fin 2)).val ∧ (i (1 : Fin 2)).val < 128 * ((i (1 : Fin 2)).val / 128) + 128; omega
/-- Slots of different numbers share no cell. -/
theorem lead_disj {A B : ℕ} (inb) (s s' : Fin 3) (h : s ≠ s') : Disjoint (lead (A := A) (B := B) inb s) (lead inb s') := by
  refine Rect.unit_disjoint (0 : Fin 3) ?_
  have : s.val ≠ s'.val := fun e => h (Fin.ext e)
  show s.val + 1 ≤ s'.val ∨ s'.val + 1 ≤ s.val
  omega
/-- The three slots are the whole buffer. -/
theorem lead_cover {A B : ℕ} (inb) : Finset.univ.biUnion (lead (A := A) (B := B) inb) = Finset.univ := by
  refine Finset.eq_univ_of_forall fun i => Finset.mem_biUnion.mpr ⟨i (0 : Fin 3), Finset.mem_univ _, ?_⟩
  refine Rect.mem_set_unit.mpr fun a => ?_
  have h1 : (i (1 : Fin 3)).val < A := (i (1 : Fin 3)).isLt
  have h2 : (i (2 : Fin 3)).val < B := (i (2 : Fin 3)).isLt
  fin_cases a
  · show (i (0 : Fin 3)).val ≤ (i (0 : Fin 3)).val ∧ (i (0 : Fin 3)).val < (i (0 : Fin 3)).val + 1; omega
  · show 0 ≤ (i (1 : Fin 3)).val ∧ (i (1 : Fin 3)).val < 0 + A; omega
  · show 0 ≤ (i (2 : Fin 3)).val ∧ (i (2 : Fin 3)).val < 0 + B; omega

/-- A view's points-to over its set by another name. -/
theorem over {ℓ : Loc nD τ sig} {S S' : Finset (Idx ℓ)} (h : S = S') (q : PosShare TreeShare) (f : Buf (Elt F) ℓ) :
    (ℓ ↦[S]{q} f : sProp 𝕄) = (ℓ ↦[S']{q} f) := by rw [h]

/-! ## The narrowed columns -/

/-- What is held for each of four numbers is held one after another. -/
theorem four (Φ : Fin 4 → sProp 𝕄) : bigSep Finset.univ Φ ⊢ iprop(Φ 0 ∗ Φ 1 ∗ Φ 2 ∗ Φ 3) := by
  rw [show (Finset.univ : Finset (Fin 4)) = insert 0 (insert 1 (insert 2 {3})) from by decide,
    bigSep_insert (by decide), bigSep_insert (by decide), bigSep_insert (by decide), bigSep_singleton]
  exact BI.Entails.refl _
/-- And the other way round. -/
theorem four' (Φ : Fin 4 → sProp 𝕄) : iprop(Φ 0 ∗ Φ 1 ∗ Φ 2 ∗ Φ 3) ⊢ bigSep Finset.univ Φ := by
  rw [show (Finset.univ : Finset (Fin 4)) = insert 0 (insert 1 (insert 2 {3})) from by decide,
    bigSep_insert (by decide), bigSep_insert (by decide), bigSep_insert (by decide), bigSep_singleton]
  exact BI.Entails.refl _

/-- The narrowed weights held whole are held as four column blocks. -/
theorem h_parts (c : Dev nD) (f : Buf (Elt F) (hM.view.loc (c : Thread nD τ))) :
    at_ hM c f ⊢ (iprop(holds (wCols 0) c ((wCols 0).view.read (Elt F) f) ∗ holds (wCols 1) c ((wCols 1).view.read (Elt F) f)
      ∗ holds (wCols 2) c ((wCols 2).view.read (Elt F) f) ∗ holds (wCols 3) c ((wCols 3).view.read (Elt F) f)) : sProp 𝕄) := by
  have e : (at_ hM c f : sProp 𝕄) = bigSep Finset.univ fun j => (hM.view.loc (c : Thread nD τ) ↦[colsSet j]{fullShare} f) :=
    pointsTo_blocks (ℓ := hM.view.loc (c : Thread nD τ)) (q := fullShare) colsSet cols_disj cols_cover f
  have hp (j : Fin 4) : (hM.view.loc (c : Thread nD τ) ↦[colsSet j]{fullShare} f : sProp 𝕄) ⊢ holds (wCols j) c ((wCols j).view.read (Elt F) f) := by
    refine (Entails.of_eq (over (wCols_set j).symm fullShare f)).trans ?_
    unfold holds part
    iintro H
    iexists f
    isplitl [H]; · iexact H
    ipureintro; rfl
  rw [e]
  refine (four _).trans ?_
  exact BI.sep_mono (hp 0) (BI.sep_mono (hp 1) (BI.sep_mono (hp 2) (hp 3)))

/-- The narrowed weights of a device are held as the four messages it sends first. -/
theorem h_split (w : Dev nD → Vec F S4096x512 .f32) (c : Dev nD) :
    at_ hM c (half (w c)) ⊢ (iprop(holds (wCols 0) c (msgVal w c 0) ∗ holds (wCols 1) c (msgVal w c 1)
      ∗ holds (wCols 2) c (msgVal w c 2) ∗ holds (wCols 3) c (msgVal w c 3)) : sProp 𝕄) := by
  unfold msgVal
  generalize half (w c) = f
  exact h_parts c f

/-- Four column blocks of any contents make up the buffer again. -/
theorem h_join (c : Dev nD) : iprop(lent (wCols 0) c fullShare ∗ lent (wCols 1) c fullShare ∗ lent (wCols 2) c fullShare
    ∗ lent (wCols 3) c fullShare) ⊢ (iprop(∃ f, at_ hM c f) : sProp 𝕄) := by
  have hp (j : Fin 4) : (lent (wCols j) c fullShare : sProp 𝕄) ⊢ iprop(∃ f : Vec F S4096x512 .bf16, (hM.view.loc (c : Thread nD τ) ↦[colsSet j]{fullShare} f)) := by
    unfold lent
    iintro ⟨%f, H⟩
    iexists f
    iapply (Entails.of_eq (over (wCols_set j) fullShare f)); iexact H
  iintro ⟨H0, H1, H2, H3⟩
  ihave H0 := (hp 0) $$ H0
  ihave H1 := (hp 1) $$ H1
  ihave H2 := (hp 2) $$ H2
  ihave H3 := (hp 3) $$ H3
  icases H0 with ⟨%f, H0⟩
  iapply (pointsTo_blocks_join_exists (ℓ := hM.view.loc (c : Thread nD τ)) colsSet cols_disj cols_cover f)
  iapply (four' fun j => iprop(∃ f : Vec F S4096x512 .bf16, (hM.view.loc (c : Thread nD τ) ↦[colsSet j]{fullShare} f)))
  isplitl [H0]; · iexists f; iexact H0
  isplitl [H1]; · iexact H1
  isplitl [H2]; · iexact H2
  iexact H3

/-! ## The slots -/

/-- The clockwise buffer is its three slots. -/
theorem r_split (c : Dev nD) : iprop(∃ f, at_ rM c f) ⊢ (iprop(free (slot true 0) c ∗ free (slot true 1) c ∗ free (slot true 2) c) : sProp 𝕄) := by
  unfold free Release.slot
  exact slots3_split (ℓ := rM.view.loc (c : Thread nD τ)) (lead slot_inb) (lead_disj slot_inb) (lead_cover slot_inb)
    (fun f => ((slot true 0).view.loc (c : Thread nD τ) ↦[(slot true 0).view.set]{fullShare} f : sProp 𝕄))
    (fun f => ((slot true 1).view.loc (c : Thread nD τ) ↦[(slot true 1).view.set]{fullShare} f : sProp 𝕄))
    (fun f => ((slot true 2).view.loc (c : Thread nD τ) ↦[(slot true 2).view.set]{fullShare} f : sProp 𝕄))
    (fun f => over (slot_set_true 0) fullShare f) (fun f => over (slot_set_true 1) fullShare f) (fun f => over (slot_set_true 2) fullShare f)
/-- Three clockwise slots make up their buffer again. -/
theorem r_join (c : Dev nD) : iprop(free (slot true 0) c ∗ free (slot true 1) c ∗ free (slot true 2) c) ⊢ (iprop(∃ f, at_ rM c f) : sProp 𝕄) := by
  unfold free Release.slot
  exact slots3_join (ℓ := rM.view.loc (c : Thread nD τ)) (lead slot_inb) (lead_disj slot_inb) (lead_cover slot_inb)
    (fun f => ((slot true 0).view.loc (c : Thread nD τ) ↦[(slot true 0).view.set]{fullShare} f : sProp 𝕄))
    (fun f => ((slot true 1).view.loc (c : Thread nD τ) ↦[(slot true 1).view.set]{fullShare} f : sProp 𝕄))
    (fun f => ((slot true 2).view.loc (c : Thread nD τ) ↦[(slot true 2).view.set]{fullShare} f : sProp 𝕄))
    (fun f => over (slot_set_true 0) fullShare f) (fun f => over (slot_set_true 1) fullShare f) (fun f => over (slot_set_true 2) fullShare f)
/-- The counterclockwise buffer is its three slots. -/
theorem l_split (c : Dev nD) : iprop(∃ f, at_ lM c f) ⊢ (iprop(free (slot false 0) c ∗ free (slot false 1) c ∗ free (slot false 2) c) : sProp 𝕄) := by
  unfold free Release.slot
  exact slots3_split (ℓ := lM.view.loc (c : Thread nD τ)) (lead slot_inb) (lead_disj slot_inb) (lead_cover slot_inb)
    (fun f => ((slot false 0).view.loc (c : Thread nD τ) ↦[(slot false 0).view.set]{fullShare} f : sProp 𝕄))
    (fun f => ((slot false 1).view.loc (c : Thread nD τ) ↦[(slot false 1).view.set]{fullShare} f : sProp 𝕄))
    (fun f => ((slot false 2).view.loc (c : Thread nD τ) ↦[(slot false 2).view.set]{fullShare} f : sProp 𝕄))
    (fun f => over (slot_set_false 0) fullShare f) (fun f => over (slot_set_false 1) fullShare f) (fun f => over (slot_set_false 2) fullShare f)
/-- Three counterclockwise slots make up their buffer again. -/
theorem l_join (c : Dev nD) : iprop(free (slot false 0) c ∗ free (slot false 1) c ∗ free (slot false 2) c) ⊢ (iprop(∃ f, at_ lM c f) : sProp 𝕄) := by
  unfold free Release.slot
  exact slots3_join (ℓ := lM.view.loc (c : Thread nD τ)) (lead slot_inb) (lead_disj slot_inb) (lead_cover slot_inb)
    (fun f => ((slot false 0).view.loc (c : Thread nD τ) ↦[(slot false 0).view.set]{fullShare} f : sProp 𝕄))
    (fun f => ((slot false 1).view.loc (c : Thread nD τ) ↦[(slot false 1).view.set]{fullShare} f : sProp 𝕄))
    (fun f => ((slot false 2).view.loc (c : Thread nD τ) ↦[(slot false 2).view.set]{fullShare} f : sProp 𝕄))
    (fun f => over (slot_set_false 0) fullShare f) (fun f => over (slot_set_false 1) fullShare f) (fun f => over (slot_set_false 2) fullShare f)
/-- The buffer of the maxima is its three slots. -/
theorem g_split (c : Dev nD) : iprop(∃ f, at_ gM c f) ⊢ (iprop(free (gSlot 0) c ∗ free (gSlot 1) c ∗ free (gSlot 2) c) : sProp 𝕄) := by
  unfold free Release.slot
  exact slots3_split (ℓ := gM.view.loc (c : Thread nD τ)) (lead gSlot_inb) (lead_disj gSlot_inb) (lead_cover gSlot_inb)
    (fun f => ((gSlot 0).view.loc (c : Thread nD τ) ↦[(gSlot 0).view.set]{fullShare} f : sProp 𝕄))
    (fun f => ((gSlot 1).view.loc (c : Thread nD τ) ↦[(gSlot 1).view.set]{fullShare} f : sProp 𝕄))
    (fun f => ((gSlot 2).view.loc (c : Thread nD τ) ↦[(gSlot 2).view.set]{fullShare} f : sProp 𝕄))
    (fun f => over (gSlot_set 0) fullShare f) (fun f => over (gSlot_set 1) fullShare f) (fun f => over (gSlot_set 2) fullShare f)
/-- The buffer of the tiles is its three slots. -/
theorem a_split (c : Dev nD) : iprop(∃ f, at_ aM c f) ⊢ (iprop(free (aSlot 0) c ∗ free (aSlot 1) c ∗ free (aSlot 2) c) : sProp 𝕄) := by
  unfold free Release.slot
  exact slots3_split (ℓ := aM.view.loc (c : Thread nD τ)) (lead aSlot_inb) (lead_disj aSlot_inb) (lead_cover aSlot_inb)
    (fun f => ((aSlot 0).view.loc (c : Thread nD τ) ↦[(aSlot 0).view.set]{fullShare} f : sProp 𝕄))
    (fun f => ((aSlot 1).view.loc (c : Thread nD τ) ↦[(aSlot 1).view.set]{fullShare} f : sProp 𝕄))
    (fun f => ((aSlot 2).view.loc (c : Thread nD τ) ↦[(aSlot 2).view.set]{fullShare} f : sProp 𝕄))
    (fun f => over (aSlot_set 0) fullShare f) (fun f => over (aSlot_set 1) fullShare f) (fun f => over (aSlot_set 2) fullShare f)
/-- Three slots of tiles make up their buffer again. -/
theorem a_join (c : Dev nD) : iprop(free (aSlot 0) c ∗ free (aSlot 1) c ∗ free (aSlot 2) c) ⊢ (iprop(∃ f, at_ aM c f) : sProp 𝕄) := by
  unfold free Release.slot
  exact slots3_join (ℓ := aM.view.loc (c : Thread nD τ)) (lead aSlot_inb) (lead_disj aSlot_inb) (lead_cover aSlot_inb)
    (fun f => ((aSlot 0).view.loc (c : Thread nD τ) ↦[(aSlot 0).view.set]{fullShare} f : sProp 𝕄))
    (fun f => ((aSlot 1).view.loc (c : Thread nD τ) ↦[(aSlot 1).view.set]{fullShare} f : sProp 𝕄))
    (fun f => ((aSlot 2).view.loc (c : Thread nD τ) ↦[(aSlot 2).view.set]{fullShare} f : sProp 𝕄))
    (fun f => over (aSlot_set 0) fullShare f) (fun f => over (aSlot_set 1) fullShare f) (fun f => over (aSlot_set 2) fullShare f)

/-! ## Shares of a part -/

section Share
variable {s : Shape} {e : EltTy} (M : Memref sig .tc .vmem s e) (c : Dev nD)

/-- What is held whole is held in two half shares with the same contents. -/
theorem part_halves (v : Vec F s e) : holds M c v ⊢ iprop(part M c (fullShare : PosShare TreeShare).left v ∗ part M c (fullShare : PosShare TreeShare).right v) := by
  unfold holds part
  iintro ⟨%f, H, %hf⟩
  ihave H' := (pointsTo_share (PosShare.mem_left_op_right fullShare)).1 $$ H
  icases H' with ⟨H0, H1⟩
  isplitl [H0]
  · iexists f
    isplitl [H0]; · iexact H0
    ipureintro; exact hf
  · iexists f
    isplitl [H1]; · iexact H1
    ipureintro; exact hf

/-- A half share with known contents and the other half with any make the whole with the known contents. -/
theorem part_rejoin (v : Vec F s e) : iprop(part M c (fullShare : PosShare TreeShare).left v ∗ lent M c (fullShare : PosShare TreeShare).right) ⊢ holds (F := F) M c v := by
  have hag' (f g) : iprop((M.view.loc (c : Thread nD τ) ↦[M.view.set]{(fullShare : PosShare TreeShare).left} f)
      ∗ (M.view.loc (c : Thread nD τ) ↦[M.view.set]{(fullShare : PosShare TreeShare).right} g)) ⊢ (⌜∀ i ∈ M.view.set ∩ M.view.set, f i = g i ∧ _⌝ : sProp 𝕄) := pointsTo_agree
  unfold holds part lent
  iintro ⟨⟨%f, H0, %hf⟩, ⟨%g, H1⟩⟩
  ihave %hag := (hag' f g) $$ [H0 H1]
  · isplitl [H0]; · iexact H0
    iexact H1
  have e : (M.view.loc (c : Thread nD τ) ↦[M.view.set]{(fullShare : PosShare TreeShare).right} g : sProp 𝕄) ⊢ (M.view.loc (c : Thread nD τ) ↦[M.view.set]{(fullShare : PosShare TreeShare).right} f) :=
    Entails.of_eq (pointsTo_congr fun i hi => ((hag i (Finset.mem_inter.mpr ⟨hi, hi⟩)).1).symm)
  ihave H1 := e $$ H1
  iexists f
  isplitl [H0 H1]
  · iapply (pointsTo_share (PosShare.mem_left_op_right fullShare)).2
    isplitl [H0]; · iexact H0
    iexact H1
  ipureintro; exact hf

end Share

end Cert.KernelIdeal.Ring

end
-- ==== Proof.Comm.lean ====
/-
  ONE STAGE AT A TIME: THE KERNEL'S OWN SIGNALS, COPIES AND WAITS.

  `Rules.lean` at the kernel's dues: what each needs and what it gives back.
-/
module

public import proofs.«01_k».proof.Proof.Rules

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (shares3 pointsTo_thirds)
open Idealize.ShloMosaic.TalkSites (tallyL tallyL_pos)
open Cert.KernelIdeal.Gen

variable {F : FTy → Type} [FloatOps F]

local notation "𝕄" => MT nD τ sig ℕ (Elt F) ℕ UU ℕ

variable {x : Dev nD → Vec F S1024x4096 .f32} {w : Dev nD → Vec F S4096x512 .f32}
variable {κ : Dev nD × Kind → ℕ} {ι : Key → ℕ}

/-- Every level in a list lies above `i`. -/
abbrev above (i : ℕ) (l : List Due) : Prop := ∀ p ∈ l, i < p.ix ∧ p.ix < 22

/-- A message's slot and round determine it. -/
theorem msgAt_sl : ∀ m : Fin 6, msgAt (sl m) (m.val / 3) = m := by decide
/-- Going `1 + e` places and then the mirrored number of places leads back. -/
theorem rot_rev (e : Fin 3) (c : Dev nD) : rot (1 + e.rev.val) (rot (1 + e.val) c) = c := by revert e c; decide

/-- What is held for every member of a one-element set is held for that member. -/
theorem single (Φ : Fin 3 → sProp 𝕄) (n : Fin 3) : bigSep {n} Φ ⊢ Φ n := Entails.of_eq (bigSep_singleton (Φ := Φ))

/-! ## The ring -/

/-- Message `m` is sent on to the next device. -/
theorem ring_rule (c : Dev nD) (d : Bool) (m : Fin 6) (l : List Due) (k : PR F) (Q : PUnit → sProp 𝕄) :
    iprop(recs x w κ ι ∗ reached ER (cell (nx d c) (.recv d (sl m))) (m.val / 3) ∗ part (srcOf d m) c (shr m) (rv w (nx d c) d m)
        ∗ free (slot d (sl m)) (nx d c) ∗ extra (nx d c) d m.val ∗ todo c (.ring d m :: l)
        ∗ (cred (tallyAt (cell c (.send d m)) 0 NR) ∗ todo c l -∗ run c k Q))
      ⊢ run c (ringSend d m (nx d c) k) Q := by
  unfold part
  iintro ⟨#HR, #Hr, ⟨%f, Hs, %hf⟩, Hd, He, Ht, Hk⟩
  unfold ringSend
  iapply (copy_rule (x := x) (w := w) (κ := κ) (ι := ι) c (.ring d m) (.left d m) l rfl rfl rfl rfl (c' := nx d c) rfl
    (by exact slot_credit d (sl m)) rfl rfl (qs := shr m) (fs := f) (Fr := extra (nx d c) d m.val)
    (by
      show _ ⊢ leftPay c d m
      unfold leftPay lent
      iintro H
      iexists f; iexact H)
    (by
      show _ ⊢ iprop(holds (slot d (sl m)) (nx d c) (rv w (nx d c) d (msgAt (sl m) (m.val / 3))) ∗ extra (nx d c) d (msgAt (sl m) (m.val / 3)).val)
      rw [msgAt_sl, hf]) k Q)
  isplitr; · iexact HR
  isplitr; · iexact Hr
  isplitl [Hs]; · iexact Hs
  isplitl [Hd]; · iexact Hd
  isplitl [He]; · iexact He
  isplitl [Ht]; · iexact Ht
  iexact Hk

/-- The round of a message on its slot's semaphore has exactly one duty. -/
theorem duties_recv (d : Bool) (m : Fin 6) : dutiesK (.recv d (sl m)) (m.val / 3) = {0} := by revert d m; decide

/-- Message `m` has arrived. -/
theorem ringRecv_rule (c : Dev nD) (d : Bool) (m : Fin 6) (lp : List Kind) (l : List Due) (hr : lp.count (.recv d (sl m)) = m.val / 3)
    (hl : above (2 * m.val + 2) l) (k : PR F) (Q : PUnit → sProp 𝕄) :
    iprop(recs x w κ ι ∗ cred (tallyAt (cell c (.recv d (sl m))) (2 * m.val + 2) NR) ∗ todo c l ∗ pos c lp
        ∗ (todo c l ∗ pos c (.recv d (sl m) :: lp) ∗ reached ER (cell c (.recv d (sl m))) (m.val / 3 + 1)
            ∗ holds (slot d (sl m)) c (rv w c d m) ∗ extra c d m.val -∗ run c k Q))
      ⊢ run c (ringRecv d m k) Q := by
  have hpay : bigSep (dutiesK (.recv d (sl m)) (m.val / 3)) (payK x w c (.recv d (sl m)) (m.val / 3))
      ⊢ iprop(holds (slot d (sl m)) c (rv w c d m) ∗ extra c d m.val) := by
    rw [duties_recv]
    refine (single _ 0).trans ?_
    show iprop(holds (slot d (sl m)) c (rv w c d (msgAt (sl m) (m.val / 3))) ∗ extra c d (msgAt (sl m) (m.val / 3)).val) ⊢ _
    rw [msgAt_sl]
  iintro ⟨#HR, Hc, Ht, Hp, Hk⟩
  unfold ringRecv
  iapply (wait_rule (x := x) (w := w) (κ := κ) (ι := ι) c (.recv d (sl m)) (2 * m.val + 2) NR (m.val / 3) lp l rfl
    (fun K => by rw [← slot_credit d (sl m)]; exact wpE_waitDma2_eq 𝒱₀ (c : Thread nD τ) none Set.univ K) rfl hr
    (by rw [duties_recv, Finset.card_singleton, Nat.one_mul]) (by omega) hl k Q)
  isplitr; · iexact HR
  isplitl [Hc]; · iexact Hc
  isplitl [Ht]; · iexact Ht
  isplitl [Hp]; · iexact Hp
  iintro ⟨Ht, Hp, Hr, Hb⟩
  iapply Hk
  isplitl [Ht]; · iexact Ht
  isplitl [Hp]; · iexact Hp
  isplitl [Hr]; · iexact Hr
  iapply hpay; iexact Hb

/-- Message `m` has left. -/
theorem ringDone_rule (c : Dev nD) (d : Bool) (m : Fin 6) (lp : List Kind) (l : List Due) (hr : lp.count (.send d m) = 0)
    (hl : above 0 l) (k : PR F) (Q : PUnit → sProp 𝕄) :
    iprop(recs x w κ ι ∗ cred (tallyAt (cell c (.send d m)) 0 NR) ∗ todo c l ∗ pos c lp
        ∗ (todo c l ∗ pos c (.send d m :: lp) ∗ lent (srcOf d m) c (shr m) -∗ run c k Q))
      ⊢ run c (ringDone d m k) Q := by
  have hpay : bigSep (dutiesK (.send d m) 0) (payK x w c (.send d m) 0) ⊢ lent (srcOf d m) c (shr m) := single _ 0
  iintro ⟨#HR, Hc, Ht, Hp, Hk⟩
  unfold ringDone
  iapply (wait_rule (x := x) (w := w) (κ := κ) (ι := ι) c (.send d m) 0 NR 0 lp l rfl
    (fun K => by rw [← srcOf_credit d m]; exact wpE_waitDma2_eq 𝒱₀ (c : Thread nD τ) none Set.univ K) rfl hr
    (by show 1 * NR = NR; rw [Nat.one_mul]) (by omega) hl k Q)
  isplitr; · iexact HR
  isplitl [Hc]; · iexact Hc
  isplitl [Ht]; · iexact Ht
  isplitl [Hp]; · iexact Hp
  iintro ⟨Ht, Hp, -, Hb⟩
  iapply Hk
  isplitl [Ht]; · iexact Ht
  isplitl [Hp]; · iexact Hp
  iapply hpay; iexact Hb

/-! ## Credits -/

/-- After `n` credits of a direction: some `n` of them have been taken, with what they said. -/
def cst (c : Dev nD) (d : Bool) (n : ℕ) : sProp 𝕄 :=
  iprop(∃ S : Finset (Fin 3), ⌜n ≤ S.card⌝ ∗ atPos ER (cell c (.cred d)) 0 S n ∗ Release.heard (credPay c d) S)

/-- Among more than `n` different numbers of three, one is at least `n`. -/
theorem some_late : ∀ (n : Fin 3) (S : Finset (Fin 3)), n.val + 1 ≤ S.card → ∃ j ∈ S, n ≤ j := by decide

/-- Having heard more than `n` credits, a device knows that slot `n` has been released. -/
theorem heard_fact (c : Dev nD) (d : Bool) (n : Fin 3) (S : Finset (Fin 3)) (h : n.val + 1 ≤ S.card) :
    Release.heard (credPay c d) S ⊢ credFact (F := F) c d n := by
  obtain ⟨j, hj, hn⟩ := some_late n S h
  refine (Release.heard_elim (credPay c d) hj).trans ?_
  unfold credPay
  exact Release.heard_elim (credFact c d) (by simp [hn])

/-- A part of a set and the rest of it make up the set. -/
theorem sdiff_union (S T : Finset (Fin 3)) (h : T ⊆ S) : T ∪ (S \ T) = S := Finset.union_sdiff_of_subset h

/-- A credit that is not the last. -/
theorem credit_rule (c : Dev nD) (d : Bool) (n : Fin 3) (l : List Due) (hl : above (2 * n.val + 3) l)
    (k : PR F) (Q : PUnit → sProp 𝕄) :
    iprop(recs x w κ ι ∗ cred (tallyAt (cell c (.cred d)) (2 * n.val + 3) 1) ∗ todo c l ∗ cst c d n.val
        ∗ (todo c l ∗ cst c d (n.val + 1) ∗ credFact c d n -∗ run c k Q))
      ⊢ run c (wait1 (credS d) 1#32 k) Q := by
  have hi₁ := recs_inv (x := x) (w := w) (κ := κ) (ι := ι) c (.cred d)
  have hx : (sched x w).expect (cell c (.cred d)) 0 = 3 := expect_cell x w c (.cred d) 0
  have hdu : (sched x w).duties (cell c (.cred d)) 0 = Finset.univ := duties_cell x w c (.cred d) 0
  have hp (S T : Finset (Fin 3)) : bigSep (S \ T) (fun j => (sched x w).payload (cell c (.cred d)) 0 j)
      ⊢ Release.heard (credPay c d) (S \ T) :=
    Entails.of_eq (bigSep_congr fun j _ => payload_cell x w c (.cred d) 0 j)
  have hj (S T : Finset (Fin 3)) (h : T ⊆ S) : iprop(Release.heard (credPay (F := F) c d) T ∗ Release.heard (credPay c d) (S \ T))
      ⊢ Release.heard (credPay c d) S := by
    have := Release.heard_union (credPay (F := F) c d) T (S \ T)
    rwa [sdiff_union S T h] at this
  unfold wait1
  show _ ⊢ run c (.op (.semWait (credS d) ((1 : ℕ) : ℤ)) _) Q
  unfold cst todo
  iintro ⟨#HR, Hc, ⟨⟨%W, Ho⟩, Hl⟩, ⟨%T, %hT, Hat, #HT⟩, Hk⟩
  ihave #Hi₁ := hi₁ $$ HR
  ihave #Hlev := recs_lev $$ HR
  iapply (Rounds.wp_wait 𝒱₀ ER (sched x w) (c : Thread nD τ) none (κ := κ (c, .cred d))
      (wpE_semWait_eq 𝒱₀ (c : Thread nD τ) none Set.univ) (Set.mem_univ _)
      (cr := Finsupp.single (2 * n.val + 3) 1) (O := tallyL (l.map (pay c))) (W := W) {(SemLoc.reg (credS d), 2 * n.val + 3)} (R := 0) (m := n.val) (T := T)
      (Util.total_single _ _) (image_single_subset _ _ _)) $$ [Hc Ho Hat]
  · isplitr; · iexact Hi₁
    isplitl [Hc]; · iexact Hc
    isplitl [Ho]; · iexact Ho
    isplitr; · iapply (mayWait c (.reg (credS d)) (2 * n.val + 3) l (by omega) hl); iexact Hlev
    iexact Hat
  iintro %S ⟨%hS, Ho, Hat, Hb⟩
  obtain ⟨hTS, hS2, hS3⟩ := hS
  have hcard : n.val + 1 ≤ S.card := by
    have h3 : n.val + 1 + ((sched x w).duties (cell c (.cred d)) 0 \ S).card ≤ (sched x w).expect (cell c (.cred d)) 0 := hS3
    rw [hx, hdu, Finset.card_sdiff_of_subset (Finset.subset_univ S), Finset.card_univ, Fintype.card_fin] at h3
    have := S.card_le_univ
    rw [Fintype.card_fin] at this
    omega
  ihave #Hb' := (hp S T) $$ Hb
  ihave #HS := (hj S T hTS) $$ []
  · isplitr; · iexact HT
    iexact Hb'
  ihave #Hf := (heard_fact c d n S hcard) $$ HS
  iapply Hk
  isplitl [Ho Hl]
  · isplitl [Ho]; · iexists _; iexact Ho
    iexact Hl
  isplitl [Hat]
  · iexists S
    isplitr; · ipureintro; exact hcard
    isplitl [Hat]; · iexact Hat
    iexact HS
  iexact Hf

/-- The last credit. -/
theorem creditLast_rule (c : Dev nD) (d : Bool) (l : List Due) (hl : above 7 l) (k : PR F) (Q : PUnit → sProp 𝕄) :
    iprop(recs x w κ ι ∗ cred (tallyAt (cell c (.cred d)) 7 1) ∗ todo c l ∗ cst c d 2
        ∗ (todo c l ∗ atPos ER (cell c (.cred d)) 1 ∅ 0 ∗ credFact c d 2 -∗ run c k Q))
      ⊢ run c (wait1 (credS d) 1#32 k) Q := by
  have hi₁ := recs_inv (x := x) (w := w) (κ := κ) (ι := ι) c (.cred d)
  have hx : (2 : ℕ) + 1 = (sched x w).expect (cell c (.cred d)) 0 := (expect_cell x w c (.cred d) 0).symm
  have hp (T : Finset (Fin 3)) : bigSep ((sched x w).duties (cell c (.cred d)) 0 \ T) (fun j => (sched x w).payload (cell c (.cred d)) 0 j)
      ⊢ Release.heard (credPay c d) (Finset.univ \ T) := by
    rw [show (sched x w).duties (cell c (.cred d)) 0 = Finset.univ from duties_cell x w c (.cred d) 0]
    exact Entails.of_eq (bigSep_congr fun j _ => payload_cell x w c (.cred d) 0 j)
  have hj (T : Finset (Fin 3)) : iprop(Release.heard (credPay (F := F) c d) T ∗ Release.heard (credPay c d) (Finset.univ \ T))
      ⊢ Release.heard (credPay c d) Finset.univ := by
    have := Release.heard_union (credPay (F := F) c d) T (Finset.univ \ T)
    rwa [sdiff_union Finset.univ T (Finset.subset_univ T)] at this
  unfold wait1
  show _ ⊢ run c (.op (.semWait (credS d) ((1 : ℕ) : ℤ)) _) Q
  unfold cst todo
  iintro ⟨#HR, Hc, ⟨⟨%W, Ho⟩, Hl⟩, ⟨%T, %hT, Hat, #HT⟩, Hk⟩
  ihave #Hi₁ := hi₁ $$ HR
  ihave #Hlev := recs_lev $$ HR
  iapply (Rounds.wp_wait_rest_token 𝒱₀ ER (sched x w) (c : Thread nD τ) none (κ := κ (c, .cred d))
      (wpE_semWait_eq 𝒱₀ (c : Thread nD τ) none Set.univ) (Set.mem_univ _) 7
      (O := tallyL (l.map (pay c))) (W := W) (R := 0) (m := 2) (T := T) hx) $$ [Hc Ho Hat]
  · isplitr; · iexact Hi₁
    isplitl [Hc]; · iexact Hc
    isplitl [Ho]; · iexact Ho
    isplitr; · iapply (mayWait c (.reg (credS d)) 7 l (by omega) hl); iexact Hlev
    iexact Hat
  iintro ⟨Ho, Hat, -, Hb⟩
  ihave #Hb' := (hp T) $$ Hb
  ihave #HS := (hj T) $$ []
  · isplitr; · iexact HT
    iexact Hb'
  ihave #Hf := (heard_fact c d 2 Finset.univ (by decide)) $$ HS
  iapply Hk
  isplitl [Ho Hl]
  · isplitl [Ho]; · iexists _; iexact Ho
    iexact Hl
  isplitl [Hat]; · iexact Hat
  iexact Hf

/-! ## Maxima and tiles -/

/-- Sending the maximum lends a third of it and gives the receiver's slot away. -/
theorem max_rule (c : Dev nD) (e : Fin 3) (l : List Due) (k : PR F) (Q : PUnit → sProp 𝕄) :
    iprop(recs x w κ ι ∗ (mM.view.loc (c : Thread nD τ) ↦[mM.view.set]{shares3 fullShare e} mFull x w c)
        ∗ free (gSlot e.rev) (rot (1 + e.val) c) ∗ todo c (.max e :: l)
        ∗ (cred (tallyAt (cell c (.mSend e)) 0 NM) ∗ todo c l -∗ run c k Q))
      ⊢ run c (maxSend e (rot (1 + e.val) c) k) Q := by
  have hrc := recs_reached (x := x) (w := w) (κ := κ) (ι := ι) (rot (1 + e.val) c) (.mRecv e.rev)
  iintro ⟨#HR, Hs, Hd, Ht, Hk⟩
  ihave #Hr := hrc $$ HR
  unfold maxSend
  iapply (copy_rule (x := x) (w := w) (κ := κ) (ι := ι) c (.max e) (.mLeft e) l rfl rfl rfl rfl (c' := rot (1 + e.val) c) rfl
    (by exact gSlot_credit e.rev) rfl rfl (qs := shares3 fullShare e) (fs := mFull x w c) (Fr := iprop(emp))
    (by exact BI.Entails.refl _)
    (by
      show _ ⊢ holds (gSlot e.rev) (rot (1 + e.val) c) (mFull x w (rot (1 + e.rev.val) (rot (1 + e.val) c)))
      rw [rot_rev, show mM.view.read (Elt F) (mFull x w c) = mFull x w c from View.read_whole _ _]
      iintro ⟨H, -⟩; iexact H) k Q)
  isplitr; · iexact HR
  isplitr; · iexact Hr
  isplitl [Hs]; · iexact Hs
  isplitl [Hd]; · iexact Hd
  isplitr; · iempintro
  isplitl [Ht]; · iexact Ht
  iexact Hk

/-- Sending a quantised tile lends it and gives the receiver's slot away. -/
theorem tile_rule (c : Dev nD) (e : Fin 3) (l : List Due) (k : PR F) (Q : PUnit → sProp 𝕄) :
    iprop(recs x w κ ι ∗ holds (qT c e) c (tileV x w c (rot (1 + e.val) c))
        ∗ free (aSlot e.rev) (rot (1 + e.val) c) ∗ todo c (.tile e :: l)
        ∗ (cred (tallyAt (cell c (.tSend e)) 0 NT) ∗ todo c l -∗ run c k Q))
      ⊢ run c (.op (.enqueueDma (qT c e) (.remote (Dev.tc (rot (1 + e.val) c)) (aSlot e.rev) (.dma (sem3 cc0_scratch12 e))) (.dma (sem3 cc0_scratch13 e.rev))
    (qT_exact c e) (aSlot_exact e.rev) ⟨⟨rfl, Or.inl rfl⟩, trivial⟩) fun _ => k) Q := by
  have hrc := recs_reached (x := x) (w := w) (κ := κ) (ι := ι) (rot (1 + e.val) c) (.tRecv e.rev)
  unfold holds part
  iintro ⟨#HR, ⟨%f, Hs, %hf⟩, Hd, Ht, Hk⟩
  ihave #Hr := hrc $$ HR
  iapply (copy_rule (x := x) (w := w) (κ := κ) (ι := ι) c (.tile e) (.tLeft e) l rfl rfl rfl rfl (c' := rot (1 + e.val) c) rfl
    (by exact aSlot_credit e.rev) rfl rfl (qs := fullShare) (fs := f) (Fr := iprop(emp))
    (by
      show _ ⊢ free (qT c e) c
      unfold free Release.slot
      iintro H
      iexists f; iexact H)
    (by
      show _ ⊢ holds (aSlot e.rev) (rot (1 + e.val) c) (tileV x w (rot (1 + e.rev.val) (rot (1 + e.val) c)) (rot (1 + e.val) c))
      rw [rot_rev, hf]
      iintro ⟨H, -⟩; iexact H) k Q)
  isplitr; · iexact HR
  isplitr; · iexact Hr
  isplitl [Hs]; · iexact Hs
  isplitl [Hd]; · iexact Hd
  isplitr; · iempintro
  isplitl [Ht]; · iexact Ht
  iexact Hk

/-- A wait for the one payment of a semaphore with one round. -/
theorem once_rule (c : Dev nD) (k₀ : Kind) (i n : ℕ) (lp : List Kind) (l : List Due) {sm : SemLoc sig} (hs : semOf k₀ = sm)
    {wt : TpuEff nD τ sig (Elt F) Λ₀ .tc PUnit}
    (hw : ∀ K : PUnit → sProp 𝕄, wpE (defs₀ (F := F)) 𝒱₀ (c : Thread nD τ) none Set.univ wt K = waitSpec (c : Thread nD τ) Set.univ sm n K)
    (hk₀ : whole k₀ = true) (hr : lp.count k₀ = 0) (hd : dutiesK k₀ 0 = {0}) (hn : units k₀ = n) (hi : i < 22) (hl : above i l)
    (k : PR F) (Q : PUnit → sProp 𝕄) :
    iprop(recs x w κ ι ∗ cred (tallyAt (cell c k₀) i n) ∗ todo c l ∗ pos c lp
        ∗ (todo c l ∗ pos c (k₀ :: lp) ∗ payK x w c k₀ 0 0 -∗ run c k Q))
      ⊢ run c (.op wt fun _ => k) Q := by
  have hpay : bigSep (dutiesK k₀ 0) (payK x w c k₀ 0) ⊢ payK x w c k₀ 0 0 := by rw [hd]; exact single _ 0
  iintro ⟨#HR, Hc, Ht, Hp, Hk⟩
  iapply (wait_rule (x := x) (w := w) (κ := κ) (ι := ι) c k₀ i n 0 lp l hs hw hk₀ hr
    (by rw [hd, Finset.card_singleton, Nat.one_mul, hn]) hi hl k Q)
  isplitr; · iexact HR
  isplitl [Hc]; · iexact Hc
  isplitl [Ht]; · iexact Ht
  isplitl [Hp]; · iexact Hp
  iintro ⟨Ht, Hp, -, Hb⟩
  iapply Hk
  isplitl [Ht]; · iexact Ht
  isplitl [Hp]; · iexact Hp
  iapply hpay; iexact Hb

/-- Waiting for a maximum brings the slot holding the sender's maximum. -/
theorem maxRecv_rule (c : Dev nD) (e : Fin 3) (lp : List Kind) (l : List Due) (hr : lp.count (.mRecv e.rev) = 0) (hl : above 20 l)
    (k : PR F) (Q : PUnit → sProp 𝕄) :
    iprop(recs x w κ ι ∗ cred (tallyAt (cell c (.mRecv e.rev)) 20 NM) ∗ todo c l ∗ pos c lp
        ∗ (todo c l ∗ pos c (.mRecv e.rev :: lp) ∗ holds (gSlot e.rev) c (mFull x w (rot (1 + e.rev.val) c)) -∗ run c k Q))
      ⊢ run c (maxRecv e k) Q :=
  once_rule c (.mRecv e.rev) 20 NM lp l rfl
    (fun K => by rw [← gSlot_credit e.rev]; exact wpE_waitDma2_eq 𝒱₀ (c : Thread nD τ) none Set.univ K) rfl hr rfl rfl (by omega) hl k Q
/-- Waiting for the maximum to have left brings the lent third back. -/
theorem maxDone_rule (c : Dev nD) (e : Fin 3) (lp : List Kind) (l : List Due) (hr : lp.count (.mSend e) = 0) (hl : above 0 l)
    (k : PR F) (Q : PUnit → sProp 𝕄) :
    iprop(recs x w κ ι ∗ cred (tallyAt (cell c (.mSend e)) 0 NM) ∗ todo c l ∗ pos c lp
        ∗ (todo c l ∗ pos c (.mSend e :: lp) ∗ (mM.view.loc (c : Thread nD τ) ↦[mM.view.set]{shares3 fullShare e} mFull x w c) -∗ run c k Q))
      ⊢ run c (maxDone e k) Q :=
  once_rule c (.mSend e) 0 NM lp l rfl
    (fun K => by rw [← mM_credit]; exact wpE_waitDma2_eq 𝒱₀ (c : Thread nD τ) none Set.univ K) rfl hr rfl rfl (by omega) hl k Q
/-- Waiting for a tile brings the slot holding the sender's quantised tile. -/
theorem tileRecv_rule (c : Dev nD) (e : Fin 3) (lp : List Kind) (l : List Due) (hr : lp.count (.tRecv e.rev) = 0) (hl : above 21 l)
    (k : PR F) (Q : PUnit → sProp 𝕄) :
    iprop(recs x w κ ι ∗ cred (tallyAt (cell c (.tRecv e.rev)) 21 NT) ∗ todo c l ∗ pos c lp
        ∗ (todo c l ∗ pos c (.tRecv e.rev :: lp) ∗ holds (aSlot e.rev) c (tileV x w (rot (1 + e.rev.val) c) c) -∗ run c k Q))
      ⊢ run c (tileRecv c e k) Q :=
  once_rule c (.tRecv e.rev) 21 NT lp l rfl
    (fun K => by rw [← aSlot_credit e.rev]; exact wpE_waitDma2_eq 𝒱₀ (c : Thread nD τ) none Set.univ K) rfl hr rfl rfl (by omega) hl k Q
/-- Waiting for a tile to have left brings its columns back. -/
theorem tileDone_rule (c : Dev nD) (e : Fin 3) (lp : List Kind) (l : List Due) (hr : lp.count (.tSend e) = 0) (hl : above 0 l)
    (k : PR F) (Q : PUnit → sProp 𝕄) :
    iprop(recs x w κ ι ∗ cred (tallyAt (cell c (.tSend e)) 0 NT) ∗ todo c l ∗ pos c lp
        ∗ (todo c l ∗ pos c (.tSend e :: lp) ∗ free (qT c e) c -∗ run c k Q))
      ⊢ run c (tileDone c e k) Q :=
  once_rule c (.tSend e) 0 NT lp l rfl
    (fun K => by rw [← qT_credit c e]; exact wpE_waitDma2_eq 𝒱₀ (c : Thread nD τ) none Set.univ K) rfl hr rfl rfl (by omega) hl k Q

/-! ## The barrier -/

/-- The barrier's wait brings both neighbours' slots. -/
theorem bar_rule (c : Dev nD) (lp : List Kind) (l : List Due) (hr : lp.count .bar = 0) (hl : above 1 l) (k : PR F) (Q : PUnit → sProp 𝕄) :
    iprop(recs x w κ ι ∗ cred (tallyAt (cell c .bar) 1 2) ∗ todo c l ∗ pos c lp
        ∗ (todo c l ∗ pos c (.bar :: lp) ∗ barPay c true ∗ barPay c false -∗ run c k Q))
      ⊢ run c (wait1 barS 2#32 k) Q := by
  have hpay : bigSep (dutiesK .bar 0) (payK x w c .bar 0) ⊢ iprop(barPay c true ∗ barPay c false) := by
    have e : bigSep (insert (1 : Fin 3) {0}) (payK x w c .bar 0) ⊢ iprop(payK x w c .bar 0 1 ∗ bigSep {0} (payK x w c .bar 0)) :=
      Entails.of_eq (bigSep_insert (by decide))
    refine (Entails.of_eq (by rw [show dutiesK .bar 0 = insert (1 : Fin 3) {0} from by decide])).trans (e.trans ?_)
    exact BI.sep_mono (by exact BI.Entails.refl _) ((single _ 0).trans (by exact BI.Entails.refl _))
  unfold wait1
  show _ ⊢ run c (.op (.semWait barS ((2 : ℕ) : ℤ)) _) Q
  iintro ⟨#HR, Hc, Ht, Hp, Hk⟩
  iapply (wait_rule (x := x) (w := w) (κ := κ) (ι := ι) c .bar 1 2 0 lp l rfl
    (fun K => wpE_semWait_eq 𝒱₀ (c : Thread nD τ) none Set.univ K) rfl hr (by decide) (by omega) hl k Q)
  isplitr; · iexact HR
  isplitl [Hc]; · iexact Hc
  isplitl [Ht]; · iexact Ht
  isplitl [Hp]; · iexact Hp
  iintro ⟨Ht, Hp, -, Hb⟩
  iapply Hk
  isplitl [Ht]; · iexact Ht
  isplitl [Hp]; · iexact Hp
  iapply hpay; iexact Hb

end Cert.KernelIdeal.Ring

end
-- ==== Proof.Tail.lean ====
/-
  NARROWING, MAXIMA, TILES AND THE RESULT.

  The memory stages before and after the ring.
-/
module

public import proofs.«01_k».proof.Proof.Bufs
public import proofs.«01_k».proof.Proof.Comm

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx (shapeCast_1ab_ab_apply)
open Idealize.ShloMosaic.Ring (shares3 pointsTo_thirds bigSep_fin3 slots3_split_spare slots3_join_spare)
open Cert.KernelIdeal.Gen

variable {F : FTy → Type} [FloatOps F]

local notation "𝕄" => MT nD τ sig ℕ (Elt F) ℕ UU ℕ

variable {x : Dev nD → Vec F S1024x4096 .f32} {w : Dev nD → Vec F S4096x512 .f32}
variable {κ : Dev nD × Kind → ℕ} {ι : Key → ℕ}

/-- A load from elements held. -/
theorem load_rule (c : Dev nD) {s : Shape} {e : EltTy} (M : Memref sig .tc .vmem s e) (r : LoadRect s) {hl : M.view.LoadsAt r}
    (S : Finset (Idx (M.view.loc (c : Thread nD τ)))) (hS : M.view.setOn r.set ⊆ S) (q : PosShare TreeShare)
    (f : Buf (Elt F) (M.view.loc (c : Thread nD τ))) (k : (r.shape.Idx → Elt F e) → PR F) (Q : PUnit → sProp 𝕄) :
    iprop((M.view.loc (c : Thread nD τ) ↦[S]{q} f)
        ∗ ((M.view.loc (c : Thread nD τ) ↦[S]{q} f) -∗ run c (k (M.view.readAt (Elt F) r f)) Q))
      ⊢ run c (.op (.load M r hl) k) Q := by
  have h : (M.view.loc (c : Thread nD τ) ↦[S]{q} f : sProp 𝕄)
      ⊢ iprop(((M.view.loc (c : Thread nD τ) ↦[S]{q} f) -∗ run c (k (M.view.readAt (Elt F) r f)) Q) -∗ run c (.op (.load M r hl) k) Q) :=
    wp_load 𝒱₀ (c : Thread nD τ) none Set.univ (m := M) hS
  iintro ⟨H, Hk⟩
  ihave H' := h $$ H
  iapply H'
  iexact Hk

/-- The offset of a whole matrix is zero. -/
theorem zero2 : (![0, 0] : Fin 2 → ℕ) = fun _ => 0 := funext fun a => by fin_cases a <;> rfl
/-- The offset of a whole stack is zero. -/
theorem zero3 : (![0, 0, 0] : Fin 3 → ℕ) = fun _ => 0 := funext fun a => by fin_cases a <;> rfl

/-! ## Narrowing -/

/-- Narrowing `w` writes its rounding into the buffer the messages are sent from. -/
theorem narrow_rule (c : Dev nD) (W : Vec F S4096x512 .f32) (k : PR F) (Q : PUnit → sProp 𝕄) :
    iprop(at_ wM c W ∗ (∃ f, at_ hM c f) ∗ (at_ wM c W ∗ at_ hM c (half W) -∗ run c k Q)) ⊢ run c (narrow k) Q := by
  have e : wM.view.readAt (Elt F) (Rect.unit (s := S4096x512) ![0, 0] S4096x512.size inbH).toLoadRect W = W :=
    Memref.readAt_unit_zero (Elt F) cc0_stg1_0 zero2 inbH W
  have e' (f : Vec F S4096x512 .bf16) (v : Vec F S4096x512 .bf16) :
      (hM.access (Rect.unit (s := S4096x512) ![0, 0] S4096x512.size inbH)).write (Elt F) f v Finset.univ = v :=
    Memref.write_access_unit_zero_univ (Elt F) cc0_scratch0 zero2 inbH f v
  unfold narrow
  iintro ⟨Hw, ⟨%f, Hh⟩, Hk⟩
  iapply (load_rule c wM _ Finset.univ (Finset.subset_univ _) fullShare W)
  isplitl [Hw]; · iexact Hw
  irw [e]
  iintro Hw
  iapply (load_rule c hM _ Finset.univ (Finset.subset_univ _) fullShare f)
  isplitl [Hh]; · iexact Hh
  iintro Hh
  iapply (store_rule c hM (Rect.unit (s := S4096x512) ![0, 0] S4096x512.size inbH) (half W) Finset.univ (Finset.subset_univ _) f k Q)
  isplitl [Hh]; · iexact Hh
  iintro Hh
  iapply Hk
  isplitl [Hw]; · iexact Hw
  iapply (Entails.of_eq (congrArg (fun g => (at_ hM c g : sProp 𝕄)) (e' f (half W)))); iexact Hh

/-! ## Maxima -/

/-- Storing the local maximum fills its buffer with it. -/
theorem storeM_rule (c : Dev nD) (k : PR F) (Q : PUnit → sProp 𝕄) :
    iprop((∃ f, at_ mM c f) ∗ (at_ mM c (mFull x w c) -∗ run c k Q)) ⊢ run c (storeM (lmaxOf x w c) k) Q := by
  have e' (f v : Vec F S8x128 .f32) :
      (mM.access (Rect.unit (s := S8x128) ![0, 0] S8x128.size inb_S8x128_S8x128_0_0)).write (Elt F) f v Finset.univ = v :=
    Memref.write_access_unit_zero_univ (Elt F) cc0_scratch6 zero2 inb_S8x128_S8x128_0_0 f v
  unfold storeM
  iintro ⟨⟨%f, Hh⟩, Hk⟩
  iapply (load_rule c mM _ Finset.univ (Finset.subset_univ _) fullShare f)
  isplitl [Hh]; · iexact Hh
  iintro Hh
  iapply (store_rule c mM (Rect.unit (s := S8x128) ![0, 0] S8x128.size inb_S8x128_S8x128_0_0) (mFull x w c) Finset.univ (Finset.subset_univ _) f k Q)
  isplitl [Hh]; · iexact Hh
  iintro Hh
  iapply Hk
  iapply (Entails.of_eq (congrArg (fun g => (at_ mM c g : sProp 𝕄)) (e' f (mFull x w c)))); iexact Hh

/-- A slot of the maxima reads the entries with its number in front. -/
theorem gSlot_read (s : Fin 3) (f : gM.view.ty.Contents (Elt F)) (i : Fin 8) (j : Fin 128) :
    (gSlot s).view.read (Elt F) f (ix2 i j) = (f : Vec F S3x8x128 .f32) (ix3 s i j) := by
  have h := congrFun (Memref.read_squeeze_slice (Val := Elt F) gM (Rect.unit (s := S3x8x128) ![s.val, 0, 0] S1x8x128.size (gSlot_inb s))
    (fun _ => rfl) squeezes_S1x8x128_S8x128 squeezes_S1x8x128_S8x128.numel_eq f) (ix2 i j)
  refine h.trans ((shapeCast_1ab_ab_apply (a := 8) (b := 128) _ _ i j).trans ?_)
  rw [View.readAt_apply]
  refine congrArg (f : Vec F S3x8x128 .f32) (funext fun a => Fin.ext ?_)
  fin_cases a
  · show s.val + 1 * 0 = s.val; omega
  · show 0 + 1 * i.val = i.val; omega
  · show 0 + 1 * j.val = j.val; omega
/-- A slot of the tiles reads the entries with its number in front. -/
theorem aSlot_read (s : Fin 3) (f : aM.view.ty.Contents (Elt F)) (i : Fin 1024) (j : Fin 512) :
    (aSlot s).view.read (Elt F) f (ix2 i j) = (f : Vec F S3x1024x512 .i8) (ix3 s i j) := by
  have h := congrFun (Memref.read_squeeze_slice (Val := Elt F) aM (Rect.unit (s := S3x1024x512) ![s.val, 0, 0] S1x1024x512.size (aSlot_inb s))
    (fun _ => rfl) squeezes_S1x1024x512_S1024x512 squeezes_S1x1024x512_S1024x512.numel_eq f) (ix2 i j)
  refine h.trans ((shapeCast_1ab_ab_apply (a := 1024) (b := 512) _ _ i j).trans ?_)
  rw [View.readAt_apply]
  refine congrArg (f : Vec F S3x1024x512 .i8) (funext fun a => Fin.ext ?_)
  fin_cases a
  · show s.val + 1 * 0 = s.val; omega
  · show 0 + 1 * i.val = i.val; omega
  · show 0 + 1 * j.val = j.val; omega

/-- The three maxima that arrived are the whole buffer. -/
theorem g_join (c : Dev nD) (v : Fin 3 → Vec F S8x128 .f32) :
    iprop(holds (gSlot 0) c (v 0) ∗ holds (gSlot 1) c (v 1) ∗ holds (gSlot 2) c (v 2))
      ⊢ (at_ gM c (fun i => v (i 0) (ix2 (n0 := 8) (n1 := 128) (i 1) (i 2)) : Vec F S3x8x128 .f32) : sProp 𝕄) := by
  have hp (s : Fin 3) : (holds (gSlot s) c (v s) : sProp 𝕄)
      ⊢ iprop(∃ f : Vec F S3x8x128 .f32, (gM.view.loc (c : Thread nD τ) ↦[lead gSlot_inb s]{fullShare} f) ∗ ⌜∀ i j, f (ix3 s i j) = v s (ix2 i j)⌝) := by
    unfold holds part
    iintro ⟨%f, H, %hf⟩
    iexists f
    isplitl [H]; · iapply (Entails.of_eq (over (gSlot_set s) fullShare f)); iexact H
    ipureintro; intro i j; rw [← gSlot_read s f i j, hf]
  iintro ⟨H0, H1, H2⟩
  ihave H0 := (hp 0) $$ H0
  ihave H1 := (hp 1) $$ H1
  ihave H2 := (hp 2) $$ H2
  icases H0 with ⟨%f0, H0, %h0⟩
  icases H1 with ⟨%f1, H1, %h1⟩
  icases H2 with ⟨%f2, H2, %h2⟩
  have hj := pointsTo_biUnion_join (Ix := ℕ) (Name := ℕ) (U := UU) (Lvl := ℕ) (ℓ := gM.view.loc (c : Thread nD τ)) (q := fullShare) Finset.univ (lead gSlot_inb)
    (fun s : Fin 3 => match s with | 0 => f0 | 1 => f1 | 2 => f2) f0 (fun s _ s' _ h => lead_disj gSlot_inb s s' h)
  rw [bigSep_fin3, lead_cover] at hj
  ihave HJ := hj $$ [H0 H1 H2]
  · isplitl [H0]; · iexact H0
    isplitl [H1]; · iexact H1
    iexact H2
  icases HJ with ⟨%g, %hg, H⟩
  have e : g = (fun i => v (i 0) (ix2 (n0 := 8) (n1 := 128) (i 1) (i 2)) : Vec F S3x8x128 .f32) := by
    funext i
    have hi : ∀ s : Fin 3, (i : S3x8x128.Idx) 0 = s → i ∈ lead gSlot_inb s := by
      rintro s rfl
      refine Rect.mem_set_unit.mpr fun a => ?_
      have h1 : (i (1 : Fin 3)).val < 8 := (i (1 : Fin 3)).isLt
      have h2 : (i (2 : Fin 3)).val < 128 := (i (2 : Fin 3)).isLt
      fin_cases a
      · show (i (0 : Fin 3)).val ≤ (i (0 : Fin 3)).val ∧ (i (0 : Fin 3)).val < (i (0 : Fin 3)).val + 1; omega
      · show 0 ≤ (i (1 : Fin 3)).val ∧ (i (1 : Fin 3)).val < 0 + 8; omega
      · show 0 ≤ (i (2 : Fin 3)).val ∧ (i (2 : Fin 3)).val < 0 + 128; omega
    obtain ⟨s, hs⟩ : ∃ s : Fin 3, (i : S3x8x128.Idx) 0 = s := ⟨_, rfl⟩
    have h3 := hg s (Finset.mem_univ s) i (hi s hs)
    rw [h3]
    have hx : i = ix3 (n0 := 3) (n1 := 8) (n2 := 128) s (i (1 : Fin 3)) (i (2 : Fin 3)) := by
      rw [← hs]; exact eq_ix3 (n0 := 3) (n1 := 8) (n2 := 128) i
    show _ = v ((i : S3x8x128.Idx) 0) _
    rw [hs]
    fin_cases s
    · exact (congrArg f0 hx).trans (h0 _ _)
    · exact (congrArg f1 hx).trans (h1 _ _)
    · exact (congrArg f2 hx).trans (h2 _ _)
  iapply (Entails.of_eq (congrArg (fun g => (at_ gM c g : sProp 𝕄)) e))
  iexact H

/-- Loading the three received maxima gives the stated stack of maxima. -/
theorem loadG_rule (c : Dev nD) (k : Vec F S3x8x128 .f32 → PR F) (Q : PUnit → sProp 𝕄) :
    iprop(holds (gSlot 0) c (mFull x w (rot 1 c)) ∗ holds (gSlot 1) c (mFull x w (rot 2 c)) ∗ holds (gSlot 2) c (mFull x w (rot 3 c))
        ∗ ((∃ f, at_ gM c f) -∗ run c (k (gFull x w c)) Q)) ⊢ run c (loadG k) Q := by
  have e : gM.view.readAt (Elt F) (Rect.unit (s := S3x8x128) ![0, 0, 0] S3x8x128.size inb_S3x8x128_S3x8x128_0_0_0).toLoadRect (gFull x w c) = gFull x w c :=
    Memref.readAt_unit_zero (Elt F) cc0_scratch7 zero3 inb_S3x8x128_S3x8x128_0_0_0 (gFull x w c)
  have hj := g_join (F := F) c fun s => mFull x w (rot (1 + s.val) c)
  unfold loadG
  iintro ⟨H0, H1, H2, Hk⟩
  ihave H := hj $$ [H0 H1 H2]
  · isplitl [H0]; · iexact H0
    isplitl [H1]; · iexact H1
    iexact H2
  iapply (load_rule c gM _ Finset.univ (Finset.subset_univ _) fullShare (gFull x w c))
  isplitl [H]; · iexact H
  irw [e]
  iintro H
  iapply Hk
  iexists _; iexact H

/-! ## Tiles -/

/-- Every block of every device is among those a device computes. -/
theorem orders : ∀ (c o : Dev nD) (j : Fin 4), (o, j) ∈ order c := by decide

/-- With all blocks computed the products' buffer is right everywhere. -/
theorem yHeld_full (c : Dev nD) : yHeld x w c (order c) ⊢ at_ yM c (yFull x w c) := by
  unfold yHeld
  iintro ⟨%f, H, %hf⟩
  have e : f = yFull x w c := funext fun i => hf i (orders c _ _)
  iapply (Entails.of_eq (congrArg (fun g => (at_ yM c g : sProp 𝕄)) e))
  iexact H

/-- The set of all columns of device `o`. -/
def tileSet (o : Dev nD) : Finset S1024x2048.Idx := (Rect.unit (s := S1024x2048) (tOff o) S1024x512.size (tOff_inb o)).set
/-- The columns of different devices share no cell. -/
theorem tile_disj (o o' : Dev nD) (h : o ≠ o') : Disjoint (tileSet o) (tileSet o') := by
  refine Rect.unit_disjoint (1 : Fin 2) ?_
  have : o.val ≠ o'.val := fun e => h (Fin.ext e)
  show 512 * o.val + 512 ≤ 512 * o'.val ∨ 512 * o'.val + 512 ≤ 512 * o.val
  omega
/-- The cells of the quantised columns at a device's offset are that device's. -/
theorem qCols_set (o : Dev nD) (off : Fin 2 → ℕ) (h) (ho : off = tOff o) : (qCols off h).view.set = tileSet o := by
  subst ho; exact View.set_slice_whole _ _
/-- The cells of a tile to be sent are the columns of its receiver. -/
theorem qT_set (c : Dev nD) (e : Fin 3) : (qT c e).view.set = tileSet (rot (1 + e.val) c) := qCols_set _ _ _ (off5 c e)
/-- The tiles for different receivers share no cell. -/
theorem rot_disj (c : Dev nD) (e e' : Fin 3) (h : e ≠ e') : Disjoint (tileSet (rot (1 + e.val) c)) (tileSet (rot (1 + e'.val) c)) :=
  tile_disj _ _ (by revert c e e' h; decide)

/-- The quantised products but for the tiles sent. -/
def qRest (c : Dev nD) : sProp 𝕄 :=
  iprop(∃ f : Vec F S1024x2048 .i8, qM.view.loc (c : Thread nD τ) ↦[Finset.univ \ Finset.univ.biUnion fun e : Fin 3 => tileSet (rot (1 + e.val) c)]{fullShare} f)

/-- The buffer of the quantised tiles is the three tiles to be sent and the rest. -/
theorem q_split (c : Dev nD) : iprop(∃ f, at_ qM c f) ⊢ (iprop((free (qT c 0) c ∗ free (qT c 1) c ∗ free (qT c 2) c) ∗ qRest c) : sProp 𝕄) := by
  unfold free Release.slot qRest
  exact slots3_split_spare (ℓ := qM.view.loc (c : Thread nD τ)) (fun e : Fin 3 => tileSet (rot (1 + e.val) c)) (rot_disj c)
    (fun f => ((qT c 0).view.loc (c : Thread nD τ) ↦[(qT c 0).view.set]{fullShare} f : sProp 𝕄))
    (fun f => ((qT c 1).view.loc (c : Thread nD τ) ↦[(qT c 1).view.set]{fullShare} f : sProp 𝕄))
    (fun f => ((qT c 2).view.loc (c : Thread nD τ) ↦[(qT c 2).view.set]{fullShare} f : sProp 𝕄))
    (fun f => over (qT_set c 0) fullShare f) (fun f => over (qT_set c 1) fullShare f) (fun f => over (qT_set c 2) fullShare f)
/-- The three tiles and the rest make up the buffer again. -/
theorem q_join (c : Dev nD) : iprop((free (qT c 0) c ∗ free (qT c 1) c ∗ free (qT c 2) c) ∗ qRest c) ⊢ (iprop(∃ f, at_ qM c f) : sProp 𝕄) := by
  unfold free Release.slot qRest
  exact slots3_join_spare (ℓ := qM.view.loc (c : Thread nD τ)) (fun e : Fin 3 => tileSet (rot (1 + e.val) c)) (rot_disj c)
    (fun f => ((qT c 0).view.loc (c : Thread nD τ) ↦[(qT c 0).view.set]{fullShare} f : sProp 𝕄))
    (fun f => ((qT c 1).view.loc (c : Thread nD τ) ↦[(qT c 1).view.set]{fullShare} f : sProp 𝕄))
    (fun f => ((qT c 2).view.loc (c : Thread nD τ) ↦[(qT c 2).view.set]{fullShare} f : sProp 𝕄))
    (fun f => over (qT_set c 0) fullShare f) (fun f => over (qT_set c 1) fullShare f) (fun f => over (qT_set c 2) fullShare f)

/-- Loading the products with the columns of a device gives that tile of them. -/
theorem tileLoad (c o : Dev nD) (off : Fin 2 → ℕ) (h : ∀ a, off a + S1024x512.size a ≤ S1024x2048.size a) (ho : off = tOff o)
    {hl : yM.view.LoadsAt (Rect.unit (s := S1024x2048) off S1024x512.size h).toLoadRect} (k : Vec F S1024x512 .f32 → PR F) (Q : PUnit → sProp 𝕄) :
    iprop(at_ yM c (yFull x w c) ∗ (at_ yM c (yFull x w c) -∗ run c (k (tile x w c o)) Q))
      ⊢ run c (.op (.load yM (Rect.unit (s := S1024x2048) off S1024x512.size h).toLoadRect hl) k) Q := by
  subst ho
  exact load_rule c yM (Rect.unit (s := S1024x2048) (tOff o) S1024x512.size h).toLoadRect Finset.univ (Finset.subset_univ _) fullShare (yFull x w c) k Q

/-- Quantised columns written. -/
theorem qStore (c : Dev nD) (o4 o5 : Fin 2 → ℕ) (h4 : ∀ a, o4 a + S1024x512.size a ≤ S1024x2048.size a)
    (h5 : ∀ a, o5 a + S1024x512.size a ≤ S1024x2048.size a) (he : o4 = o5) (v : Vec F S1024x512 .i8)
    {hl : qM.view.LoadsAt (Rect.unit (s := S1024x2048) o4 S1024x512.size h4).toLoadRect}
    {hx : (qM.access (Rect.unit (s := S1024x2048) o4 S1024x512.size h4)).Stores Finset.univ} {hm} (k : PR F) (Q : PUnit → sProp 𝕄) :
    iprop(free (qCols o5 h5) c ∗ (holds (qCols o5 h5) c v -∗ run c k Q))
      ⊢ run c (.op (.load qM (Rect.unit (s := S1024x2048) o4 S1024x512.size h4).toLoadRect hl) fun _ =>
          .op (.store qM (Rect.unit (s := S1024x2048) o4 S1024x512.size h4) v Finset.univ hx hm) fun _ => k) Q := by
  subst he
  have e : (free (qCols o4 h4) c : sProp 𝕄) ⊢ iprop(∃ f : Buf (Elt F) (qM.view.loc (c : Thread nD τ)),
      (qM.view.loc (c : Thread nD τ) ↦[(qM.access (Rect.unit (s := S1024x2048) o4 S1024x512.size h4)).set]{fullShare} f)) := by
    exact BI.Entails.refl _
  have e' (f : Buf (Elt F) (qM.view.loc (c : Thread nD τ))) : (qM.view.loc (c : Thread nD τ) ↦[(qM.access (Rect.unit (s := S1024x2048) o4 S1024x512.size h4)).set]{fullShare}
      (qM.access (Rect.unit (s := S1024x2048) o4 S1024x512.size h4)).write (Elt F) f v Finset.univ : sProp 𝕄) ⊢ holds (qCols o4 h4) c v :=
    holds_written (qCols o4 h4) c f v
  iintro ⟨H, Hk⟩
  ihave H := e $$ H
  icases H with ⟨%f, H⟩
  iapply (load_rule c qM (Rect.unit (s := S1024x2048) o4 S1024x512.size h4).toLoadRect
    (qM.access (Rect.unit (s := S1024x2048) o4 S1024x512.size h4)).set (by rw [View.set_slice]; exact Finset.Subset.refl _) fullShare f)
  isplitl [H]; · iexact H
  iintro H
  iapply (store_rule c qM (Rect.unit (s := S1024x2048) o4 S1024x512.size h4) v
    (qM.access (Rect.unit (s := S1024x2048) o4 S1024x512.size h4)).set (Finset.Subset.refl _) f k Q)
  isplitl [H]; · iexact H
  iintro H
  iapply Hk
  iapply (e' f); iexact H

/-- Quantising a tile and sending it leaves the products as they were. -/
theorem tileSend_rule (c : Dev nD) (e : Fin 3) (l : List Due) (k : PR F) (Q : PUnit → sProp 𝕄) :
    iprop(recs x w κ ι ∗ at_ yM c (yFull x w c) ∗ free (qT c e) c ∗ free (aSlot e.rev) (rot (1 + e.val) c) ∗ todo c (.tile e :: l)
        ∗ (at_ yM c (yFull x w c) ∗ cred (tallyAt (cell c (.tSend e)) 0 NT) ∗ todo c l -∗ run c k Q))
      ⊢ run c (tileSend c (scale x w c) e (rot (1 + e.val) c) k) Q := by
  unfold tileSend
  iintro ⟨#HR, Hy, Hq, Ha, Ht, Hk⟩
  iapply (tileLoad c (rot (1 + e.val) c) _ (k0_off4_inb c e) (off4 c e))
  isplitl [Hy]; · iexact Hy
  iintro Hy
  iapply (qStore c _ _ (k0_off4_inb c e) (k0_off5_inb c e) ((off4 c e).trans (off5 c e).symm) (tileV x w c (rot (1 + e.val) c)))
  isplitl [Hq]; · iexact Hq
  iintro Hq
  iapply (tile_rule (x := x) (w := w) (κ := κ) (ι := ι) c e l k Q)
  isplitr; · iexact HR
  isplitl [Hq]; · iexact Hq
  isplitl [Ha]; · iexact Ha
  isplitl [Ht]; · iexact Ht
  iintro ⟨Hc, Ht⟩
  iapply Hk
  isplitl [Hy]; · iexact Hy
  isplitl [Hc]; · iexact Hc
  iexact Ht

/-! ## The result -/

/-- The device whose rows an index lies in. -/
def rowOf (i : S4096x512.Idx) : Dev nD := ⟨(i 0).val / 1024, by have h : (i 0).val < 4096 := (i 0).isLt; show _ < 4; omega⟩

variable (x w) in
/-- The result's buffer, right on the rows listed. -/
def oHeld (c : Dev nD) (D : List (Dev nD)) : sProp 𝕄 :=
  iprop(∃ f : Vec F S4096x512 .f32, at_ oM c f ∗ ⌜∀ i, rowOf i ∈ D → f i = outFull x w c i⌝)

/-- After the rows of a device are stored, the result is right on those rows too. -/
theorem o_stored (c : Dev nD) (D : List (Dev nD)) (o : Dev nD) (f : Vec F S4096x512 .f32)
    (hf : ∀ i, rowOf i ∈ D → f i = outFull x w c i) (i : S4096x512.Idx) (hi : rowOf i ∈ o :: D) :
    (oM.access (Rect.unit (s := S4096x512) (oOff o) S1024x512.size (oOff_inb o))).write (Elt F) f (outV x w c o) Finset.univ i = outFull x w c i := by
  have h1 : (i 1).val < 512 := (i 1).isLt
  have h0 : (i 0).val < 4096 := (i 0).isLt
  by_cases hb : rowOf i = o
  · have ho : (i 0).val / 1024 = o.val := congrArg Fin.val hb
    have hz : (Rect.unit (s := S4096x512) (oOff o) S1024x512.size (oOff_inb o)).emb
        (ix2 (n0 := 1024) (n1 := 512) ⟨(i 0).val % 1024, Nat.mod_lt _ (by decide)⟩ (i 1)) = i := by
      refine funext fun a => Fin.ext ?_
      rw [Rect.emb_apply]
      fin_cases a
      · show 1024 * o.val + 1 * ((i 0).val % 1024) = (i 0).val; omega
      · show 0 + 1 * (i 1).val = (i 1).val; omega
    refine Eq.trans (congrArg _ hz.symm) ((put_in cc0_stg2_0 _ f _ _).trans ?_)
    unfold outFull
    rw [show (⟨(i 0).val / 1024, _⟩ : Dev nD) = o from Fin.ext ho]
  · rw [← hf i (by rcases List.mem_cons.mp hi with h | h; · exact absurd h hb
                   exact h)]
    refine put_off cc0_stg2_0 _ f _ i fun hm => hb ?_
    have hm' := Rect.mem_set_unit.mp hm (0 : Fin 2)
    have ho : o.val < 4 := o.isLt
    have ha : 1024 * o.val ≤ (i 0).val ∧ (i 0).val < 1024 * o.val + 1024 := hm'
    refine Fin.ext ?_
    show (i 0).val / 1024 = o.val; omega

/-- Storing the rows of a device makes the result right on those rows too. -/
theorem storeO_rule (c : Dev nD) (D : List (Dev nD)) (o : Dev nD) (off : Fin 2 → ℕ)
    (h : ∀ a, off a + S1024x512.size a ≤ S4096x512.size a) (ho : off = oOff o) (k : PR F) (Q : PUnit → sProp 𝕄) :
    iprop(oHeld x w c D ∗ (oHeld x w c (o :: D) -∗ run c k Q)) ⊢ run c (storeO off h (outV x w c o) k) Q := by
  subst ho
  unfold oHeld storeO
  iintro ⟨⟨%f, H, %hf⟩, Hk⟩
  iapply (load_rule c oM (Rect.unit (s := S4096x512) (oOff o) S1024x512.size h).toLoadRect Finset.univ (Finset.subset_univ _) fullShare f)
  isplitl [H]; · iexact H
  iintro H
  iapply (store_rule c oM (Rect.unit (s := S4096x512) (oOff o) S1024x512.size h) (outV x w c o) Finset.univ (Finset.subset_univ _) f k Q)
  isplitl [H]; · iexact H
  iintro H
  iapply Hk
  iexists _
  isplitl [H]; · iexact H
  ipureintro; exact o_stored c D o f hf

/-- The device's own tile is written into the result. -/
theorem ownTile_rule (c : Dev nD) (D : List (Dev nD)) (k : PR F) (Q : PUnit → sProp 𝕄) :
    iprop(at_ yM c (yFull x w c) ∗ oHeld x w c D ∗ (at_ yM c (yFull x w c) ∗ oHeld x w c (c :: D) -∗ run c k Q))
      ⊢ run c (ownTile c (scale x w c) k) Q := by
  have hv : deq (scale x w c) (tile x w c c) = outV x w c c := by unfold outV; rw [if_pos rfl]
  unfold ownTile
  iintro ⟨Hy, Ho, Hk⟩
  iapply (tileLoad c c _ (k0_off6_inb c) (off6 c))
  isplitl [Hy]; · iexact Hy
  irw [hv]
  iintro Hy
  iapply (storeO_rule c D c _ (k0_off7_inb c) (off7 c) k Q)
  isplitl [Ho]; · iexact Ho
  iintro Ho
  iapply Hk
  isplitl [Hy]; · iexact Hy
  iexact Ho

/-- To hold the cells of a slot of the tiles is to hold those with its number in front. -/
theorem aSlot_pts (c : Dev nD) (s : Fin 3) (f : Buf (Elt F) (aM.view.loc (c : Thread nD τ))) :
    (aM.view.loc (c : Thread nD τ) ↦[(aSlot s).view.set]{fullShare} f : sProp 𝕄) = (aM.view.loc (c : Thread nD τ) ↦[lead aSlot_inb s]{fullShare} f) :=
  over (aSlot_set s) fullShare f
/-- A slot of the tiles at given contents is that slot at some contents. -/
theorem aSlot_free (c : Dev nD) (s : Fin 3) (f : Buf (Elt F) (aM.view.loc (c : Thread nD τ))) :
    (aM.view.loc (c : Thread nD τ) ↦[(aSlot s).view.set]{fullShare} f : sProp 𝕄) ⊢ free (aSlot s) c := by
  unfold free Release.slot
  iintro H
  iexists f; iexact H

/-- What one slot's load reads. -/
abbrev aRow (v : Vec F S1024x512 .i8) : Vec F S1x1024x512 .i8 := fun i => v (ix2 (n0 := 1024) (n1 := 512) (i 1) (i 2))

/-- A slot holding a tile has the tile's entries under its number. -/
theorem aSlot_open (c : Dev nD) (s : Fin 3) (v : Vec F S1024x512 .i8) : (holds (aSlot s) c v : sProp 𝕄) ⊢ iprop(∃ f : Vec F S3x1024x512 .i8,
    (aM.view.loc (c : Thread nD τ) ↦[lead aSlot_inb s]{fullShare} f) ∗ ⌜∀ i j, f (ix3 s i j) = v (ix2 i j)⌝) := by
  unfold holds part
  iintro ⟨%f, H, %hf⟩
  iexists f
  isplitl [H]; · iapply (Entails.of_eq (aSlot_pts c s f)); iexact H
  ipureintro; intro i j; rw [← aSlot_read s f i j, hf]

/-- Loading a slot of the tiles touches only that slot. -/
theorem aSlot_sub (s : Fin 3) : aM.view.setOn (Rect.unit (s := S3x1024x512) ![s.val, 0, 0] S1x1024x512.size (aSlot_inb s)).toLoadRect.set ⊆ lead aSlot_inb s :=
  Finset.subset_of_eq ((View.set_slice aM.view (Rect.unit (s := S3x1024x512) ![s.val, 0, 0] S1x1024x512.size (aSlot_inb s))).symm.trans (View.set_slice_whole _ _))

/-- Loading a slot gives the tile it holds. -/
theorem aSlot_at (s : Fin 3) (v : Vec F S1024x512 .i8) (f : Vec F S3x1024x512 .i8) (hf : ∀ i j, f (ix3 s i j) = v (ix2 i j)) :
    aM.view.readAt (Elt F) (Rect.unit (s := S3x1024x512) ![s.val, 0, 0] S1x1024x512.size (aSlot_inb s)).toLoadRect f = aRow v := by
  funext i
  refine Eq.trans ?_ (hf (i 1) (i 2))
  rw [View.readAt_apply]
  refine congrArg f (funext fun a => Fin.ext ?_)
  have h0 : (i 0).val < 1 := (i 0).isLt
  fin_cases a
  · show s.val + 1 * (i 0).val = s.val; omega
  · show 0 + 1 * (i 1).val = (i 1).val; omega
  · show 0 + 1 * (i 2).val = (i 2).val; omega

/-- Loading a slot that holds a tile gives the tile and leaves the slot as it was. -/
theorem aLoad (c : Dev nD) (s : Fin 3) (v : Vec F S1024x512 .i8)
    {hl : aM.view.LoadsAt (Rect.unit (s := S3x1024x512) ![s.val, 0, 0] S1x1024x512.size (aSlot_inb s)).toLoadRect}
    (k : Vec F S1x1024x512 .i8 → PR F) (Q : PUnit → sProp 𝕄) :
    iprop(holds (aSlot s) c v ∗ (free (aSlot s) c -∗ run c (k (aRow v)) Q))
      ⊢ run c (.op (.load aM (Rect.unit (s := S3x1024x512) ![s.val, 0, 0] S1x1024x512.size (aSlot_inb s)).toLoadRect hl) k) Q := by
  have hq (f : Vec F S3x1024x512 .i8) : (aM.view.loc (c : Thread nD τ) ↦[lead aSlot_inb s]{fullShare} f : sProp 𝕄) ⊢ free (aSlot s) c :=
    (Entails.of_eq (aSlot_pts c s f).symm).trans (aSlot_free c s f)
  iintro ⟨H, Hk⟩
  ihave H := (aSlot_open c s v) $$ H
  icases H with ⟨%f, H, %hf⟩
  iapply (load_rule c aM (Rect.unit (s := S3x1024x512) ![s.val, 0, 0] S1x1024x512.size (aSlot_inb s)).toLoadRect (lead aSlot_inb s) (aSlot_sub s) fullShare f)
  isplitl [H]; · iexact H
  irw [aSlot_at s v f hf]
  iintro H
  iapply Hk
  iapply (hq f); iexact H

/-- The rows of another device are its tile, dequantised. -/
theorem outV_other (c o : Dev nD) (h : o ≠ c) : deq8 (scale x w c) (aRow (tileV x w o c)) = outV x w c o := by
  unfold outV; rw [if_neg h]
/-- A rotation by one, two or three places moves every device. -/
theorem rot_ne : ∀ (s : Fin 3) (c : Dev nD), rot (1 + s.val) c ≠ c := by decide

/-- A received tile is written into the result and its slot is free again. -/
theorem slotTile_rule (c : Dev nD) (D : List (Dev nD)) (s : Fin 3) (k : PR F) (Q : PUnit → sProp 𝕄) :
    iprop(holds (aSlot s) c (tileV x w (rot (1 + s.val) c) c) ∗ oHeld x w c D
        ∗ (free (aSlot s) c ∗ oHeld x w c (rot (1 + s.val) c :: D) -∗ run c k Q))
      ⊢ run c (slotTile c (scale x w c) s k) Q := by
  unfold slotTile
  iintro ⟨H, Ho, Hk⟩
  iapply (aLoad c s (tileV x w (rot (1 + s.val) c) c))
  isplitl [H]; · iexact H
  irw [outV_other c _ (rot_ne s c)]
  iintro H
  iapply (storeO_rule c D (rot (1 + s.val) c) _ (k0_off8_inb c s) (off8 c s) k Q)
  isplitl [Ho]; · iexact Ho
  iintro Ho
  iapply Hk
  isplitl [H]; · iexact H
  iexact Ho

end Cert.KernelIdeal.Ring

end
-- ==== Proof.Step.lean ====
/-
  ONE STEP OF THE RING.

  What a device does with a pair of messages: receive, send on, multiply, wait for the departures, release the slots.
-/
module

public import proofs.«01_k».proof.Proof.Tail

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig ℕ (Elt F) ℕ UU ℕ

variable {x : Dev nD → Vec F S1024x4096 .f32} {w : Dev nD → Vec F S4096x512 .f32}
variable {κ : Dev nD × Kind → ℕ} {ι : Key → ℕ}

/-- Dues above a level are above each lower level. -/
theorem above_mono {i j : ℕ} {l : List Due} (h : above j l) (hij : i ≤ j) : above i l :=
  fun p hp => ⟨lt_of_le_of_lt hij (h p hp).1, (h p hp).2⟩
/-- If a list of dues is above a level, so is its tail. -/
theorem above_tail {i : ℕ} {p : Due} {l : List Due} (h : above i (p :: l)) : above i l := fun q hq => h q (List.mem_cons_of_mem _ hq)

/-- A message number two on. -/
abbrev on (m : Fin 4) : Fin 6 := ⟨m.val + 2, by omega⟩
/-- A message number of the first four. -/
abbrev at4 (m : Fin 4) : Fin 6 := ⟨m.val, by omega⟩

/-- A message sent on is sent from the slot it arrived in. -/
theorem srcOf_on (d : Bool) (m : Fin 4) : srcOf d (on m) = slot d (sl (at4 m)) := by
  have hs : sl' (on m) = sl (at4 m) := by revert m; decide
  unfold srcOf; rw [if_neg (by show ¬ m.val + 2 < 2; omega), hs]
/-- A message sent on borrows half of its slot. -/
theorem shr_on (m : Fin 4) : shr (on m) = (fullShare : PosShare TreeShare).right := by
  unfold shr; exact if_neg (by show ¬ m.val + 2 < 2; omega)

/-! ## Sending on -/

/-- A message received is sent on; half of it stays readable. -/
theorem sendOn_rule (c : Dev nD) (d : Bool) (m : Fin 4) (l : List Due) (k : PR F) (Q : PUnit → sProp 𝕄) :
    iprop(recs x w κ ι ∗ reached ER (cell (nx d c) (.recv d (sl (on m)))) ((on m).val / 3) ∗ holds (slot d (sl (at4 m))) c (rv w c d (at4 m))
        ∗ free (slot d (sl (on m))) (nx d c) ∗ todo c (.ring d (on m) :: l)
        ∗ (cred (tallyAt (cell c (.send d (on m))) 0 NR) ∗ part (slot d (sl (at4 m))) c (fullShare : PosShare TreeShare).left (rv w c d (at4 m)) ∗ todo c l
            -∗ run c k Q))
      ⊢ run c (ringSend d (on m) (nx d c) k) Q := by
  have e : part (slot d (sl (at4 m))) c (fullShare : PosShare TreeShare).right (rv w c d (at4 m))
      ⊢ (part (srcOf d (on m)) c (shr (on m)) (rv w (nx d c) d (on m)) : sProp 𝕄) := by
    rw [srcOf_on, shr_on, rv_next]
  have he : (emp : sProp 𝕄) ⊢ extra (nx d c) d (on m).val := by
    unfold extra; rw [if_neg (by rintro ⟨-, h⟩; exact absurd h (Nat.succ_ne_zero _))]
  iintro ⟨#HR, #Hr, Hs, Hd, Ht, Hk⟩
  ihave Hs := (part_halves (slot d (sl (at4 m))) c (rv w c d (at4 m))) $$ Hs
  icases Hs with ⟨Hl, Hs⟩
  ihave Hs := e $$ Hs
  iapply (ring_rule (x := x) (w := w) (κ := κ) (ι := ι) c d (on m) l k Q)
  isplitr; · iexact HR
  isplitr; · iexact Hr
  isplitl [Hs]; · iexact Hs
  isplitl [Hd]; · iexact Hd
  isplitr; · iapply he; iempintro
  isplitl [Ht]; · iexact Ht
  iintro ⟨Hc, Ht⟩
  iapply Hk
  isplitl [Hc]; · iexact Hc
  isplitl [Hl]; · iexact Hl
  iexact Ht

/-- Its departure gives the other half back. -/
theorem doneOn_rule (c : Dev nD) (d : Bool) (m : Fin 4) (lp : List Kind) (l : List Due) (hr : lp.count (.send d (on m)) = 0)
    (hl : above 0 l) (k : PR F) (Q : PUnit → sProp 𝕄) :
    iprop(recs x w κ ι ∗ cred (tallyAt (cell c (.send d (on m))) 0 NR) ∗ todo c l ∗ pos c lp
        ∗ part (slot d (sl (at4 m))) c (fullShare : PosShare TreeShare).left (rv w c d (at4 m))
        ∗ (todo c l ∗ pos c (.send d (on m) :: lp) ∗ holds (slot d (sl (at4 m))) c (rv w c d (at4 m)) -∗ run c k Q))
      ⊢ run c (ringDone d (on m) k) Q := by
  have e : lent (srcOf d (on m)) c (shr (on m)) ⊢ (lent (slot d (sl (at4 m))) c (fullShare : PosShare TreeShare).right : sProp 𝕄) := by
    rw [srcOf_on, shr_on]
  iintro ⟨#HR, Hc, Ht, Hp, Hl, Hk⟩
  iapply (ringDone_rule (x := x) (w := w) (κ := κ) (ι := ι) c d (on m) lp l hr hl k Q)
  isplitr; · iexact HR
  isplitl [Hc]; · iexact Hc
  isplitl [Ht]; · iexact Ht
  isplitl [Hp]; · iexact Hp
  iintro ⟨Ht, Hp, Hs⟩
  ihave Hs := e $$ Hs
  iapply Hk
  isplitl [Ht]; · iexact Ht
  isplitl [Hp]; · iexact Hp
  iapply (part_rejoin (slot d (sl (at4 m))) c (rv w c d (at4 m)))
  isplitl [Hl]; · iexact Hl
  iexact Hs

/-! ## The products of a step -/

/-- The two products of a step make the products and the running maximum right on two blocks more. -/
theorem stepBlks_rule (c : Dev nD) (m : Fin 6) (h : Fin 3) (b : Fin 2) (hm : msgOf h b = m) (q : PosShare TreeShare) (D : List (Dev nD × Fin 4))
    (k : F .f32 → PR F) (Q : PUnit → sProp 𝕄) :
    iprop(at_ xM c (x c) ∗ part (slot true (sl m)) c q (rv w c true m) ∗ part (slot false (sl m)) c q (rv w c false m) ∗ yHeld x w c D
        ∗ (at_ xM c (x c) ∗ part (slot true (sl m)) c q (rv w c true m) ∗ part (slot false (sl m)) c q (rv w c false m)
            ∗ yHeld x w c (D ++ [(orig true m c, colOf true m)] ++ [(orig false m c, colOf false m)])
            -∗ run c (k (lm x w c (D ++ [(orig true m c, colOf true m)] ++ [(orig false m c, colOf false m)]))) Q))
      ⊢ run c (stepBlks c m h b (lm x w c D) k) Q := by
  subst hm
  unfold stepBlks rv
  iintro ⟨Hx, H1, H0, Hy, Hk⟩
  iapply (slotBlk_rule c D true (sl (msgOf h b)) q (orig true (msgOf h b) c) (colOf true (msgOf h b)) _ _ (off2 c h b) (orig_ne _ _ _))
  isplitl [Hx]; · iexact Hx
  isplitl [H1]; · iexact H1
  isplitl [Hy]; · iexact Hy
  iintro ⟨Hx, H1, Hy⟩
  iapply (slotBlk_rule c _ false (sl (msgOf h b)) q (orig false (msgOf h b) c) (colOf false (msgOf h b)) _ _ (off3 c h b) (orig_ne _ _ _))
  isplitl [Hx]; · iexact Hx
  isplitl [H0]; · iexact H0
  isplitl [Hy]; · iexact Hy
  iintro ⟨Hx, H0, Hy⟩
  iapply Hk
  isplitl [Hx]; · iexact Hx
  isplitl [H1]; · iexact H1
  isplitl [H0]; · iexact H0
  iexact Hy

/-- The blocks done after the step of message `m`. -/
abbrev more (c : Dev nD) (m : Fin 6) (D : List (Dev nD × Fin 4)) : List (Dev nD × Fin 4) :=
  D ++ [(orig true m c, colOf true m)] ++ [(orig false m c, colOf false m)]

/-! ## Both directions -/

/-- What the two arrivals of message `m` bring. -/
def got (x : Dev nD → Vec F S1024x4096 .f32) (w : Dev nD → Vec F S4096x512 .f32) (c : Dev nD) (m : Fin 6) (d : Bool) : sProp 𝕄 :=
  iprop(reached ER (cell c (.recv d (sl m))) (m.val / 3 + 1) ∗ holds (slot d (sl m)) c (rv w c d m))

/-- The two arrivals of a message bring its two slots holding what was sent. -/
theorem recvs_rule (c : Dev nD) (m : Fin 6) (lp : List Kind) (l : List Due) (li : List (Kind × ℕ × ℕ))
    (h1 : lp.count (.recv true (sl m)) = m.val / 3) (h0 : lp.count (.recv false (sl m)) = m.val / 3)
    (hl : above (2 * m.val + 2) l) (k : PR F) (Q : PUnit → sProp 𝕄) :
    iprop(recs x w κ ι ∗ inc c ((.recv true (sl m), 2 * m.val + 2, NR) :: (.recv false (sl m), 2 * m.val + 2, NR) :: li) ∗ todo c l ∗ pos c lp
        ∗ (inc c li ∗ todo c l ∗ pos c (.recv false (sl m) :: .recv true (sl m) :: lp) ∗ got x w c m true ∗ got x w c m false ∗ extra c true m.val
            -∗ run c k Q))
      ⊢ run c (ringRecv true m (ringRecv false m k)) Q := by
  have h0' : List.count (Kind.recv false (sl m)) (Kind.recv true (sl m) :: lp) = m.val / 3 := by
    rw [List.count_cons_of_ne (by simp)]; exact h0
  unfold got
  iintro ⟨#HR, Hi, Ht, Hp, Hk⟩
  ihave Hi := (inc_cons c _ _) $$ Hi
  icases Hi with ⟨Hc1, Hi⟩
  ihave Hi := (inc_cons c _ _) $$ Hi
  icases Hi with ⟨Hc0, Hi⟩
  iapply (ringRecv_rule (x := x) (w := w) (κ := κ) (ι := ι) c true m lp l h1 hl)
  isplitr; · iexact HR
  isplitl [Hc1]; · iexact Hc1
  isplitl [Ht]; · iexact Ht
  isplitl [Hp]; · iexact Hp
  iintro ⟨Ht, Hp, Hr1, Hs1, He1⟩
  iapply (ringRecv_rule (x := x) (w := w) (κ := κ) (ι := ι) c false m _ l h0' hl)
  isplitr; · iexact HR
  isplitl [Hc0]; · iexact Hc0
  isplitl [Ht]; · iexact Ht
  isplitl [Hp]; · iexact Hp
  iintro ⟨Ht, Hp, Hr0, Hs0, -⟩
  iapply Hk
  isplitl [Hi]; · iexact Hi
  isplitl [Ht]; · iexact Ht
  isplitl [Hp]; · iexact Hp
  isplitl [Hr1 Hs1]
  · isplitl [Hr1]; · iexact Hr1
    iexact Hs1
  isplitl [Hr0 Hs0]
  · isplitl [Hr0]; · iexact Hr0
    iexact Hs0
  iexact He1

/-- The send, the products and the departures of a step. -/
theorem turn_rule (c : Dev nD) (m : Fin 4) (h : Fin 3) (b : Fin 2) (hm : msgOf h b = at4 m) (D : List (Dev nD × Fin 4)) (lp : List Kind) (l : List Due)
    (h1 : lp.count (.send true (on m)) = 0) (h0 : lp.count (.send false (on m)) = 0) (hl : above 0 l) (k : F .f32 → PR F) (Q : PUnit → sProp 𝕄) :
    iprop(recs x w κ ι ∗ reached ER (cell (nx true c) (.recv true (sl (on m)))) ((on m).val / 3)
        ∗ reached ER (cell (nx false c) (.recv false (sl (on m)))) ((on m).val / 3)
        ∗ holds (slot true (sl (at4 m))) c (rv w c true (at4 m)) ∗ holds (slot false (sl (at4 m))) c (rv w c false (at4 m))
        ∗ free (slot true (sl (on m))) (nx true c) ∗ free (slot false (sl (on m))) (nx false c)
        ∗ todo c (.ring true (on m) :: .ring false (on m) :: l) ∗ pos c lp ∗ at_ xM c (x c) ∗ yHeld x w c D
        ∗ (todo c l ∗ pos c (.send false (on m) :: .send true (on m) :: lp) ∗ at_ xM c (x c) ∗ yHeld x w c (more c (at4 m) D)
            ∗ holds (slot true (sl (at4 m))) c (rv w c true (at4 m)) ∗ holds (slot false (sl (at4 m))) c (rv w c false (at4 m))
            -∗ run c (k (lm x w c (more c (at4 m) D))) Q))
      ⊢ run c (ringSend true (on m) (nx true c) <| ringSend false (on m) (nx false c) <|
          stepBlks c (at4 m) h b (lm x w c D) fun l => ringDone true (on m) <| ringDone false (on m) <| k l) Q := by
  have h0' : List.count (Kind.send false (on m)) (Kind.send true (on m) :: lp) = 0 := by
    rw [List.count_cons_of_ne (by simp)]; exact h0
  iintro ⟨#HR, #Hr1, #Hr0, Hs1, Hs0, Hd1, Hd0, Ht, Hp, Hx, Hy, Hk⟩
  iapply (sendOn_rule (x := x) (w := w) (κ := κ) (ι := ι) c true m _)
  isplitr; · iexact HR
  isplitr; · iexact Hr1
  isplitl [Hs1]; · iexact Hs1
  isplitl [Hd1]; · iexact Hd1
  isplitl [Ht]; · iexact Ht
  iintro ⟨Hc1, Hs1, Ht⟩
  iapply (sendOn_rule (x := x) (w := w) (κ := κ) (ι := ι) c false m _)
  isplitr; · iexact HR
  isplitr; · iexact Hr0
  isplitl [Hs0]; · iexact Hs0
  isplitl [Hd0]; · iexact Hd0
  isplitl [Ht]; · iexact Ht
  iintro ⟨Hc0, Hs0, Ht⟩
  iapply (stepBlks_rule c (at4 m) h b hm (fullShare : PosShare TreeShare).left D)
  isplitl [Hx]; · iexact Hx
  isplitl [Hs1]; · iexact Hs1
  isplitl [Hs0]; · iexact Hs0
  isplitl [Hy]; · iexact Hy
  iintro ⟨Hx, Hs1, Hs0, Hy⟩
  iapply (doneOn_rule (x := x) (w := w) (κ := κ) (ι := ι) c true m lp l h1 hl)
  isplitr; · iexact HR
  isplitl [Hc1]; · iexact Hc1
  isplitl [Ht]; · iexact Ht
  isplitl [Hp]; · iexact Hp
  isplitl [Hs1]; · iexact Hs1
  iintro ⟨Ht, Hp, Hs1⟩
  iapply (doneOn_rule (x := x) (w := w) (κ := κ) (ι := ι) c false m _ l h0' hl)
  isplitr; · iexact HR
  isplitl [Hc0]; · iexact Hc0
  isplitl [Ht]; · iexact Ht
  isplitl [Hp]; · iexact Hp
  isplitl [Hs0]; · iexact Hs0
  iintro ⟨Ht, Hp, Hs0⟩
  iapply Hk
  isplitl [Ht]; · iexact Ht
  isplitl [Hp]; · iexact Hp
  isplitl [Hx]; · iexact Hx
  isplitl [Hy]; · iexact Hy
  isplitl [Hs1]; · iexact Hs1
  iexact Hs0

/-! ## Credits -/

/-- What is left of the credit semaphore after `n` waits. -/
def cstAt (c : Dev nD) (d : Bool) (n : ℕ) : sProp 𝕄 := if n = 3 then atPos ER (cell c (.cred d)) 1 ∅ 0 else cst c d n

/-- A credit is waited for and the slot it stands for taken. -/
theorem take_rule (c : Dev nD) (d : Bool) (n : Fin 3) (l : List Due) (li : List (Kind × ℕ × ℕ)) (hl : above (2 * n.val + 3) l)
    (k : PR F) (Q : PUnit → sProp 𝕄) :
    iprop(recs x w κ ι ∗ inc c ((.cred d, 2 * n.val + 3, 1) :: li) ∗ todo c l ∗ cstAt c d n.val ∗ Release.writeTok ES (nx d c, d, n) 1
        ∗ (inc c li ∗ todo c l ∗ cstAt c d (n.val + 1) ∗ free (slot d n) (nx d c) ∗ reached ER (cell (nx d c) (.recv d n)) 1 -∗ run c k Q))
      ⊢ run c (wait1 (credS d) 1#32 k) Q := by
  have hw : iprop(recs x w κ ι ∗ cred (tallyAt (cell c (.cred d)) (2 * n.val + 3) 1) ∗ todo c l ∗ cstAt c d n.val
        ∗ (todo c l ∗ cstAt c d (n.val + 1) ∗ credFact c d n -∗ run c k Q))
      ⊢ run c (wait1 (credS d) 1#32 k) Q := by
    unfold cstAt
    rw [if_neg (by omega)]
    by_cases h : n = 2
    · subst h
      exact creditLast_rule (x := x) (w := w) (κ := κ) (ι := ι) c d l hl k Q
    · rw [if_neg (by have : n.val ≠ 2 := fun e => h (Fin.ext e)
                     omega)]
      exact credit_rule (x := x) (w := w) (κ := κ) (ι := ι) c d n l hl k Q
  have hs := recs_slot (x := x) (w := w) (κ := κ) (ι := ι) (nx d c, d, n)
  have htk : iprop(Release.slotInv ES (ι (nx d c, d, n)) (nx d c, d, n) (free (slot d n) (nx d c)) ∗ Release.released ES (nx d c, d, n) 1
      ∗ Release.writeTok ES (nx d c, d, n) 1) ⊢ (|={Set.univ}=> free (slot d n) (nx d c) : sProp 𝕄) :=
    Release.slot_take ES (Set.mem_univ _) 1
  unfold credFact at hw
  iintro ⟨#HR, Hi, Ht, Hc, Hw, Hk⟩
  ihave Hi := (inc_cons c _ _) $$ Hi
  icases Hi with ⟨Hc1, Hi⟩
  iapply hw
  isplitr; · iexact HR
  isplitl [Hc1]; · iexact Hc1
  isplitl [Ht]; · iexact Ht
  isplitl [Hc]; · iexact Hc
  iintro ⟨Ht, Hc, Hrel, Hr⟩
  ihave #HS := hs $$ HR
  imod htk $$ [Hrel Hw] with Hf
  · isplitr; · iexact HS
    isplitl [Hrel]; · iexact Hrel
    iexact Hw
  iapply Hk
  isplitl [Hi]; · iexact Hi
  isplitl [Ht]; · iexact Ht
  isplitl [Hc]; · iexact Hc
  isplitl [Hf]; · iexact Hf
  iexact Hr

/-- What device `c` has told the writer of its slots: the first `n` are released. -/
def told (c : Dev nD) (d : Bool) (n : ℕ) : sProp 𝕄 := Release.heard (credFact (pv d c) d) (Finset.univ.filter fun j : Fin 3 => j.val < n)
/-- What the device before is told stays true. -/
instance told_persistent (c d n) : BI.Persistent (told (F := F) c d n) := by unfold told; infer_instance

/-- At first nothing is told. -/
theorem told_zero (c : Dev nD) (d : Bool) : (emp : sProp 𝕄) ⊢ told c d 0 := by
  unfold told Release.heard
  rw [show (Finset.univ.filter fun j : Fin 3 => j.val < 0) = ∅ from by decide, bigSep_empty]
  exact BI.Entails.refl _

/-- One released slot more may be told. -/
theorem told_succ (c : Dev nD) (d : Bool) (k : Fin 3) : iprop(told c d k.val ∗ credFact (pv d c) d k) ⊢ (told c d (k.val + 1) : sProp 𝕄) := by
  have e : (Finset.univ.filter fun j : Fin 3 => j.val < k.val + 1) = (Finset.univ.filter fun j : Fin 3 => j.val < k.val) ∪ {k} := by
    revert k; decide
  have hu := Release.heard_union (credFact (F := F) (pv d c) d) (Finset.univ.filter fun j : Fin 3 => j.val < k.val) {k}
  have h1 := Release.heard_single (Φ := credFact (F := F) (pv d c) d) k
  unfold told
  rw [e]
  iintro ⟨H, H1⟩
  ihave H1 := h1 $$ H1
  iapply hu
  isplitl [H]; · iexact H
  iexact H1

/-- What is told is what a credit hands over. -/
theorem told_pay (c : Dev nD) (d : Bool) (k : Fin 3) : told c d (k.val + 1) ⊢ (credPay (pv d c) d k : sProp 𝕄) := by
  have e : (Finset.univ.filter fun j : Fin 3 => j.val < k.val + 1) = Finset.univ.filter (· ≤ k) := by revert k; decide
  unfold told credPay
  rw [e]

/-- Nobody holds a slot twice. -/
theorem slot_false (c : Dev nD) (d : Bool) (s : Fin 3) : iprop(free (slot d s) c ∗ free (slot d s) c) ⊢ (False : sProp 𝕄) := by
  have hne : (slot d s).view.set.Nonempty := by
    cases d
    · exact ⟨_, View.emb_mem_set (slot false s).view (fun _ => ⟨0, by first | decide | (rename_i a; fin_cases a <;> decide)⟩)⟩
    · exact ⟨_, View.emb_mem_set (slot true s).view (fun _ => ⟨0, by first | decide | (rename_i a; fin_cases a <;> decide)⟩)⟩
  exact Release.slot_slot_false hne

/-- A slot read and sent on is released, and its writer told. -/
theorem give_rule (c : Dev nD) (d : Bool) (k : Fin 3) (v : Vec F S4096x128 .bf16) (l : List Due) (K : PR F) (Q : PUnit → sProp 𝕄) :
    iprop(recs x w κ ι ∗ Release.readerAt ES (c, d, k) 0 ∗ holds (slot d k) c v ∗ reached ER (cell c (.recv d k)) 1 ∗ told c d k.val
        ∗ todo c (.cred d k :: l) ∗ (told c d (k.val + 1) ∗ todo c l -∗ run c K Q))
      ⊢ run c (sig1 (pv d c) (credS d) K) Q := by
  have hs := recs_slot (x := x) (w := w) (κ := κ) (ι := ι) (c, d, k)
  have hrl : iprop(Release.slotInv ES (ι (c, d, k)) (c, d, k) (free (slot d k) c) ∗ Release.readerAt ES (c, d, k) 0
      ∗ free (slot d k) c) ⊢ (|={Set.univ}=> (Release.readerAt ES (c, d, k) (0 + 1) ∗ Release.released ES (c, d, k) (0 + 1)) : sProp 𝕄) :=
    Release.slot_release ES (Set.mem_univ _) (slot_false c d k) 0
  have hf : iprop(Release.released ES (c, d, k) (0 + 1) ∗ reached ER (cell c (.recv d k)) 1) ⊢ (credFact (pv d c) d k : sProp 𝕄) := by
    unfold credFact; rw [nx_pv]
  have hp : told c d (k.val + 1) ⊢ payK x w (pv d c) (.cred d) 0 k := told_pay c d k
  iintro ⟨#HR, Hrd, Hh, Hr, Htd, Ht, Hk⟩
  ihave #HS := hs $$ HR
  ihave Hh := (holds_free (slot d k) c v) $$ Hh
  imod hrl $$ [Hrd Hh] with ⟨-, Hrel⟩
  · isplitr; · iexact HS
    isplitl [Hrd]; · iexact Hrd
    iexact Hh
  ihave Hf := hf $$ [Hrel Hr]
  · isplitl [Hrel]; · iexact Hrel
    iexact Hr
  ihave #Htd := (told_succ c d k) $$ [Htd Hf]
  · isplitl [Htd]; · iexact Htd
    iexact Hf
  iapply (sig_rule (x := x) (w := w) (κ := κ) (ι := ι) c (.cred d k) l (pv d c) (credS d) rfl rfl rfl rfl K Q)
  isplitr; · iexact HR
  isplitl [Ht]; · iexact Ht
  isplitr; · iapply hp; iexact Htd
  iintro Ht
  iapply Hk
  isplitr; · iexact Htd
  iexact Ht

end Cert.KernelIdeal.Ring

end
-- ==== Proof.Steps.lean ====
/-
  THE RING'S SIX STEPS.
-/
module

public import proofs.«01_k».proof.Proof.Step

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig ℕ (Elt F) ℕ UU ℕ

variable {x : Dev nD → Vec F S1024x4096 .f32} {w : Dev nD → Vec F S4096x512 .f32}
variable {κ : Dev nD × Kind → ℕ} {ι : Key → ℕ}

/-! ## The rules of a step, with numbers written out -/

/-- The slot at number `s` holds message `m`. -/
abbrev has (w : Dev nD → Vec F S4096x512 .f32) (c : Dev nD) (d : Bool) (s : Fin 3) (m : Fin 6) : sProp 𝕄 := holds (slot d s) c (rv w c d m)

/-- The two arrivals of a message, with slot, level and round named. -/
theorem recvs_at (c : Dev nD) (m : Fin 6) (s : Fin 3) (i r : ℕ) (hs : s = sl m) (hi : i = 2 * m.val + 2) (hr : r = m.val / 3) (lp : List Kind) (l : List Due)
    (li : List (Kind × ℕ × ℕ)) (h1 : lp.count (.recv true s) = r) (h0 : lp.count (.recv false s) = r)
    (hl : above i l) (k : PR F) (Q : PUnit → sProp 𝕄) :
    iprop(recs x w κ ι ∗ inc c ((.recv true s, i, NR) :: (.recv false s, i, NR) :: li) ∗ todo c l ∗ pos c lp
        ∗ (inc c li ∗ todo c l ∗ pos c (.recv false s :: .recv true s :: lp)
            ∗ (reached ER (cell c (.recv true s)) (r + 1) ∗ has w c true s m) ∗ (reached ER (cell c (.recv false s)) (r + 1) ∗ has w c false s m)
            ∗ extra c true m.val -∗ run c k Q))
      ⊢ run c (ringRecv true m (ringRecv false m k)) Q := by
  subst hs hi hr
  exact recvs_rule c m lp l li h1 h0 hl k Q

/-- The send, the products and the departures of a step, with slots and round named. -/
theorem turn_at (c : Dev nD) (n : Fin 4) (m f : Fin 6) (s s' : Fin 3) (r : ℕ) (hn : m = at4 n) (hf : f = on n) (hs : s = sl m) (hs' : s' = sl f)
    (hr : r = f.val / 3) (h : Fin 3) (b : Fin 2) (hm : msgOf h b = m) (D : List (Dev nD × Fin 4)) (lp : List Kind) (l : List Due)
    (h1 : lp.count (.send true f) = 0) (h0 : lp.count (.send false f) = 0) (hl : above 0 l) (k : F .f32 → PR F) (Q : PUnit → sProp 𝕄) :
    iprop(recs x w κ ι ∗ reached ER (cell (nx true c) (.recv true s')) r ∗ reached ER (cell (nx false c) (.recv false s')) r
        ∗ has w c true s m ∗ has w c false s m ∗ free (slot true s') (nx true c) ∗ free (slot false s') (nx false c)
        ∗ todo c (.ring true f :: .ring false f :: l) ∗ pos c lp ∗ at_ xM c (x c) ∗ yHeld x w c D
        ∗ (todo c l ∗ pos c (.send false f :: .send true f :: lp) ∗ at_ xM c (x c) ∗ yHeld x w c (more c m D)
            ∗ has w c true s m ∗ has w c false s m -∗ run c (k (lm x w c (more c m D))) Q))
      ⊢ run c (ringSend true f (nx true c) <| ringSend false f (nx false c) <|
          stepBlks c m h b (lm x w c D) fun l => ringDone true f <| ringDone false f <| k l) Q := by
  subst hn hf hs hs' hr
  exact turn_rule c n h b hm D lp l h1 h0 hl k Q

/-- Waiting for the two credits of a slot brings that slot of both receivers, free for the second round. -/
theorem takes_at (c : Dev nD) (n : Fin 3) (i j : ℕ) (hi : i = 2 * n.val + 3) (hj : j = n.val + 1) (a : ℕ) (ha : a = n.val) (l : List Due) (li : List (Kind × ℕ × ℕ)) (hl : above i l)
    (k : PR F) (Q : PUnit → sProp 𝕄) :
    iprop(recs x w κ ι ∗ inc c ((.cred true, i, 1) :: (.cred false, i, 1) :: li) ∗ todo c l ∗ cstAt c true a ∗ cstAt c false a
        ∗ Release.writeTok ES (nx true c, true, n) 1 ∗ Release.writeTok ES (nx false c, false, n) 1
        ∗ (inc c li ∗ todo c l ∗ cstAt c true j ∗ cstAt c false j ∗ free (slot true n) (nx true c) ∗ free (slot false n) (nx false c)
            ∗ reached ER (cell (nx true c) (.recv true n)) 1 ∗ reached ER (cell (nx false c) (.recv false n)) 1 -∗ run c k Q))
      ⊢ run c (wait1 (credS true) 1#32 (wait1 (credS false) 1#32 k)) Q := by
  subst hi hj ha
  iintro ⟨#HR, Hi, Ht, Hc1, Hc0, Hw1, Hw0, Hk⟩
  iapply (take_rule (x := x) (w := w) (κ := κ) (ι := ι) c true n l _ hl)
  isplitr; · iexact HR
  isplitl [Hi]; · iexact Hi
  isplitl [Ht]; · iexact Ht
  isplitl [Hc1]; · iexact Hc1
  isplitl [Hw1]; · iexact Hw1
  iintro ⟨Hi, Ht, Hc1, Hf1, Hr1⟩
  iapply (take_rule (x := x) (w := w) (κ := κ) (ι := ι) c false n l _ hl)
  isplitr; · iexact HR
  isplitl [Hi]; · iexact Hi
  isplitl [Ht]; · iexact Ht
  isplitl [Hc0]; · iexact Hc0
  isplitl [Hw0]; · iexact Hw0
  iintro ⟨Hi, Ht, Hc0, Hf0, Hr0⟩
  iapply Hk
  isplitl [Hi]; · iexact Hi
  isplitl [Ht]; · iexact Ht
  isplitl [Hc1]; · iexact Hc1
  isplitl [Hc0]; · iexact Hc0
  isplitl [Hf1]; · iexact Hf1
  isplitl [Hf0]; · iexact Hf0
  isplitl [Hr1]; · iexact Hr1
  iexact Hr0

/-- Releasing a slot in both directions and telling so with a credit each. -/
theorem gives_at (c : Dev nD) (k : Fin 3) (m : Fin 6) (a b : ℕ) (ha : a = k.val) (hb : b = k.val + 1) (l : List Due) (K : PR F) (Q : PUnit → sProp 𝕄) :
    iprop(recs x w κ ι ∗ Release.readerAt ES (c, true, k) 0 ∗ Release.readerAt ES (c, false, k) 0 ∗ has w c true k m ∗ has w c false k m
        ∗ reached ER (cell c (.recv true k)) 1 ∗ reached ER (cell c (.recv false k)) 1 ∗ told c true a ∗ told c false a
        ∗ todo c (.cred true k :: .cred false k :: l) ∗ (told c true b ∗ told c false b ∗ todo c l -∗ run c K Q))
      ⊢ run c (sig1 (nx false c) (credS true) (sig1 (nx true c) (credS false) K)) Q := by
  subst ha hb
  iintro ⟨#HR, Hd1, Hd0, Hs1, Hs0, Hr1, Hr0, Ht1, Ht0, Ht, Hk⟩
  iapply (give_rule (x := x) (w := w) (κ := κ) (ι := ι) c true k (rv w c true m) _)
  isplitr; · iexact HR
  isplitl [Hd1]; · iexact Hd1
  isplitl [Hs1]; · iexact Hs1
  isplitl [Hr1]; · iexact Hr1
  isplitl [Ht1]; · iexact Ht1
  isplitl [Ht]; · iexact Ht
  iintro ⟨Ht1, Ht⟩
  iapply (give_rule (x := x) (w := w) (κ := κ) (ι := ι) c false k (rv w c false m) _)
  isplitr; · iexact HR
  isplitl [Hd0]; · iexact Hd0
  isplitl [Hs0]; · iexact Hs0
  isplitl [Hr0]; · iexact Hr0
  isplitl [Ht0]; · iexact Ht0
  isplitl [Ht]; · iexact Ht
  iintro ⟨Ht0, Ht⟩
  iapply Hk
  isplitl [Ht1]; · iexact Ht1
  isplitl [Ht0]; · iexact Ht0
  iexact Ht

/-- The products of a step that sends nothing on, with the slot named. -/
theorem blks_at (c : Dev nD) (m : Fin 6) (s : Fin 3) (hs : s = sl m) (h : Fin 3) (b : Fin 2) (hm : msgOf h b = m) (D : List (Dev nD × Fin 4))
    (k : F .f32 → PR F) (Q : PUnit → sProp 𝕄) :
    iprop(at_ xM c (x c) ∗ has w c true s m ∗ has w c false s m ∗ yHeld x w c D
        ∗ (at_ xM c (x c) ∗ has w c true s m ∗ has w c false s m ∗ yHeld x w c (more c m D) -∗ run c (k (lm x w c (more c m D))) Q))
      ⊢ run c (stepBlks c m h b (lm x w c D) k) Q := by
  subst hs
  exact stepBlks_rule c m h b hm fullShare D k Q

/-- A step but for its credits given: receive, wait for a credit, send on, multiply, wait for the departures. -/
theorem full_at (c : Dev nD) (n : Fin 4) (u : Fin 3) (m f : Fin 6) (s s' : Fin 3) (i i' j a r r' : ℕ) (hn : m = at4 n) (hf : f = on n) (hs : s = sl m) (hs' : s' = sl f)
    (hu : u = s') (hi : i = 2 * m.val + 2) (hi' : i' = 2 * u.val + 3) (hii : i' ≤ i) (ha : a = u.val) (hj : j = u.val + 1) (hr : r = m.val / 3) (hr' : 1 = f.val / 3)
    (h : Fin 3) (b : Fin 2) (hm : msgOf h b = m) (D : List (Dev nD × Fin 4)) (lp : List Kind) (l : List Due) (li : List (Kind × ℕ × ℕ))
    (g1 : lp.count (.recv true s) = r) (g0 : lp.count (.recv false s) = r)
    (h1 : lp.count (.send true f) = 0) (h0 : lp.count (.send false f) = 0) (hl : above i (.ring true f :: .ring false f :: l)) (hl0 : above 0 l)
    (k : F .f32 → PR F) (Q : PUnit → sProp 𝕄) :
    iprop(recs x w κ ι ∗ inc c ((.recv true s, i, NR) :: (.recv false s, i, NR) :: (.cred true, i', 1) :: (.cred false, i', 1) :: li)
        ∗ todo c (.ring true f :: .ring false f :: l) ∗ pos c lp ∗ at_ xM c (x c) ∗ yHeld x w c D
        ∗ (cstAt c true a ∗ cstAt c false a) ∗ Release.writeTok ES (nx true c, true, u) 1 ∗ Release.writeTok ES (nx false c, false, u) 1
        ∗ (inc c li ∗ todo c l ∗ pos c (.send false f :: .send true f :: .recv false s :: .recv true s :: lp) ∗ at_ xM c (x c) ∗ yHeld x w c (more c m D)
            ∗ (cstAt c true j ∗ cstAt c false j) ∗ (reached ER (cell c (.recv true s)) (r + 1) ∗ has w c true s m)
            ∗ (reached ER (cell c (.recv false s)) (r + 1) ∗ has w c false s m) -∗ run c (k (lm x w c (more c m D))) Q))
      ⊢ run c (ringRecv true m <| ringRecv false m <| wait1 (credS true) 1#32 <| wait1 (credS false) 1#32 <|
          ringSend true f (nx true c) <| ringSend false f (nx false c) <|
          stepBlks c m h b (lm x w c D) fun l => ringDone true f <| ringDone false f <| k l) Q := by
  subst hu
  have e1 : List.count (Kind.send true f) (Kind.recv false s :: Kind.recv true s :: lp) = 0 := by
    rw [List.count_cons_of_ne (by simp), List.count_cons_of_ne (by simp)]; exact h1
  have e0 : List.count (Kind.send false f) (Kind.recv false s :: Kind.recv true s :: lp) = 0 := by
    rw [List.count_cons_of_ne (by simp), List.count_cons_of_ne (by simp)]; exact h0
  iintro ⟨#HR, Hi, Ht, Hp, Hx, Hy, ⟨Hc1, Hc0⟩, Hw1, Hw0, Hk⟩
  iapply (recvs_at (x := x) (w := w) (κ := κ) (ι := ι) c m s i r hs hi hr lp _ _ g1 g0 hl)
  isplitr; · iexact HR
  isplitl [Hi]; · iexact Hi
  isplitl [Ht]; · iexact Ht
  isplitl [Hp]; · iexact Hp
  iintro ⟨Hi, Ht, Hp, ⟨Hr1, Hs1⟩, ⟨Hr0, Hs0⟩, -⟩
  iapply (takes_at (x := x) (w := w) (κ := κ) (ι := ι) c u i' j hi' hj a ha _ _ (above_mono hl hii))
  isplitr; · iexact HR
  isplitl [Hi]; · iexact Hi
  isplitl [Ht]; · iexact Ht
  isplitl [Hc1]; · iexact Hc1
  isplitl [Hc0]; · iexact Hc0
  isplitl [Hw1]; · iexact Hw1
  isplitl [Hw0]; · iexact Hw0
  iintro ⟨Hi, Ht, Hc1, Hc0, Hf1, Hf0, Hn1, Hn0⟩
  iapply (turn_at (x := x) (w := w) (κ := κ) (ι := ι) c n m f s u 1 hn hf hs hs' hr' h b hm D _ l e1 e0 hl0)
  isplitr; · iexact HR
  isplitl [Hn1]; · iexact Hn1
  isplitl [Hn0]; · iexact Hn0
  isplitl [Hs1]; · iexact Hs1
  isplitl [Hs0]; · iexact Hs0
  isplitl [Hf1]; · iexact Hf1
  isplitl [Hf0]; · iexact Hf0
  isplitl [Ht]; · iexact Ht
  isplitl [Hp]; · iexact Hp
  isplitl [Hx]; · iexact Hx
  isplitl [Hy]; · iexact Hy
  iintro ⟨Ht, Hp, Hx, Hy, Hs1, Hs0⟩
  iapply Hk
  isplitl [Hi]; · iexact Hi
  isplitl [Ht]; · iexact Ht
  isplitl [Hp]; · iexact Hp
  isplitl [Hx]; · iexact Hx
  isplitl [Hy]; · iexact Hy
  isplitl [Hc1 Hc0]
  · isplitl [Hc1]; · iexact Hc1
    iexact Hc0
  isplitl [Hr1 Hs1]
  · isplitl [Hr1]; · iexact Hr1
    iexact Hs1
  isplitl [Hr0]; · iexact Hr0
  iexact Hs0

/-- One of the last two steps: receive and multiply. -/
theorem last_at (c : Dev nD) (m : Fin 6) (s : Fin 3) (i r : ℕ) (hs : s = sl m) (hi : i = 2 * m.val + 2) (hr : r = m.val / 3) (h : Fin 3) (b : Fin 2) (hm : msgOf h b = m)
    (D : List (Dev nD × Fin 4)) (lp : List Kind) (l : List Due)
    (li : List (Kind × ℕ × ℕ)) (h1 : lp.count (.recv true s) = r) (h0 : lp.count (.recv false s) = r)
    (hl : above i l) (k : F .f32 → PR F) (Q : PUnit → sProp 𝕄) :
    iprop(recs x w κ ι ∗ inc c ((.recv true s, i, NR) :: (.recv false s, i, NR) :: li) ∗ todo c l ∗ pos c lp ∗ at_ xM c (x c) ∗ yHeld x w c D
        ∗ (inc c li ∗ todo c l ∗ pos c (.recv false s :: .recv true s :: lp) ∗ at_ xM c (x c) ∗ yHeld x w c (more c m D)
            ∗ has w c true s m ∗ has w c false s m -∗ run c (k (lm x w c (more c m D))) Q))
      ⊢ run c (ringRecv true m <| ringRecv false m <| stepBlks c m h b (lm x w c D) k) Q := by
  iintro ⟨#HR, Hi, Ht, Hp, Hx, Hy, Hk⟩
  iapply (recvs_at (x := x) (w := w) (κ := κ) (ι := ι) c m s i r hs hi hr lp l li h1 h0 hl)
  isplitr; · iexact HR
  isplitl [Hi]; · iexact Hi
  isplitl [Ht]; · iexact Ht
  isplitl [Hp]; · iexact Hp
  iintro ⟨Hi, Ht, Hp, ⟨-, Hs1⟩, ⟨-, Hs0⟩, -⟩
  iapply (blks_at (x := x) (w := w) c m s hs h b hm D)
  isplitl [Hx]; · iexact Hx
  isplitl [Hs1]; · iexact Hs1
  isplitl [Hs0]; · iexact Hs0
  isplitl [Hy]; · iexact Hy
  iintro ⟨Hx, Hs1, Hs0, Hy⟩
  iapply Hk
  isplitl [Hi]; · iexact Hi
  isplitl [Ht]; · iexact Ht
  isplitl [Hp]; · iexact Hp
  isplitl [Hx]; · iexact Hx
  isplitl [Hy]; · iexact Hy
  isplitl [Hs1]; · iexact Hs1
  iexact Hs0

/-! ## What the steps start from -/

/-- The rights to write the next device's slots a second time. -/
def wts (c : Dev nD) (d : Bool) : sProp 𝕄 :=
  iprop(Release.writeTok ES (nx d c, d, (0 : Fin 3)) 1 ∗ Release.writeTok ES (nx d c, d, (1 : Fin 3)) 1 ∗ Release.writeTok ES (nx d c, d, (2 : Fin 3)) 1)
/-- The places of the own slots, none released yet. -/
def rds (c : Dev nD) (d : Bool) : sProp 𝕄 :=
  iprop(Release.readerAt ES (c, d, (0 : Fin 3)) 0 ∗ Release.readerAt ES (c, d, (1 : Fin 3)) 0 ∗ Release.readerAt ES (c, d, (2 : Fin 3)) 0)
/-- The three slots of a direction, free. -/
def slots (c : Dev nD) (d : Bool) : sProp 𝕄 := iprop(free (slot d 0) c ∗ free (slot d 1) c ∗ free (slot d 2) c)

/-- Dues from the maxima on, -/
abbrev duesB : List Due := [.max 0, .max 1, .max 2, .tile 0, .tile 1, .tile 2]
/-- from step 2's credits on, -/
abbrev duesA3 : List Due := .cred true 2 :: .cred false 2 :: .ring true 5 :: .ring false 5 :: duesB
/-- from step 1's credits on, -/
abbrev duesA2 : List Due := .cred true 1 :: .cred false 1 :: .ring true 4 :: .ring false 4 :: duesA3
/-- from step 0's credits on, -/
abbrev duesA1 : List Due := .cred true 0 :: .cred false 0 :: .ring true 3 :: .ring false 3 :: duesA2
/-- from the first step on. -/
abbrev duesA : List Due := .ring true 2 :: .ring false 2 :: duesA1
/-- Credits from the maxima on, -/
abbrev incB : List (Kind × ℕ × ℕ) :=
  [(.mRecv 2, 20, NM), (.mRecv 1, 20, NM), (.mRecv 0, 20, NM), (.tRecv 2, 21, NT), (.tRecv 1, 21, NT), (.tRecv 0, 21, NT)]
/-- from step 5 on, -/
abbrev incA5 : List (Kind × ℕ × ℕ) := (.recv true 2, 12, NR) :: (.recv false 2, 12, NR) :: incB
/-- from step 4 on, -/
abbrev incA4 : List (Kind × ℕ × ℕ) := (.recv true 1, 10, NR) :: (.recv false 1, 10, NR) :: incA5
/-- from step 3 on, -/
abbrev incA3 : List (Kind × ℕ × ℕ) := (.recv true 0, 8, NR) :: (.recv false 0, 8, NR) :: (.cred true, 7, 1) :: (.cred false, 7, 1) :: incA4
/-- from step 2 on, -/
abbrev incA2 : List (Kind × ℕ × ℕ) := (.recv true 2, 6, NR) :: (.recv false 2, 6, NR) :: (.cred true, 5, 1) :: (.cred false, 5, 1) :: incA3
/-- from step 1 on, -/
abbrev incA1 : List (Kind × ℕ × ℕ) := (.recv true 1, 4, NR) :: (.recv false 1, 4, NR) :: (.cred true, 3, 1) :: (.cred false, 3, 1) :: incA2
/-- from the first step on. -/
abbrev incA : List (Kind × ℕ × ℕ) := (.recv true 0, 2, NR) :: (.recv false 0, 2, NR) :: incA1
/-- Waits done before the first step, -/
abbrev posA : List Kind := [.bar]
/-- after step 0, -/
abbrev posA1 : List Kind := .send false 2 :: .send true 2 :: .recv false 0 :: .recv true 0 :: posA
/-- after step 1, -/
abbrev posA2 : List Kind := .send false 3 :: .send true 3 :: .recv false 1 :: .recv true 1 :: posA1
/-- after step 2, -/
abbrev posA3 : List Kind := .send false 4 :: .send true 4 :: .recv false 2 :: .recv true 2 :: posA2
/-- after step 3, -/
abbrev posA4 : List Kind := .send false 5 :: .send true 5 :: .recv false 0 :: .recv true 0 :: posA3
/-- after step 4, -/
abbrev posA5 : List Kind := .recv false 1 :: .recv true 1 :: posA4
/-- after the last step. -/
abbrev posB : List Kind := .recv false 2 :: .recv true 2 :: posA5

/-- The device's own blocks. -/
abbrev own4 (c : Dev nD) : List (Dev nD × Fin 4) := [] ++ [(c, 0)] ++ [(c, 1)] ++ [(c, 2)] ++ [(c, 3)]

/-- The device's own blocks and then those of the six steps are all blocks, in order. -/
theorem order_eq (c : Dev nD) : more c 5 (more c 4 (more c 3 (more c 2 (more c 1 (more c 0 (own4 c)))))) = order c := rfl

/-! ## The steps -/

/-- Step 0, with the slots the barrier handed over. -/
theorem step0_rule (c : Dev nD) (D : List (Dev nD × Fin 4)) (k : F .f32 → PR F) (Q : PUnit → sProp 𝕄) :
    iprop(recs x w κ ι ∗ inc c incA ∗ todo c duesA ∗ pos c posA ∗ at_ xM c (x c) ∗ yHeld x w c D
        ∗ free (slot true 2) (nx true c) ∗ free (slot false 2) (nx false c)
        ∗ (inc c incA1 ∗ todo c duesA1 ∗ pos c posA1 ∗ at_ xM c (x c) ∗ yHeld x w c (more c 0 D)
            ∗ (reached ER (cell c (.recv true 0)) 1 ∗ has w c true 0 0) ∗ (reached ER (cell c (.recv false 0)) 1 ∗ has w c false 0 0)
            ∗ extra c true 0 -∗ run c (k (lm x w c (more c 0 D))) Q))
      ⊢ run c (ringRecv true 0 <| ringRecv false 0 <| ringSend true 2 (nx true c) <| ringSend false 2 (nx false c) <|
          stepBlks c 0 0 0 (lm x w c D) fun l => ringDone true 2 <| ringDone false 2 <| k l) Q := by
  have hr1 := recs_reached (x := x) (w := w) (κ := κ) (ι := ι) (nx true c) (.recv true 2)
  have hr0 := recs_reached (x := x) (w := w) (κ := κ) (ι := ι) (nx false c) (.recv false 2)
  iintro ⟨#HR, Hi, Ht, Hp, Hx, Hy, Hf1, Hf0, Hk⟩
  ihave #Hn1 := hr1 $$ HR
  ihave #Hn0 := hr0 $$ HR
  iapply (recvs_at (x := x) (w := w) (κ := κ) (ι := ι) c 0 0 2 0 rfl rfl rfl posA duesA incA1 (by decide) (by decide) (by decide))
  isplitr; · iexact HR
  isplitl [Hi]; · iexact Hi
  isplitl [Ht]; · iexact Ht
  isplitl [Hp]; · iexact Hp
  iintro ⟨Hi, Ht, Hp, ⟨Hr1, Hs1⟩, ⟨Hr0, Hs0⟩, He⟩
  iapply (turn_at (x := x) (w := w) (κ := κ) (ι := ι) c 0 0 2 0 2 0 rfl rfl rfl rfl rfl 0 0 rfl D (.recv false 0 :: .recv true 0 :: posA) duesA1
    (by decide) (by decide) (by decide))
  isplitr; · iexact HR
  isplitr; · iexact Hn1
  isplitr; · iexact Hn0
  isplitl [Hs1]; · iexact Hs1
  isplitl [Hs0]; · iexact Hs0
  isplitl [Hf1]; · iexact Hf1
  isplitl [Hf0]; · iexact Hf0
  isplitl [Ht]; · iexact Ht
  isplitl [Hp]; · iexact Hp
  isplitl [Hx]; · iexact Hx
  isplitl [Hy]; · iexact Hy
  iintro ⟨Ht, Hp, Hx, Hy, Hs1, Hs0⟩
  iapply Hk
  isplitl [Hi]; · iexact Hi
  isplitl [Ht]; · iexact Ht
  isplitl [Hp]; · iexact Hp
  isplitl [Hx]; · iexact Hx
  isplitl [Hy]; · iexact Hy
  isplitl [Hr1 Hs1]
  · isplitl [Hr1]; · iexact Hr1
    iexact Hs1
  isplitl [Hr0 Hs0]
  · isplitl [Hr0]; · iexact Hr0
    iexact Hs0
  iexact He

/-- The last two steps. -/
theorem end_rule (c : Dev nD) (D : List (Dev nD × Fin 4)) (k : F .f32 → PR F) (Q : PUnit → sProp 𝕄) :
    iprop(recs x w κ ι ∗ inc c incA4 ∗ todo c duesB ∗ pos c posA4 ∗ at_ xM c (x c) ∗ yHeld x w c D
        ∗ (inc c incB ∗ todo c duesB ∗ pos c posB ∗ at_ xM c (x c) ∗ yHeld x w c (more c 5 (more c 4 D))
            ∗ (has w c true 1 4 ∗ has w c false 1 4) ∗ (has w c true 2 5 ∗ has w c false 2 5)
            -∗ run c (k (lm x w c (more c 5 (more c 4 D)))) Q))
      ⊢ run c (ringRecv true 4 <| ringRecv false 4 <| stepBlks c 4 2 0 (lm x w c D) fun l =>
          ringRecv true 5 <| ringRecv false 5 <| stepBlks c 5 2 1 l k) Q := by
  iintro ⟨#HR, Hi, Ht, Hp, Hx, Hy, Hk⟩
  iapply (last_at (x := x) (w := w) (κ := κ) (ι := ι) c 4 1 10 1 rfl rfl rfl 2 0 rfl D posA4 duesB incA5 (by decide) (by decide) (by decide))
  isplitr; · iexact HR
  isplitl [Hi]; · iexact Hi
  isplitl [Ht]; · iexact Ht
  isplitl [Hp]; · iexact Hp
  isplitl [Hx]; · iexact Hx
  isplitl [Hy]; · iexact Hy
  iintro ⟨Hi, Ht, Hp, Hx, Hy, Hs14, Hs04⟩
  iapply (last_at (x := x) (w := w) (κ := κ) (ι := ι) c 5 2 12 1 rfl rfl rfl 2 1 rfl (more c 4 D) posA5 duesB incB (by decide) (by decide) (by decide))
  isplitr; · iexact HR
  isplitl [Hi]; · iexact Hi
  isplitl [Ht]; · iexact Ht
  isplitl [Hp]; · iexact Hp
  isplitl [Hx]; · iexact Hx
  isplitl [Hy]; · iexact Hy
  iintro ⟨Hi, Ht, Hp, Hx, Hy, Hs15, Hs05⟩
  iapply Hk
  isplitl [Hi]; · iexact Hi
  isplitl [Ht]; · iexact Ht
  isplitl [Hp]; · iexact Hp
  isplitl [Hx]; · iexact Hx
  isplitl [Hy]; · iexact Hy
  isplitl [Hs14 Hs04]
  · isplitl [Hs14]; · iexact Hs14
    iexact Hs04
  isplitl [Hs15]; · iexact Hs15
  iexact Hs05

/-- The six steps. -/
theorem steps_rule (c : Dev nD) (Q : PUnit → sProp 𝕄) :
    iprop(recs x w κ ι ∗ inc c incA ∗ todo c duesA ∗ pos c posA ∗ at_ xM c (x c) ∗ yHeld x w c (own4 c)
        ∗ free (slot true 2) (nx true c) ∗ free (slot false 2) (nx false c) ∗ (wts c true ∗ wts c false) ∗ (rds c true ∗ rds c false)
        ∗ (cstAt c true 0 ∗ cstAt c false 0)
        ∗ (inc c incB ∗ todo c duesB ∗ pos c posB ∗ at_ xM c (x c) ∗ yHeld x w c (order c) ∗ slots c true ∗ slots c false
            ∗ (cstAt c true 3 ∗ cstAt c false 3) ∗ extra c true 0 -∗ run c (second c (lmaxOf x w c)) Q))
      ⊢ run c (steps c (lm x w c (own4 c))) Q := by
  have hend : lm x w c (more c 5 (more c 4 (more c 3 (more c 2 (more c 1 (more c 0 (own4 c))))))) = lmaxOf x w c := by rw [order_eq]; rfl
  have hy := Entails.of_eq (congrArg (yHeld x w c) (order_eq c))
  have hf (d : Bool) (s : Fin 3) (m : Fin 6) : has w c d s m ⊢ (free (slot d s) c : sProp 𝕄) := holds_free _ _ _
  unfold steps
  rw [dev7, dev8, dev9, dev10, dev11, dev12, dev13, dev14, dev15, dev16, dev17, dev18, dev19, dev20]
  unfold wts rds
  iintro ⟨#HR, Hi, Ht, Hp, Hx, Hy, Hf1, Hf0, ⟨⟨Hw10, Hw11, Hw12⟩, ⟨Hw00, Hw01, Hw02⟩⟩, ⟨⟨Hd10, Hd11, Hd12⟩, ⟨Hd00, Hd01, Hd02⟩⟩, Hc, Hk⟩
  ihave Hz1 := (told_zero (F := F) c true) $$ []
  · iempintro
  ihave Hz0 := (told_zero (F := F) c false) $$ []
  · iempintro
  iapply (step0_rule (x := x) (w := w) (κ := κ) (ι := ι) c (own4 c))
  isplitr; · iexact HR
  isplitl [Hi]; · iexact Hi
  isplitl [Ht]; · iexact Ht
  isplitl [Hp]; · iexact Hp
  isplitl [Hx]; · iexact Hx
  isplitl [Hy]; · iexact Hy
  isplitl [Hf1]; · iexact Hf1
  isplitl [Hf0]; · iexact Hf0
  iintro ⟨Hi, Ht, Hp, Hx, Hy, ⟨Hr1, Hs1⟩, ⟨Hr0, Hs0⟩, He⟩
  iapply (gives_at (x := x) (w := w) (κ := κ) (ι := ι) c 0 0 0 1 rfl rfl (.ring true 3 :: .ring false 3 :: duesA2))
  isplitr; · iexact HR
  isplitl [Hd10]; · iexact Hd10
  isplitl [Hd00]; · iexact Hd00
  isplitl [Hs1]; · iexact Hs1
  isplitl [Hs0]; · iexact Hs0
  isplitl [Hr1]; · iexact Hr1
  isplitl [Hr0]; · iexact Hr0
  isplitl [Hz1]; · iexact Hz1
  isplitl [Hz0]; · iexact Hz0
  isplitl [Ht]; · iexact Ht
  iintro ⟨Hz1, Hz0, Ht⟩
  iapply (full_at (x := x) (w := w) (κ := κ) (ι := ι) c 1 0 1 3 1 0 4 3 1 0 0 1 rfl rfl rfl rfl rfl rfl rfl (by decide) rfl rfl rfl rfl 0 1 rfl
    (more c 0 (own4 c)) posA1 duesA2 incA2 (by decide) (by decide) (by decide) (by decide) (by decide) (by decide))
  isplitr; · iexact HR
  isplitl [Hi]; · iexact Hi
  isplitl [Ht]; · iexact Ht
  isplitl [Hp]; · iexact Hp
  isplitl [Hx]; · iexact Hx
  isplitl [Hy]; · iexact Hy
  isplitl [Hc]; · iexact Hc
  isplitl [Hw10]; · iexact Hw10
  isplitl [Hw00]; · iexact Hw00
  iintro ⟨Hi, Ht, Hp, Hx, Hy, Hc, ⟨Hr1, Hs1⟩, ⟨Hr0, Hs0⟩⟩
  iapply (gives_at (x := x) (w := w) (κ := κ) (ι := ι) c 1 1 1 2 rfl rfl (.ring true 4 :: .ring false 4 :: duesA3))
  isplitr; · iexact HR
  isplitl [Hd11]; · iexact Hd11
  isplitl [Hd01]; · iexact Hd01
  isplitl [Hs1]; · iexact Hs1
  isplitl [Hs0]; · iexact Hs0
  isplitl [Hr1]; · iexact Hr1
  isplitl [Hr0]; · iexact Hr0
  isplitl [Hz1]; · iexact Hz1
  isplitl [Hz0]; · iexact Hz0
  isplitl [Ht]; · iexact Ht
  iintro ⟨Hz1, Hz0, Ht⟩
  iapply (full_at (x := x) (w := w) (κ := κ) (ι := ι) c 2 1 2 4 2 1 6 5 2 1 0 1 rfl rfl rfl rfl rfl rfl rfl (by decide) rfl rfl rfl rfl 1 0 rfl
    (more c 1 (more c 0 (own4 c))) posA2 duesA3 incA3 (by decide) (by decide) (by decide) (by decide) (by decide) (by decide))
  isplitr; · iexact HR
  isplitl [Hi]; · iexact Hi
  isplitl [Ht]; · iexact Ht
  isplitl [Hp]; · iexact Hp
  isplitl [Hx]; · iexact Hx
  isplitl [Hy]; · iexact Hy
  isplitl [Hc]; · iexact Hc
  isplitl [Hw11]; · iexact Hw11
  isplitl [Hw01]; · iexact Hw01
  iintro ⟨Hi, Ht, Hp, Hx, Hy, Hc, ⟨Hr1, Hs1⟩, ⟨Hr0, Hs0⟩⟩
  iapply (gives_at (x := x) (w := w) (κ := κ) (ι := ι) c 2 2 2 3 rfl rfl (.ring true 5 :: .ring false 5 :: duesB))
  isplitr; · iexact HR
  isplitl [Hd12]; · iexact Hd12
  isplitl [Hd02]; · iexact Hd02
  isplitl [Hs1]; · iexact Hs1
  isplitl [Hs0]; · iexact Hs0
  isplitl [Hr1]; · iexact Hr1
  isplitl [Hr0]; · iexact Hr0
  isplitl [Hz1]; · iexact Hz1
  isplitl [Hz0]; · iexact Hz0
  isplitl [Ht]; · iexact Ht
  iintro ⟨Hz1, Hz0, Ht⟩
  iapply (full_at (x := x) (w := w) (κ := κ) (ι := ι) c 3 2 3 5 0 2 8 7 3 2 1 1 rfl rfl rfl rfl rfl rfl rfl (by decide) rfl rfl rfl rfl 1 1 rfl
    (more c 2 (more c 1 (more c 0 (own4 c)))) posA3 duesB incA4 (by decide) (by decide) (by decide) (by decide) (by decide) (by decide))
  isplitr; · iexact HR
  isplitl [Hi]; · iexact Hi
  isplitl [Ht]; · iexact Ht
  isplitl [Hp]; · iexact Hp
  isplitl [Hx]; · iexact Hx
  isplitl [Hy]; · iexact Hy
  isplitl [Hc]; · iexact Hc
  isplitl [Hw12]; · iexact Hw12
  isplitl [Hw02]; · iexact Hw02
  iintro ⟨Hi, Ht, Hp, Hx, Hy, Hc, ⟨Hr1, Hs1⟩, ⟨Hr0, Hs0⟩⟩
  iapply (end_rule (x := x) (w := w) (κ := κ) (ι := ι) c (more c 3 (more c 2 (more c 1 (more c 0 (own4 c))))))
  isplitr; · iexact HR
  isplitl [Hi]; · iexact Hi
  isplitl [Ht]; · iexact Ht
  isplitl [Hp]; · iexact Hp
  isplitl [Hx]; · iexact Hx
  isplitl [Hy]; · iexact Hy
  iintro ⟨Hi, Ht, Hp, Hx, Hy, ⟨Hs14, Hs04⟩, ⟨Hs15, Hs05⟩⟩
  irw [hend]
  unfold slots
  iapply Hk
  isplitl [Hi]; · iexact Hi
  isplitl [Ht]; · iexact Ht
  isplitl [Hp]; · iexact Hp
  isplitl [Hx]; · iexact Hx
  isplitl [Hy]; · iapply hy; iexact Hy
  isplitl [Hs1 Hs14 Hs15]
  · isplitl [Hs1]; · iapply (hf true 0 3); iexact Hs1
    isplitl [Hs14]; · iapply (hf true 1 4); iexact Hs14
    iapply (hf true 2 5); iexact Hs15
  isplitl [Hs0 Hs04 Hs05]
  · isplitl [Hs0]; · iapply (hf false 0 3); iexact Hs0
    isplitl [Hs04]; · iapply (hf false 1 4); iexact Hs04
    iapply (hf false 2 5); iexact Hs05
  isplitl [Hc]; · iexact Hc
  iexact He

end Cert.KernelIdeal.Ring

end
-- ==== Proof.Second.lean ====
/-
  FROM THE LOCAL MAXIMUM TO THE END.
-/
module

public import proofs.«01_k».proof.Proof.Steps

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (shares3 pointsTo_thirds)
open Cert.KernelIdeal.Gen

variable {F : FTy → Type} [FloatOps F]

local notation "𝕄" => MT nD τ sig ℕ (Elt F) ℕ UU ℕ

variable {x : Dev nD → Vec F S1024x4096 .f32} {w : Dev nD → Vec F S4096x512 .f32}
variable {κ : Dev nD × Kind → ℕ} {ι : Key → ℕ}

/-! ## The rules with numbers written out -/

/-- A third of the own maximum's buffer. -/
def third (x : Dev nD → Vec F S1024x4096 .f32) (w : Dev nD → Vec F S4096x512 .f32) (c : Dev nD) (e : Fin 3) : sProp 𝕄 :=
  (mM.view.loc (c : Thread nD τ) ↦[mM.view.set]{shares3 fullShare e} mFull x w c)

/-- The buffer of the maximum is held whole exactly when three shares of it are held with the same contents. -/
theorem thirds (c : Dev nD) (f : Buf (Elt F) (mM.view.loc (c : Thread nD τ))) : (at_ mM c f : sProp 𝕄) ⊣⊢
    iprop((mM.view.loc (c : Thread nD τ) ↦[mM.view.set]{shares3 fullShare 0} f) ∗ (mM.view.loc (c : Thread nD τ) ↦[mM.view.set]{shares3 fullShare 1} f)
      ∗ (mM.view.loc (c : Thread nD τ) ↦[mM.view.set]{shares3 fullShare 2} f)) := by
  have e (q : PosShare TreeShare) : (mM.view.loc (c : Thread nD τ) ↦[mM.view.set]{q} f : sProp 𝕄) = (mM.view.loc (c : Thread nD τ) ↦{q} f) :=
    over (View.set_whole _) q f
  rw [e, e, e]
  exact pointsTo_thirds fullShare f

/-- The maximum held whole is the maximum held in three shares. -/
theorem m_thirds (c : Dev nD) : (at_ mM c (mFull x w c) : sProp 𝕄) ⊣⊢ iprop(third x w c 0 ∗ third x w c 1 ∗ third x w c 2) :=
  thirds c (mFull x w c)

/-- Sending the maximum, with slot and receiver named. -/
theorem max_at (c : Dev nD) (e s : Fin 3) (o : Dev nD) (hs : s = e.rev) (ho : o = rot (1 + e.val) c) (l : List Due) (k : PR F) (Q : PUnit → sProp 𝕄) :
    iprop(recs x w κ ι ∗ third x w c e ∗ free (gSlot s) o ∗ todo c (.max e :: l)
        ∗ (cred (tallyAt (cell c (.mSend e)) 0 NM) ∗ todo c l -∗ run c k Q))
      ⊢ run c (maxSend e o k) Q := by
  subst hs ho
  exact max_rule c e l k Q
/-- Waiting for a maximum, with slot and sender named. -/
theorem maxRecv_at (c : Dev nD) (e s : Fin 3) (hs : s = e.rev) (o : Dev nD) (ho : o = rot (1 + s.val) c) (lp : List Kind) (l : List Due)
    (li : List (Kind × ℕ × ℕ)) (hr : lp.count (.mRecv s) = 0) (hl : above 20 l) (k : PR F) (Q : PUnit → sProp 𝕄) :
    iprop(recs x w κ ι ∗ inc c ((.mRecv s, 20, NM) :: li) ∗ todo c l ∗ pos c lp
        ∗ (inc c li ∗ todo c l ∗ pos c (.mRecv s :: lp) ∗ holds (gSlot s) c (mFull x w o) -∗ run c k Q))
      ⊢ run c (maxRecv e k) Q := by
  subst hs ho
  iintro ⟨#HR, Hi, Ht, Hp, Hk⟩
  ihave Hi := (inc_cons c _ _) $$ Hi
  icases Hi with ⟨Hc, Hi⟩
  iapply (maxRecv_rule (x := x) (w := w) (κ := κ) (ι := ι) c e lp l hr hl k Q)
  isplitr; · iexact HR
  isplitl [Hc]; · iexact Hc
  isplitl [Ht]; · iexact Ht
  isplitl [Hp]; · iexact Hp
  iintro ⟨Ht, Hp, Hs⟩
  iapply Hk
  isplitl [Hi]; · iexact Hi
  isplitl [Ht]; · iexact Ht
  isplitl [Hp]; · iexact Hp
  iexact Hs
/-- Waiting for a tile, with slot and sender named. -/
theorem tileRecv_at (c : Dev nD) (e s : Fin 3) (hs : s = e.rev) (o : Dev nD) (ho : o = rot (1 + s.val) c) (lp : List Kind) (l : List Due)
    (li : List (Kind × ℕ × ℕ)) (hr : lp.count (.tRecv s) = 0) (hl : above 21 l) (k : PR F) (Q : PUnit → sProp 𝕄) :
    iprop(recs x w κ ι ∗ inc c ((.tRecv s, 21, NT) :: li) ∗ todo c l ∗ pos c lp
        ∗ (inc c li ∗ todo c l ∗ pos c (.tRecv s :: lp) ∗ holds (aSlot s) c (tileV x w o c) -∗ run c k Q))
      ⊢ run c (tileRecv c e k) Q := by
  subst hs ho
  iintro ⟨#HR, Hi, Ht, Hp, Hk⟩
  ihave Hi := (inc_cons c _ _) $$ Hi
  icases Hi with ⟨Hc, Hi⟩
  iapply (tileRecv_rule (x := x) (w := w) (κ := κ) (ι := ι) c e lp l hr hl k Q)
  isplitr; · iexact HR
  isplitl [Hc]; · iexact Hc
  isplitl [Ht]; · iexact Ht
  isplitl [Hp]; · iexact Hp
  iintro ⟨Ht, Hp, Hs⟩
  iapply Hk
  isplitl [Hi]; · iexact Hi
  isplitl [Ht]; · iexact Ht
  isplitl [Hp]; · iexact Hp
  iexact Hs
/-- Quantising and sending a tile, with slot and receiver named. -/
theorem tileSend_at (c : Dev nD) (e s : Fin 3) (o : Dev nD) (hs : s = e.rev) (ho : o = rot (1 + e.val) c) (l : List Due) (k : PR F) (Q : PUnit → sProp 𝕄) :
    iprop(recs x w κ ι ∗ at_ yM c (yFull x w c) ∗ free (qT c e) c ∗ free (aSlot s) o ∗ todo c (.tile e :: l)
        ∗ (at_ yM c (yFull x w c) ∗ cred (tallyAt (cell c (.tSend e)) 0 NT) ∗ todo c l -∗ run c k Q))
      ⊢ run c (tileSend c (scale x w c) e o k) Q := by
  subst hs ho
  exact tileSend_rule c e l k Q
/-- Writing a received tile into the result, with the sender named. -/
theorem slotTile_at (c : Dev nD) (D : List (Dev nD)) (s : Fin 3) (o : Dev nD) (ho : o = rot (1 + s.val) c) (k : PR F) (Q : PUnit → sProp 𝕄) :
    iprop(holds (aSlot s) c (tileV x w o c) ∗ oHeld x w c D ∗ (free (aSlot s) c ∗ oHeld x w c (o :: D) -∗ run c k Q))
      ⊢ run c (slotTile c (scale x w c) s k) Q := by
  subst ho
  exact slotTile_rule c D s k Q

/-! ## Maxima -/

/-- Departures waited for at the end: the maxima's. -/
def credM (c : Dev nD) : sProp 𝕄 :=
  iprop(cred (tallyAt (cell c (.mSend 0)) 0 NM) ∗ cred (tallyAt (cell c (.mSend 1)) 0 NM) ∗ cred (tallyAt (cell c (.mSend 2)) 0 NM))
/-- The tiles'. -/
def credT (c : Dev nD) : sProp 𝕄 :=
  iprop(cred (tallyAt (cell c (.tSend 0)) 0 NT) ∗ cred (tallyAt (cell c (.tSend 1)) 0 NT) ∗ cred (tallyAt (cell c (.tSend 2)) 0 NT))
/-- The first messages'. -/
def credR (c : Dev nD) : sProp 𝕄 :=
  iprop(cred (tallyAt (cell c (.send true 0)) 0 NR) ∗ cred (tallyAt (cell c (.send false 0)) 0 NR)
    ∗ cred (tallyAt (cell c (.send true 1)) 0 NR) ∗ cred (tallyAt (cell c (.send false 1)) 0 NR))

/-- Dues of the tiles. -/
abbrev duesT : List Due := [.tile 0, .tile 1, .tile 2]
/-- Credits of the tiles. -/
abbrev incT : List (Kind × ℕ × ℕ) := [(.tRecv 2, 21, NT), (.tRecv 1, 21, NT), (.tRecv 0, 21, NT)]
/-- Waits done after the maxima. -/
abbrev posM : List Kind := .mRecv 0 :: .mRecv 1 :: .mRecv 2 :: posB
/-- Waits done after the tiles. -/
abbrev posT : List Kind := .tRecv 0 :: .tRecv 1 :: .tRecv 2 :: posM
/-- Waits done at the end. -/
abbrev posE : List Kind :=
  .tSend 2 :: .tSend 1 :: .tSend 0 :: .mSend 2 :: .mSend 1 :: .mSend 0 :: .send false 1 :: .send true 1 :: .send false 0 :: .send true 0 :: posT

/-- The maxima are exchanged. -/
theorem maxima_rule (c : Dev nD) (k : Vec F S3x8x128 .f32 → PR F) (Q : PUnit → sProp 𝕄) :
    iprop(recs x w κ ι ∗ inc c incB ∗ todo c duesB ∗ pos c posB ∗ (∃ f, at_ mM c f)
        ∗ (free (gSlot 2) (rot 1 c) ∗ free (gSlot 1) (rot 2 c) ∗ free (gSlot 0) (rot 3 c))
        ∗ (inc c incT ∗ todo c duesT ∗ pos c posM ∗ credM c ∗ (∃ f, at_ gM c f) -∗ run c (k (gFull x w c)) Q))
      ⊢ run c (storeM (lmaxOf x w c) <| maxSend 0 (rot 1 c) <| maxSend 1 (rot 2 c) <| maxSend 2 (rot 3 c) <|
          maxRecv 0 <| maxRecv 1 <| maxRecv 2 <| loadG k) Q := by
  unfold credM
  iintro ⟨#HR, Hi, Ht, Hp, Hm, ⟨Hg2, Hg1, Hg0⟩, Hk⟩
  iapply (storeM_rule (x := x) (w := w) c)
  isplitl [Hm]; · iexact Hm
  iintro Hm
  ihave Hm := (m_thirds (x := x) (w := w) c).1 $$ Hm
  icases Hm with ⟨Hm0, Hm1, Hm2⟩
  iapply (max_at (x := x) (w := w) (κ := κ) (ι := ι) c 0 2 (rot 1 c) rfl rfl)
  isplitr; · iexact HR
  isplitl [Hm0]; · iexact Hm0
  isplitl [Hg2]; · iexact Hg2
  isplitl [Ht]; · iexact Ht
  iintro ⟨Hc0, Ht⟩
  iapply (max_at (x := x) (w := w) (κ := κ) (ι := ι) c 1 1 (rot 2 c) rfl rfl)
  isplitr; · iexact HR
  isplitl [Hm1]; · iexact Hm1
  isplitl [Hg1]; · iexact Hg1
  isplitl [Ht]; · iexact Ht
  iintro ⟨Hc1, Ht⟩
  iapply (max_at (x := x) (w := w) (κ := κ) (ι := ι) c 2 0 (rot 3 c) rfl rfl)
  isplitr; · iexact HR
  isplitl [Hm2]; · iexact Hm2
  isplitl [Hg0]; · iexact Hg0
  isplitl [Ht]; · iexact Ht
  iintro ⟨Hc2, Ht⟩
  iapply (maxRecv_at (x := x) (w := w) (κ := κ) (ι := ι) c 0 2 rfl (rot 3 c) rfl posB duesT _ (by decide) (by decide))
  isplitr; · iexact HR
  isplitl [Hi]; · iexact Hi
  isplitl [Ht]; · iexact Ht
  isplitl [Hp]; · iexact Hp
  iintro ⟨Hi, Ht, Hp, Hg2⟩
  iapply (maxRecv_at (x := x) (w := w) (κ := κ) (ι := ι) c 1 1 rfl (rot 2 c) rfl (.mRecv 2 :: posB) duesT _ (by decide) (by decide))
  isplitr; · iexact HR
  isplitl [Hi]; · iexact Hi
  isplitl [Ht]; · iexact Ht
  isplitl [Hp]; · iexact Hp
  iintro ⟨Hi, Ht, Hp, Hg1⟩
  iapply (maxRecv_at (x := x) (w := w) (κ := κ) (ι := ι) c 2 0 rfl (rot 1 c) rfl (.mRecv 1 :: .mRecv 2 :: posB) duesT _ (by decide) (by decide))
  isplitr; · iexact HR
  isplitl [Hi]; · iexact Hi
  isplitl [Ht]; · iexact Ht
  isplitl [Hp]; · iexact Hp
  iintro ⟨Hi, Ht, Hp, Hg0⟩
  iapply (loadG_rule (x := x) (w := w) c)
  isplitl [Hg0]; · iexact Hg0
  isplitl [Hg1]; · iexact Hg1
  isplitl [Hg2]; · iexact Hg2
  iintro Hg
  iapply Hk
  isplitl [Hi]; · iexact Hi
  isplitl [Ht]; · iexact Ht
  isplitl [Hp]; · iexact Hp
  isplitl [Hc0 Hc1 Hc2]
  · isplitl [Hc0]; · iexact Hc0
    isplitl [Hc1]; · iexact Hc1
    iexact Hc2
  iexact Hg

/-! ## Tiles -/

/-- The device itself and its three rotations are all devices. -/
theorem all_rows : ∀ (c r : Dev nD), r ∈ [rot 3 c, rot 2 c, rot 1 c, c] := by decide

/-- With all rows written the result is there. -/
theorem oHeld_full (c : Dev nD) : oHeld x w c [rot 3 c, rot 2 c, rot 1 c, c] ⊢ at_ oM c (outFull x w c) := by
  unfold oHeld
  iintro ⟨%f, H, %hf⟩
  have e : f = outFull x w c := funext fun i => hf i (all_rows c _)
  iapply (Entails.of_eq (congrArg (fun g => (at_ oM c g : sProp 𝕄)) e))
  iexact H
/-- At the start no rows of the result need be right. -/
theorem oHeld_none (c : Dev nD) : iprop(∃ f, at_ oM c f) ⊢ oHeld x w c [] := by
  unfold oHeld
  iintro ⟨%f, H⟩
  iexists f
  isplitl [H]; · iexact H
  ipureintro; intro i h; exact absurd h List.not_mem_nil

/-- The tiles are exchanged and the result written. -/
theorem tiles_rule (c : Dev nD) (K : PR F) (Q : PUnit → sProp 𝕄) :
    iprop(recs x w κ ι ∗ inc c incT ∗ todo c duesT ∗ pos c posM ∗ at_ yM c (yFull x w c) ∗ (∃ f, at_ oM c f)
        ∗ (free (qT c 0) c ∗ free (qT c 1) c ∗ free (qT c 2) c)
        ∗ (free (aSlot 2) (rot 1 c) ∗ free (aSlot 1) (rot 2 c) ∗ free (aSlot 0) (rot 3 c))
        ∗ (todo c [] ∗ pos c posT ∗ credT c ∗ at_ yM c (yFull x w c) ∗ at_ oM c (outFull x w c)
            ∗ (free (aSlot 0) c ∗ free (aSlot 1) c ∗ free (aSlot 2) c) -∗ run c K Q))
      ⊢ run c (tileSend c (scale x w c) 0 (rot 1 c) <| tileSend c (scale x w c) 1 (rot 2 c) <| tileSend c (scale x w c) 2 (rot 3 c) <|
          ownTile c (scale x w c) <| tileRecv c 0 <| tileRecv c 1 <| tileRecv c 2 <|
          slotTile c (scale x w c) 0 <| slotTile c (scale x w c) 1 <| slotTile c (scale x w c) 2 K) Q := by
  unfold credT
  iintro ⟨#HR, Hi, Ht, Hp, Hy, Ho, ⟨Hq0, Hq1, Hq2⟩, ⟨Ha2, Ha1, Ha0⟩, Hk⟩
  ihave Ho := (oHeld_none (x := x) (w := w) c) $$ Ho
  iapply (tileSend_at (x := x) (w := w) (κ := κ) (ι := ι) c 0 2 (rot 1 c) rfl rfl)
  isplitr; · iexact HR
  isplitl [Hy]; · iexact Hy
  isplitl [Hq0]; · iexact Hq0
  isplitl [Ha2]; · iexact Ha2
  isplitl [Ht]; · iexact Ht
  iintro ⟨Hy, Hc0, Ht⟩
  iapply (tileSend_at (x := x) (w := w) (κ := κ) (ι := ι) c 1 1 (rot 2 c) rfl rfl)
  isplitr; · iexact HR
  isplitl [Hy]; · iexact Hy
  isplitl [Hq1]; · iexact Hq1
  isplitl [Ha1]; · iexact Ha1
  isplitl [Ht]; · iexact Ht
  iintro ⟨Hy, Hc1, Ht⟩
  iapply (tileSend_at (x := x) (w := w) (κ := κ) (ι := ι) c 2 0 (rot 3 c) rfl rfl)
  isplitr; · iexact HR
  isplitl [Hy]; · iexact Hy
  isplitl [Hq2]; · iexact Hq2
  isplitl [Ha0]; · iexact Ha0
  isplitl [Ht]; · iexact Ht
  iintro ⟨Hy, Hc2, Ht⟩
  iapply (ownTile_rule (x := x) (w := w) c [])
  isplitl [Hy]; · iexact Hy
  isplitl [Ho]; · iexact Ho
  iintro ⟨Hy, Ho⟩
  iapply (tileRecv_at (x := x) (w := w) (κ := κ) (ι := ι) c 0 2 rfl (rot 3 c) rfl posM [] _ (by decide) (by decide))
  isplitr; · iexact HR
  isplitl [Hi]; · iexact Hi
  isplitl [Ht]; · iexact Ht
  isplitl [Hp]; · iexact Hp
  iintro ⟨Hi, Ht, Hp, Ha2⟩
  iapply (tileRecv_at (x := x) (w := w) (κ := κ) (ι := ι) c 1 1 rfl (rot 2 c) rfl (.tRecv 2 :: posM) [] _ (by decide) (by decide))
  isplitr; · iexact HR
  isplitl [Hi]; · iexact Hi
  isplitl [Ht]; · iexact Ht
  isplitl [Hp]; · iexact Hp
  iintro ⟨Hi, Ht, Hp, Ha1⟩
  iapply (tileRecv_at (x := x) (w := w) (κ := κ) (ι := ι) c 2 0 rfl (rot 1 c) rfl (.tRecv 1 :: .tRecv 2 :: posM) [] _ (by decide) (by decide))
  isplitr; · iexact HR
  isplitl [Hi]; · iexact Hi
  isplitl [Ht]; · iexact Ht
  isplitl [Hp]; · iexact Hp
  iintro ⟨-, Ht, Hp, Ha0⟩
  iapply (slotTile_at (x := x) (w := w) c [c] 0 (rot 1 c) rfl)
  isplitl [Ha0]; · iexact Ha0
  isplitl [Ho]; · iexact Ho
  iintro ⟨Ha0, Ho⟩
  iapply (slotTile_at (x := x) (w := w) c [rot 1 c, c] 1 (rot 2 c) rfl)
  isplitl [Ha1]; · iexact Ha1
  isplitl [Ho]; · iexact Ho
  iintro ⟨Ha1, Ho⟩
  iapply (slotTile_at (x := x) (w := w) c [rot 2 c, rot 1 c, c] 2 (rot 3 c) rfl)
  isplitl [Ha2]; · iexact Ha2
  isplitl [Ho]; · iexact Ho
  iintro ⟨Ha2, Ho⟩
  iapply Hk
  isplitl [Ht]; · iexact Ht
  isplitl [Hp]; · iexact Hp
  isplitl [Hc0 Hc1 Hc2]
  · isplitl [Hc0]; · iexact Hc0
    isplitl [Hc1]; · iexact Hc1
    iexact Hc2
  isplitl [Hy]; · iexact Hy
  isplitl [Ho]; · iapply (oHeld_full (x := x) (w := w) c); iexact Ho
  isplitl [Ha0]; · iexact Ha0
  isplitl [Ha1]; · iexact Ha1
  iexact Ha2

/-! ## The departures waited for at the end -/

/-- Waiting for a first message to have left brings its column block back. -/
theorem firstDone_at (c : Dev nD) (d : Bool) (m : Fin 6) (j : Fin 4) (hm : m.val < 2) (hj : j = colOf d m) (lp : List Kind) (hr : lp.count (.send d m) = 0)
    (k : PR F) (Q : PUnit → sProp 𝕄) :
    iprop(recs x w κ ι ∗ cred (tallyAt (cell c (.send d m)) 0 NR) ∗ todo c [] ∗ pos c lp
        ∗ (todo c [] ∗ pos c (.send d m :: lp) ∗ lent (wCols j) c fullShare -∗ run c k Q))
      ⊢ run c (ringDone d m k) Q := by
  have h := ringDone_rule (x := x) (w := w) (κ := κ) (ι := ι) c d m lp [] hr (by decide) k Q
  unfold srcOf shr at h
  rw [if_pos hm, if_pos hm, ← hj] at h
  exact h

/-- All departures. -/
theorem tail_rule (c : Dev nD) (Q : PUnit → sProp 𝕄) :
    iprop(recs x w κ ι ∗ todo c [] ∗ pos c posT ∗ credR c ∗ credM c ∗ credT c
        ∗ (todo c [] ∗ pos c posE ∗ (∃ f, at_ hM c f) ∗ (∃ f, at_ mM c f) ∗ (free (qT c 0) c ∗ free (qT c 1) c ∗ free (qT c 2) c) -∗ Q ⟨⟩))
      ⊢ run c (tailWaits c) Q := by
  have hm : iprop(third x w c 0 ∗ third x w c 1 ∗ third x w c 2) ⊢ (iprop(∃ f, at_ mM c f) : sProp 𝕄) := by
    refine (m_thirds (x := x) (w := w) c).2.trans ?_
    iintro H
    iexists _; iexact H
  have hmd (e : Fin 3) (lp : List Kind) (hr : lp.count (.mSend e) = 0) (k : PR F) :
      iprop(recs x w κ ι ∗ cred (tallyAt (cell c (.mSend e)) 0 NM) ∗ todo c [] ∗ pos c lp
        ∗ (todo c [] ∗ pos c (.mSend e :: lp) ∗ third x w c e -∗ run c k Q)) ⊢ run c (maxDone e k) Q :=
    maxDone_rule (x := x) (w := w) (κ := κ) (ι := ι) c e lp [] hr (by decide) k Q
  have hret : Q ⟨⟩ ⊢ run c (.ret ⟨⟩) Q := by unfold run; rw [wp_ret]; exact fupd_intro
  unfold credR credM credT tailWaits
  iintro ⟨#HR, Ht, Hp, ⟨Hr10, Hr00, Hr11, Hr01⟩, ⟨Hm0, Hm1, Hm2⟩, ⟨Hc0, Hc1, Hc2⟩, Hk⟩
  iapply (firstDone_at (x := x) (w := w) (κ := κ) (ι := ι) c true 0 0 (by decide) rfl posT (by decide))
  isplitr; · iexact HR
  isplitl [Hr10]; · iexact Hr10
  isplitl [Ht]; · iexact Ht
  isplitl [Hp]; · iexact Hp
  iintro ⟨Ht, Hp, Hw0⟩
  iapply (firstDone_at (x := x) (w := w) (κ := κ) (ι := ι) c false 0 2 (by decide) rfl (.send true 0 :: posT) (by decide))
  isplitr; · iexact HR
  isplitl [Hr00]; · iexact Hr00
  isplitl [Ht]; · iexact Ht
  isplitl [Hp]; · iexact Hp
  iintro ⟨Ht, Hp, Hw2⟩
  iapply (firstDone_at (x := x) (w := w) (κ := κ) (ι := ι) c true 1 1 (by decide) rfl (.send false 0 :: .send true 0 :: posT) (by decide))
  isplitr; · iexact HR
  isplitl [Hr11]; · iexact Hr11
  isplitl [Ht]; · iexact Ht
  isplitl [Hp]; · iexact Hp
  iintro ⟨Ht, Hp, Hw1⟩
  iapply (firstDone_at (x := x) (w := w) (κ := κ) (ι := ι) c false 1 3 (by decide) rfl (.send true 1 :: .send false 0 :: .send true 0 :: posT) (by decide))
  isplitr; · iexact HR
  isplitl [Hr01]; · iexact Hr01
  isplitl [Ht]; · iexact Ht
  isplitl [Hp]; · iexact Hp
  iintro ⟨Ht, Hp, Hw3⟩
  iapply (hmd 0 (.send false 1 :: .send true 1 :: .send false 0 :: .send true 0 :: posT) (by decide))
  isplitr; · iexact HR
  isplitl [Hm0]; · iexact Hm0
  isplitl [Ht]; · iexact Ht
  isplitl [Hp]; · iexact Hp
  iintro ⟨Ht, Hp, Hm0⟩
  iapply (hmd 1 (.mSend 0 :: .send false 1 :: .send true 1 :: .send false 0 :: .send true 0 :: posT) (by decide))
  isplitr; · iexact HR
  isplitl [Hm1]; · iexact Hm1
  isplitl [Ht]; · iexact Ht
  isplitl [Hp]; · iexact Hp
  iintro ⟨Ht, Hp, Hm1⟩
  iapply (hmd 2 (.mSend 1 :: .mSend 0 :: .send false 1 :: .send true 1 :: .send false 0 :: .send true 0 :: posT) (by decide))
  isplitr; · iexact HR
  isplitl [Hm2]; · iexact Hm2
  isplitl [Ht]; · iexact Ht
  isplitl [Hp]; · iexact Hp
  iintro ⟨Ht, Hp, Hm2⟩
  iapply (tileDone_rule (x := x) (w := w) (κ := κ) (ι := ι) c 0
    (.mSend 2 :: .mSend 1 :: .mSend 0 :: .send false 1 :: .send true 1 :: .send false 0 :: .send true 0 :: posT) [] (by decide) (by decide))
  isplitr; · iexact HR
  isplitl [Hc0]; · iexact Hc0
  isplitl [Ht]; · iexact Ht
  isplitl [Hp]; · iexact Hp
  iintro ⟨Ht, Hp, Hq0⟩
  iapply (tileDone_rule (x := x) (w := w) (κ := κ) (ι := ι) c 1
    (.tSend 0 :: .mSend 2 :: .mSend 1 :: .mSend 0 :: .send false 1 :: .send true 1 :: .send false 0 :: .send true 0 :: posT) [] (by decide) (by decide))
  isplitr; · iexact HR
  isplitl [Hc1]; · iexact Hc1
  isplitl [Ht]; · iexact Ht
  isplitl [Hp]; · iexact Hp
  iintro ⟨Ht, Hp, Hq1⟩
  iapply (tileDone_rule (x := x) (w := w) (κ := κ) (ι := ι) c 2
    (.tSend 1 :: .tSend 0 :: .mSend 2 :: .mSend 1 :: .mSend 0 :: .send false 1 :: .send true 1 :: .send false 0 :: .send true 0 :: posT) [] (by decide) (by decide))
  isplitr; · iexact HR
  isplitl [Hc2]; · iexact Hc2
  isplitl [Ht]; · iexact Ht
  isplitl [Hp]; · iexact Hp
  iintro ⟨Ht, Hp, Hq2⟩
  iapply hret
  iapply Hk
  isplitl [Ht]; · iexact Ht
  isplitl [Hp]; · iexact Hp
  isplitl [Hw0 Hw1 Hw2 Hw3]
  · iapply (h_join c)
    isplitl [Hw0]; · iexact Hw0
    isplitl [Hw1]; · iexact Hw1
    isplitl [Hw2]; · iexact Hw2
    iexact Hw3
  isplitl [Hm0 Hm1 Hm2]
  · iapply hm
    isplitl [Hm0]; · iexact Hm0
    isplitl [Hm1]; · iexact Hm1
    iexact Hm2
  isplitl [Hq0]; · iexact Hq0
  isplitl [Hq1]; · iexact Hq1
  iexact Hq2

/-- From the local maximum to the end. -/
theorem second_rule (c : Dev nD) (Q : PUnit → sProp 𝕄) :
    iprop(recs x w κ ι ∗ inc c incB ∗ todo c duesB ∗ pos c posB ∗ yHeld x w c (order c) ∗ (∃ f, at_ oM c f) ∗ (∃ f, at_ mM c f) ∗ (∃ f, at_ qM c f)
        ∗ (free (gSlot 2) (rot 1 c) ∗ free (gSlot 1) (rot 2 c) ∗ free (gSlot 0) (rot 3 c))
        ∗ (free (aSlot 2) (rot 1 c) ∗ free (aSlot 1) (rot 2 c) ∗ free (aSlot 0) (rot 3 c)) ∗ credR c
        ∗ (todo c [] ∗ pos c posE ∗ (∃ f, at_ hM c f) ∗ (∃ f, at_ mM c f) ∗ (∃ f, at_ qM c f) ∗ (∃ f, at_ gM c f) ∗ (∃ f, at_ aM c f)
            ∗ (∃ f, at_ yM c f) ∗ at_ oM c (outFull x w c) -∗ Q ⟨⟩))
      ⊢ run c (second c (lmaxOf x w c)) Q := by
  have h21 : (⟨k0_dev21 c, k0_dev21_lt c⟩ : Dev nD) = rot 1 c := dev21 c
  have h22 : (⟨k0_dev22 c, k0_dev22_lt c⟩ : Dev nD) = rot 2 c := dev22 c
  have h23 : (⟨k0_dev23 c, k0_dev23_lt c⟩ : Dev nD) = rot 3 c := dev23 c
  have h24 : (⟨k0_dev24 c, k0_dev24_lt c⟩ : Dev nD) = rot 1 c := dev24 c
  have h25 : (⟨k0_dev25 c, k0_dev25_lt c⟩ : Dev nD) = rot 2 c := dev25 c
  have h26 : (⟨k0_dev26 c, k0_dev26_lt c⟩ : Dev nD) = rot 3 c := dev26 c
  have hsc : scaleOf (lmaxOf x w c) (gFull x w c) = scale x w c := rfl
  unfold second
  rw [h21, h22, h23, h24, h25, h26]
  iintro ⟨#HR, Hi, Ht, Hp, Hy, Ho, Hm, Hq, Hg, Ha, HcR, Hk⟩
  iapply (maxima_rule (x := x) (w := w) (κ := κ) (ι := ι) c)
  isplitr; · iexact HR
  isplitl [Hi]; · iexact Hi
  isplitl [Ht]; · iexact Ht
  isplitl [Hp]; · iexact Hp
  isplitl [Hm]; · iexact Hm
  isplitl [Hg]; · iexact Hg
  irw [hsc]
  iintro ⟨Hi, Ht, Hp, HcM, Hg⟩
  ihave Hy := (yHeld_full (x := x) (w := w) c) $$ Hy
  ihave Hq := (q_split c) $$ Hq
  icases Hq with ⟨Hq, Hqr⟩
  iapply (tiles_rule (x := x) (w := w) (κ := κ) (ι := ι) c)
  isplitr; · iexact HR
  isplitl [Hi]; · iexact Hi
  isplitl [Ht]; · iexact Ht
  isplitl [Hp]; · iexact Hp
  isplitl [Hy]; · iexact Hy
  isplitl [Ho]; · iexact Ho
  isplitl [Hq]; · iexact Hq
  isplitl [Ha]; · iexact Ha
  iintro ⟨Ht, Hp, HcT, Hy, Ho, Ha⟩
  iapply (tail_rule (x := x) (w := w) (κ := κ) (ι := ι) c)
  isplitr; · iexact HR
  isplitl [Ht]; · iexact Ht
  isplitl [Hp]; · iexact Hp
  isplitl [HcR]; · iexact HcR
  isplitl [HcM]; · iexact HcM
  isplitl [HcT]; · iexact HcT
  iintro ⟨Ht, Hp, Hh, Hm, Hq⟩
  iapply Hk
  isplitl [Ht]; · iexact Ht
  isplitl [Hp]; · iexact Hp
  isplitl [Hh]; · iexact Hh
  isplitl [Hm]; · iexact Hm
  isplitl [Hq Hqr]
  · iapply (q_join c)
    isplitl [Hq]; · iexact Hq
    iexact Hqr
  isplitl [Hg]; · iexact Hg
  isplitl [Ha]; · iapply (a_join c); iexact Ha
  isplitl [Hy]; · iexists _; iexact Hy
  iexact Ho

end Cert.KernelIdeal.Ring

end
-- ==== Proof.Body.lean ====
/-
  THE WHOLE BODY, AND ITS SEMAPHORES AT THE END.
-/
module

public import proofs.«01_k».proof.Proof.Second

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (shares3 pointsTo_thirds)
open Cert.KernelIdeal.Gen

variable {F : FTy → Type} [FloatOps F]

local notation "𝕄" => MT nD τ sig ℕ (Elt F) ℕ UU ℕ

variable {x : Dev nD → Vec F S1024x4096 .f32} {w : Dev nD → Vec F S4096x512 .f32}
variable {κ : Dev nD × Kind → ℕ} {ι : Key → ℕ}

/-! ## The rules with numbers written out -/

/-! ## The barrier and the first messages -/

/-- A device's own slots of a direction and of the small buffers are what its barrier signal hands over. -/
theorem bar_pay (c : Dev nD) (d : Bool) :
    iprop(slots c d ∗ pair (near d) c ∗ (if d then iprop(emp) else pair 1 c)) ⊢ (payK x w (pv d c) .bar (Due.rnd (.bar d)) (Due.nm (.bar d)) : sProp 𝕄) := by
  have h : payK x w (pv d c) .bar (Due.rnd (.bar d)) (Due.nm (.bar d)) = (barPay (pv d c) d : sProp 𝕄) := by cases d <;> rfl
  rw [h]
  unfold barPay slots
  rw [nx_pv]

/-- A first message: columns of the narrowed block, into a slot the barrier handed over. -/
theorem first_at (c : Dev nD) (d : Bool) (m : Fin 6) (s : Fin 3) (j : Fin 4) (hm : m.val < 2) (hs : s = sl m) (hj : j = colOf d m) (l : List Due)
    (k : PR F) (Q : PUnit → sProp 𝕄) :
    iprop(recs x w κ ι ∗ holds (wCols j) c (msgVal w c j) ∗ free (slot d s) (nx d c) ∗ extra (nx d c) d m.val ∗ todo c (.ring d m :: l)
        ∗ (cred (tallyAt (cell c (.send d m)) 0 NR) ∗ todo c l -∗ run c k Q))
      ⊢ run c (ringSend d m (nx d c) k) Q := by
  subst hs hj
  have hp : holds (wCols (colOf d m)) c (msgVal w c (colOf d m)) ⊢ (part (srcOf d m) c (shr m) (rv w (nx d c) d m) : sProp 𝕄) := by
    rw [rv_first w c d m hm]
    unfold srcOf shr
    rw [if_pos hm, if_pos hm]
  have hr := recs_reached (x := x) (w := w) (κ := κ) (ι := ι) (nx d c) (.recv d (sl m))
  have h0 : m.val / 3 = 0 := Nat.div_eq_of_lt (by omega)
  iintro ⟨#HR, Hw, Hf, He, Ht, Hk⟩
  iapply (ring_rule (x := x) (w := w) (κ := κ) (ι := ι) c d m l)
  isplitr; · iexact HR
  isplitr
  · irw [h0]
    iapply hr; iexact HR
  isplitl [Hw]; · iapply hp; iexact Hw
  isplitl [Hf]; · iexact Hf
  isplitl [He]; · iexact He
  isplitl [Ht]; · iexact Ht
  iexact Hk

/-- Dues from the first messages on. -/
abbrev dues1 : List Due := .ring true 0 :: .ring false 0 :: .ring true 1 :: .ring false 1 :: duesA
/-- All credits, in order of the waits. -/
abbrev inc0 : List (Kind × ℕ × ℕ) := (.bar, 1, 2) :: incA

/-- The two signals and the wait of the barrier. -/
theorem barrier_rule (c : Dev nD) (k : PR F) (Q : PUnit → sProp 𝕄) :
    iprop(recs x w κ ι ∗ inc c inc0 ∗ todo c dues ∗ pos c [] ∗ (slots c true ∗ slots c false) ∗ (pair 0 c ∗ pair 1 c ∗ pair 2 c)
        ∗ (inc c incA ∗ todo c dues1 ∗ pos c posA ∗ barPay c true ∗ barPay c false -∗ run c k Q))
      ⊢ run c (sig1 (nx false c) barS <| sig1 (nx true c) barS <| wait1 barS 2#32 k) Q := by
  have hp1 : iprop(slots c true ∗ pair 2 c) ⊢ (payK x w (nx false c) .bar (Due.rnd (.bar true)) (Due.nm (.bar true)) : sProp 𝕄) := by
    refine BIBase.Entails.trans ?_ (bar_pay (x := x) (w := w) c true)
    iintro ⟨H, H'⟩
    isplitl [H]; · iexact H
    isplitl [H']; · iexact H'
    iempintro
  have hp0 : iprop(slots c false ∗ pair 0 c ∗ pair 1 c) ⊢ (payK x w (nx true c) .bar (Due.rnd (.bar false)) (Due.nm (.bar false)) : sProp 𝕄) :=
    bar_pay (x := x) (w := w) c false
  iintro ⟨#HR, Hi, Ht, Hp, ⟨Hs1, Hs0⟩, ⟨Hg0, Hg1, Hg2⟩, Hk⟩
  ihave Hi := (inc_cons c (.bar, 1, 2) incA) $$ Hi
  icases Hi with ⟨Hb, Hi⟩
  iapply (sig_rule (x := x) (w := w) (κ := κ) (ι := ι) c (.bar true) (.bar false :: dues1) (nx false c) barS rfl rfl rfl rfl)
  isplitr; · iexact HR
  isplitl [Ht]; · iexact Ht
  isplitl [Hs1 Hg2]
  · iapply hp1
    isplitl [Hs1] <;> iassumption
  iintro Ht
  iapply (sig_rule (x := x) (w := w) (κ := κ) (ι := ι) c (.bar false) dues1 (nx true c) barS rfl rfl rfl rfl)
  isplitr; · iexact HR
  isplitl [Ht]; · iexact Ht
  isplitl [Hs0 Hg0 Hg1]
  · iapply hp0
    isplitl [Hs0]; · iexact Hs0
    isplitl [Hg0] <;> iassumption
  iintro Ht
  iapply (bar_rule (x := x) (w := w) (κ := κ) (ι := ι) c [] dues1 rfl (by decide))
  isplitr; · iexact HR
  isplitl [Hb]; · iexact Hb
  isplitl [Ht]; · iexact Ht
  isplitl [Hp]; · iexact Hp
  iintro ⟨Ht, Hp, H1, H0⟩
  iapply Hk
  isplitl [Hi]; · iexact Hi
  isplitl [Ht]; · iexact Ht
  isplitl [Hp]; · iexact Hp
  isplitl [H1] <;> iassumption

/-- The small slots other devices lend for the second phase. -/
def lentS (c : Dev nD) : sProp 𝕄 := iprop(pair 2 (rot 1 c) ∗ pair 0 (rot 3 c))

/-- The narrowing and the four first messages. -/
theorem firsts_rule (c : Dev nD) (k : PR F) (Q : PUnit → sProp 𝕄) :
    iprop(recs x w κ ι ∗ todo c dues1 ∗ barPay c true ∗ barPay c false ∗ at_ wM c (w c) ∗ (∃ f, at_ hM c f)
        ∗ (todo c duesA ∗ at_ wM c (w c) ∗ free (slot true 2) (nx true c) ∗ free (slot false 2) (nx false c) ∗ lentS c ∗ credR c -∗ run c k Q))
      ⊢ run c (narrow <| ringSend true 0 (nx true c) <| ringSend false 0 (nx false c) <| ringSend true 1 (nx true c) <| ringSend false 1 (nx false c) k) Q := by
  have hb1 : (barPay c true : sProp 𝕄) ⊢ iprop((free (slot true 0) (nx true c) ∗ free (slot true 1) (nx true c) ∗ free (slot true 2) (nx true c)) ∗ pair 2 (rot 1 c) ∗ emp) :=
    BI.Entails.refl _
  have hb0 : (barPay c false : sProp 𝕄) ⊢ iprop((free (slot false 0) (nx false c) ∗ free (slot false 1) (nx false c) ∗ free (slot false 2) (nx false c)) ∗ pair 0 (rot 3 c) ∗ pair 1 (rot 3 c)) :=
    BI.Entails.refl _
  have hx : ∀ c : Dev nD, rot 2 (nx true c) = rot 3 c := by decide
  have he : (pair 1 (rot 3 c) : sProp 𝕄) ⊢ extra (nx true c) true (0 : Fin 6).val := by
    unfold extra
    rw [if_pos ⟨rfl, rfl⟩, hx c]
  have hn (d : Bool) (m : ℕ) (h : ¬(d = true ∧ m = 0)) : (iprop(emp) : sProp 𝕄) ⊢ extra (nx d c) d m := by
    unfold extra
    rw [if_neg h]
  unfold lentS credR
  iintro ⟨#HR, Ht, H1, H0, Hw, Hh, Hk⟩
  ihave H1 := hb1 $$ H1
  ihave H0 := hb0 $$ H0
  icases H1 with ⟨⟨Hf10, Hf11, Hf12⟩, Hg2, -⟩
  icases H0 with ⟨⟨Hf00, Hf01, Hf02⟩, Hg0, Hg1⟩
  iapply (narrow_rule c (w c))
  isplitl [Hw]; · iexact Hw
  isplitl [Hh]; · iexact Hh
  iintro ⟨Hw, Hh⟩
  ihave Hh := (h_split w c) $$ Hh
  icases Hh with ⟨Hh0, Hh1, Hh2, Hh3⟩
  iapply (first_at (x := x) (w := w) (κ := κ) (ι := ι) c true 0 0 0 (by decide) rfl rfl (.ring false 0 :: .ring true 1 :: .ring false 1 :: duesA))
  isplitr; · iexact HR
  isplitl [Hh0]; · iexact Hh0
  isplitl [Hf10]; · iexact Hf10
  isplitl [Hg1]; · iapply he; iexact Hg1
  isplitl [Ht]; · iexact Ht
  iintro ⟨Hc10, Ht⟩
  iapply (first_at (x := x) (w := w) (κ := κ) (ι := ι) c false 0 0 2 (by decide) rfl rfl (.ring true 1 :: .ring false 1 :: duesA))
  isplitr; · iexact HR
  isplitl [Hh2]; · iexact Hh2
  isplitl [Hf00]; · iexact Hf00
  isplitr
  · iapply (hn false 0 (by decide))
    iempintro
  isplitl [Ht]; · iexact Ht
  iintro ⟨Hc00, Ht⟩
  iapply (first_at (x := x) (w := w) (κ := κ) (ι := ι) c true 1 1 1 (by decide) rfl rfl (.ring false 1 :: duesA))
  isplitr; · iexact HR
  isplitl [Hh1]; · iexact Hh1
  isplitl [Hf11]; · iexact Hf11
  isplitr
  · iapply (hn true 1 (by decide))
    iempintro
  isplitl [Ht]; · iexact Ht
  iintro ⟨Hc11, Ht⟩
  iapply (first_at (x := x) (w := w) (κ := κ) (ι := ι) c false 1 1 3 (by decide) rfl rfl duesA)
  isplitr; · iexact HR
  isplitl [Hh3]; · iexact Hh3
  isplitl [Hf01]; · iexact Hf01
  isplitr
  · iapply (hn false 1 (by decide))
    iempintro
  isplitl [Ht]; · iexact Ht
  iintro ⟨Hc01, Ht⟩
  iapply Hk
  isplitl [Ht]; · iexact Ht
  isplitl [Hw]; · iexact Hw
  isplitl [Hf12]; · iexact Hf12
  isplitl [Hf02]; · iexact Hf02
  isplitl [Hg2 Hg0]
  · isplitl [Hg2] <;> iassumption
  isplitl [Hc10]; · iexact Hc10
  isplitl [Hc00]; · iexact Hc00
  isplitl [Hc11]; · iexact Hc11
  iexact Hc01

/-- The device's own four blocks. -/
theorem own_rule (c : Dev nD) (k : F .f32 → PR F) (Q : PUnit → sProp 𝕄) :
    iprop(at_ xM c (x c) ∗ at_ wM c (w c) ∗ (∃ f, at_ yM c f)
        ∗ (at_ xM c (x c) ∗ at_ wM c (w c) ∗ yHeld x w c (own4 c) -∗ run c (k (lm x w c (own4 c))) Q))
      ⊢ run c (ownBlk c 0 (Scalar.ofBits .f32 0x00000000#32) fun l => ownBlk c 1 l fun l => ownBlk c 2 l fun l => ownBlk c 3 l k) Q := by
  have h0 : (iprop(∃ f, at_ yM c f) : sProp 𝕄) ⊢ yHeld x w c [] := by
    unfold yHeld
    iintro ⟨%f, H⟩
    iexists f
    isplitl [H]; · iexact H
    ipureintro; exact fun i hi => absurd hi List.not_mem_nil
  iintro ⟨Hx, Hw, Hy, Hk⟩
  ihave Hy := h0 $$ Hy
  iapply (ownBlk_rule (x := x) (w := w) c [] 0 (off1 c 0))
  isplitl [Hx]; · iexact Hx
  isplitl [Hw]; · iexact Hw
  isplitl [Hy]; · iexact Hy
  iintro ⟨Hx, Hw, Hy⟩
  iapply (ownBlk_rule (x := x) (w := w) c ([] ++ [(c, 0)]) 1 (off1 c 1))
  isplitl [Hx]; · iexact Hx
  isplitl [Hw]; · iexact Hw
  isplitl [Hy]; · iexact Hy
  iintro ⟨Hx, Hw, Hy⟩
  iapply (ownBlk_rule (x := x) (w := w) c ([] ++ [(c, 0)] ++ [(c, 1)]) 2 (off1 c 2))
  isplitl [Hx]; · iexact Hx
  isplitl [Hw]; · iexact Hw
  isplitl [Hy]; · iexact Hy
  iintro ⟨Hx, Hw, Hy⟩
  iapply (ownBlk_rule (x := x) (w := w) c ([] ++ [(c, 0)] ++ [(c, 1)] ++ [(c, 2)]) 3 (off1 c 3))
  isplitl [Hx]; · iexact Hx
  isplitl [Hw]; · iexact Hw
  isplitl [Hy]; · iexact Hy
  iexact Hk

/-! ## The whole body -/

/-- Any contents of a device's eight scratch buffers. -/
def scratch (c : Dev nD) : sProp 𝕄 :=
  iprop((∃ f, at_ hM c f) ∗ (∃ f, at_ rM c f) ∗ (∃ f, at_ lM c f) ∗ (∃ f, at_ yM c f) ∗ (∃ f, at_ qM c f) ∗ (∃ f, at_ aM c f) ∗ (∃ f, at_ mM c f)
    ∗ (∃ f, at_ gM c f))

/-- Its own place on all semaphores and slots, and its rights to the next devices' slots. -/
def mine (c : Dev nD) : sProp 𝕄 :=
  iprop(pos c [] ∗ (cstAt c true 0 ∗ cstAt c false 0) ∗ (wts c true ∗ wts c false) ∗ (rds c true ∗ rds c false))

/-- The whole body, run from what a device starts with, pays all it owes, waits for all it is owed and leaves the stated result in the output buffer, the inputs unchanged. -/
theorem body_rule (c : Dev nD) (Q : PUnit → sProp 𝕄) :
    iprop(recs x w κ ι ∗ inc c inc0 ∗ todo c dues ∗ mine c ∗ at_ xM c (x c) ∗ at_ wM c (w c) ∗ (∃ f, at_ oM c f) ∗ scratch c
        ∗ (todo c [] ∗ pos c posE ∗ (cstAt c true 3 ∗ cstAt c false 3) ∗ at_ xM c (x c) ∗ at_ wM c (w c) ∗ at_ oM c (outFull x w c) ∗ scratch c -∗ Q ⟨⟩))
      ⊢ run c (bodyOn c) Q := by
  have hr : iprop(slots c true) ⊢ (iprop(∃ f, at_ rM c f) : sProp 𝕄) := r_join c
  have hl : iprop(slots c false) ⊢ (iprop(∃ f, at_ lM c f) : sProp 𝕄) := l_join c
  have hr' : (iprop(∃ f, at_ rM c f) : sProp 𝕄) ⊢ slots c true := r_split c
  have hl' : (iprop(∃ f, at_ lM c f) : sProp 𝕄) ⊢ slots c false := l_split c
  have he : (extra c true 0 : sProp 𝕄) ⊢ iprop(free (gSlot 1) (rot 2 c) ∗ free (aSlot 1) (rot 2 c)) := by
    unfold extra pair
    rw [if_pos ⟨rfl, rfl⟩]
  have hs : (lentS c : sProp 𝕄) ⊢ iprop((free (gSlot 2) (rot 1 c) ∗ free (aSlot 2) (rot 1 c)) ∗ (free (gSlot 0) (rot 3 c) ∗ free (aSlot 0) (rot 3 c))) :=
    BI.Entails.refl _
  have hp (s : Fin 3) : iprop(free (gSlot s) c ∗ free (aSlot s) c) ⊢ (pair s c : sProp 𝕄) := BI.Entails.refl _
  unfold scratch mine bodyOn
  rw [dev1, dev2, dev3, dev4, dev5, dev6]
  iintro ⟨#HR, Hi, Ht, ⟨Hp, Hc, Hwt, Hrd⟩, Hx, Hw, Ho, ⟨Hh, Hr, Hl, Hy, Hq, Ha, Hm, Hg⟩, Hk⟩
  ihave Hr := hr' $$ Hr
  ihave Hl := hl' $$ Hl
  ihave Hg := (g_split c) $$ Hg
  ihave Ha := (a_split c) $$ Ha
  icases Hg with ⟨Hg0, Hg1, Hg2⟩
  icases Ha with ⟨Ha0, Ha1, Ha2⟩
  iapply (barrier_rule (x := x) (w := w) (κ := κ) (ι := ι) c)
  isplitr; · iexact HR
  isplitl [Hi]; · iexact Hi
  isplitl [Ht]; · iexact Ht
  isplitl [Hp]; · iexact Hp
  isplitl [Hr Hl]
  · isplitl [Hr] <;> iassumption
  isplitl [Hg0 Hg1 Hg2 Ha0 Ha1 Ha2]
  · isplitl [Hg0 Ha0]
    · iapply (hp 0)
      isplitl [Hg0] <;> iassumption
    isplitl [Hg1 Ha1]
    · iapply (hp 1)
      isplitl [Hg1] <;> iassumption
    iapply (hp 2)
    isplitl [Hg2] <;> iassumption
  iintro ⟨Hi, Ht, Hp, H1, H0⟩
  iapply (firsts_rule (x := x) (w := w) (κ := κ) (ι := ι) c)
  isplitr; · iexact HR
  isplitl [Ht]; · iexact Ht
  isplitl [H1]; · iexact H1
  isplitl [H0]; · iexact H0
  isplitl [Hw]; · iexact Hw
  isplitl [Hh]; · iexact Hh
  iintro ⟨Ht, Hw, Hf1, Hf0, Hls, HcR⟩
  iapply (own_rule (x := x) (w := w) c)
  isplitl [Hx]; · iexact Hx
  isplitl [Hw]; · iexact Hw
  isplitl [Hy]; · iexact Hy
  iintro ⟨Hx, Hw, Hy⟩
  iapply (steps_rule (x := x) (w := w) (κ := κ) (ι := ι) c)
  isplitr; · iexact HR
  isplitl [Hi]; · iexact Hi
  isplitl [Ht]; · iexact Ht
  isplitl [Hp]; · iexact Hp
  isplitl [Hx]; · iexact Hx
  isplitl [Hy]; · iexact Hy
  isplitl [Hf1]; · iexact Hf1
  isplitl [Hf0]; · iexact Hf0
  isplitl [Hwt]; · iexact Hwt
  isplitl [Hrd]; · iexact Hrd
  isplitl [Hc]; · iexact Hc
  iintro ⟨Hi, Ht, Hp, Hx, Hy, Hr, Hl, Hc, He⟩
  ihave He := he $$ He
  ihave Hls := hs $$ Hls
  icases He with ⟨Hg1, Ha1⟩
  icases Hls with ⟨⟨Hg2, Ha2⟩, ⟨Hg0, Ha0⟩⟩
  iapply (second_rule (x := x) (w := w) (κ := κ) (ι := ι) c)
  isplitr; · iexact HR
  isplitl [Hi]; · iexact Hi
  isplitl [Ht]; · iexact Ht
  isplitl [Hp]; · iexact Hp
  isplitl [Hy]; · iexact Hy
  isplitl [Ho]; · iexact Ho
  isplitl [Hm]; · iexact Hm
  isplitl [Hq]; · iexact Hq
  isplitl [Hg0 Hg1 Hg2]
  · isplitl [Hg2]; · iexact Hg2
    isplitl [Hg1] <;> iassumption
  isplitl [Ha0 Ha1 Ha2]
  · isplitl [Ha2]; · iexact Ha2
    isplitl [Ha1] <;> iassumption
  isplitl [HcR]; · iexact HcR
  iintro ⟨Ht, Hp, Hh, Hm, Hq, Hg, Ha, Hy, Ho⟩
  iapply Hk
  isplitl [Ht]; · iexact Ht
  isplitl [Hp]; · iexact Hp
  isplitl [Hc]; · iexact Hc
  isplitl [Hx]; · iexact Hx
  isplitl [Hw]; · iexact Hw
  isplitl [Ho]; · iexact Ho
  isplitl [Hh]; · iexact Hh
  isplitl [Hr]; · iapply hr; iexact Hr
  isplitl [Hl]; · iapply hl; iexact Hl
  isplitl [Hy]; · iexact Hy
  isplitl [Hq]; · iexact Hq
  isplitl [Ha]; · iexact Ha
  isplitl [Hm]; · iexact Hm
  iexact Hg

/-! ## The semaphores at the end -/

/-- A semaphore whose rounds are all over stands at zero. -/
theorem close_cell (c : Dev nD) (k : Kind) (r : ℕ) (hr : r = 2 ∨ (r = 1 ∧ ∀ d s, k ≠ .recv d s)) :
    iprop(recs x w κ ι ∗ atPos ER (cell c k) r ∅ 0) ⊢ (|={Set.univ}=> semVal (cell c k) 0 : sProp 𝕄) := by
  have hi := recs_inv (x := x) (w := w) (κ := κ) (ι := ι) c k
  have hd : ∀ r', r ≤ r' → (sched x w).duties (cell c k) r' = ∅ := fun r' h => by
    obtain rfl | ⟨rfl, hk⟩ := hr
    · exact duties_late x w c k r' h
    · exact duties_late1 x w c k hk r' h
  exact (sep_mono_left hi).trans (Rounds.cell_close ER (sched x w) (Set.mem_univ _) (fun h => h) hd)

/-- Every round of a whole semaphore has been waited for. -/
theorem posE_whole : ∀ k : Kind, whole k = true → posE.count k = 2 ∨ (posE.count k = 1 ∧ ∀ d s, k ≠ .recv d s) := by decide

/-- After the last round every semaphore of a device stands at zero, and its value is handed back. -/
theorem close_all (c : Dev nD) :
    iprop(recs x w κ ι ∗ pos c posE ∗ cstAt c true 3 ∗ cstAt c false 3) ⊢ (|={Set.univ}=> bigSep Finset.univ fun k : Kind => semVal (cell c k) 0 : sProp 𝕄) := by
  have hs (k : Kind) (hk : k ∈ Finset.univ.filter fun k => whole k = true) :
      iprop(recs x w κ ι ∗ atPos ER (cell c k) (posE.count k) ∅ 0) ⊢ (|={Set.univ}=> semVal (cell c k) 0 : sProp 𝕄) :=
    close_cell c k _ (posE_whole k (Finset.mem_filter.mp hk).2)
  have hw : iprop(recs x w κ ι ∗ pos c posE) ⊢ (|={Set.univ}=> bigSep (Finset.univ.filter fun k => whole k = true) fun k => semVal (cell c k) 0 : sProp 𝕄) := by
    refine BIBase.Entails.trans ?_ (bigSep_fupd _ _)
    unfold pos
    refine (sep_mono_left (bigSep_of_persistent (Finset.univ.filter fun k => whole k = true) (recs x w κ ι))).trans ?_
    rw [← bigSep_sep']
    exact bigSep_mono hs
  have hc (d : Bool) : iprop(recs x w κ ι ∗ cstAt c d 3) ⊢ (|={Set.univ}=> semVal (cell c (.cred d)) 0 : sProp 𝕄) :=
    close_cell c (.cred d) 1 (.inr ⟨rfl, fun _ _ => by simp⟩)
  have hn : (Finset.univ.filter fun k : Kind => ¬ whole k = true) = {.cred true, .cred false} := by decide
  have hj : iprop((bigSep (Finset.univ.filter fun k => whole k = true) fun k => semVal (cell c k) 0)
      ∗ semVal (cell c (.cred true)) 0 ∗ semVal (cell c (.cred false)) 0) ⊢ (bigSep Finset.univ fun k : Kind => semVal (cell c k) 0 : sProp 𝕄) := by
    rw [bigSep_filter_split Finset.univ (fun k : Kind => whole k = true), hn, bigSep_insert (by decide), bigSep_singleton]
    exact BI.Entails.refl _
  iintro ⟨#HR, Hp, H1, H0⟩
  imod hw $$ [Hp] with Hp
  · isplitr; · iexact HR
    iexact Hp
  imod (hc true) $$ [H1] with H1
  · isplitr; · iexact HR
    iexact H1
  imod (hc false) $$ [H0] with H0
  · isplitr; · iexact HR
    iexact H0
  imodintro
  iapply hj
  isplitl [Hp]; · iexact Hp
  isplitl [H1]; · iexact H1
  iexact H0

end Cert.KernelIdeal.Ring

end
-- ==== Proof.Start.lean ====
/-
  WHAT THE LAUNCH DEALS: credits, rights to pay, places.
-/
module

public import proofs.«01_k».proof.Proof.Body
public import Idealize.ShloMosaic.Lib.Pipeline.BigSepL
public import Idealize.ShloMosaic.Lib.Pipeline.TalkSched

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (tallyL tallyL_pos)
open Cert.KernelIdeal.Gen

variable {F : FTy → Type} [FloatOps F]

local notation "𝕄" => MT nD τ sig ℕ (Elt F) ℕ UU ℕ

variable {x : Dev nD → Vec F S1024x4096 .f32} {w : Dev nD → Vec F S4096x512 .f32}
variable {κ : Dev nD × Kind → ℕ} {ι : Key → ℕ}

variable (x w)

/-! ## Credits -/

/-- A payment of a kind, on a device's own semaphore. -/
abbrev ownPay (c : Dev nD) (p : Due) : TalkSites.Pay nD τ sig := (cell c p.kind, p.ix, units p.kind)

/-- Different devices pay a due to different devices. -/
theorem dev_inj : ∀ (p : Due) (c c' : Dev nD), p.dev c = p.dev c' → c = c' := by decide

/-- The total over a list is that of its head and that of its tail. -/
theorem sum_map (f : Dev nD → Due → TalkSites.Pay nD τ sig) (p : Due) (l : List Due) :
    (∑ d : Dev nD, tallyL ((p :: l).map (f d))) = (∑ d : Dev nD, (f d p).tally) + ∑ d : Dev nD, tallyL (l.map (f d)) := by
  rw [← Finset.sum_add_distrib]; rfl

/-- Every device pays each due to another one, so what is paid is what is received. -/
theorem sum_dues (l : List Due) : (∑ d : Dev nD, tallyL (l.map (pay d))) = ∑ c : Dev nD, tallyL (l.map (ownPay c)) := by
  induction l with
  | nil => rfl
  | cons p l ih =>
    rw [sum_map, sum_map, ih]
    congr 1
    exact (Finite.injective_iff_bijective.mp fun c c' h => dev_inj p c c' h).sum_comp fun c => (ownPay c p).tally

/-- The credit a device is launched with is one payment for each due, on its own semaphores. -/
theorem launch_eq (c : Dev nD) :
    (Pipeline.launchCred (fun d => tallyL (dues.map (pay d))) c : sProp 𝕄) = bigSepL dues fun p => cred (ownPay c p).tally := by
  rw [Pipeline.launchCred_of_sum _ (fun c => tallyL (dues.map (ownPay c))) (sum_dues dues) (fun d g hg => by
    obtain ⟨i, hi⟩ := DFunLike.ne_iff.mp hg
    obtain ⟨y, hy, rfl, -⟩ := tallyL_pos (Nat.pos_of_ne_zero hi)
    obtain ⟨p, -, rfl⟩ := List.mem_map.mp hy
    rfl) c, TalkSites.cred_tallyL, bigSepL_map]

/-- The dues in the order in which they are waited for. -/
abbrev duesIn : List Due :=
  [.ring true 0, .ring false 0, .ring true 1, .ring false 1, .cred true 0, .cred false 0, .ring true 2, .ring false 2, .cred true 1, .cred false 1,
   .ring true 3, .ring false 3, .cred true 2, .cred false 2, .ring true 4, .ring false 4, .ring true 5, .ring false 5,
   .max 0, .max 1, .max 2, .tile 0, .tile 1, .tile 2]

/-- A device's launch credit, in order of its waits. -/
theorem launch_inc (c : Dev nD) : (Pipeline.launchCred (fun d => tallyL (dues.map (pay d))) c : sProp 𝕄) ⊢ inc c inc0 := by
  have e : inc (F := F) c inc0 = iprop(cred (tallyAt (cell c .bar) 1 2) ∗ bigSepL duesIn fun p => cred (ownPay c p).tally) := by
    unfold inc
    rw [bigSepL_cons]
    show _ = BI.sep _ _
    congr 1
  have e2 : (cred (tallyAt (cell c .bar) 1 2) : sProp 𝕄) = iprop(cred (tallyAt (cell c .bar) 1 1) ∗ cred (tallyAt (cell c .bar) 1 1)) := by
    rw [show (2 : ℕ) = 1 + 1 from rfl, ← tallyAt_add]
    exact BI.Entails.antisymm (cred_add _ _).1 (cred_add _ _).2
  rw [launch_eq, TalkSites.bigSepL_perm (l' := .bar true :: .bar false :: duesIn) (by decide) (by decide), e, e2, bigSepL_cons, bigSepL_cons]
  show iprop(cred (tallyAt (cell c .bar) 1 1) ∗ cred (tallyAt (cell c .bar) 1 1) ∗ bigSepL duesIn fun p => cred (ownPay c p).tally) ⊢ _
  iintro H
  icases H with ⟨H1, H2, H⟩
  isplitl [H1 H2]
  · isplitl [H1] <;> iassumption
  iexact H

/-! ## Rights to pay -/

/-- A due is determined by its kind, its round and its name. -/
theorem duty_inj : ∀ p q : Due, p.kind = q.kind → p.rnd = q.rnd → p.nm = q.nm → p = q := by decide +kernel

/-- The right a due needs, as minted. -/
abbrev tokAt (y : Dev nD × Due) : GSem nD τ sig × ℕ × Fin 3 := (y.2.at_ y.1, y.2.rnd, y.2.nm)
/-- Different dues of different devices need different rights. -/
theorem tokAt_inj : Function.Injective tokAt := by
  rintro ⟨c, p⟩ ⟨c', q⟩ h
  have h1 : ((p.dev c, p.kind) : Dev nD × Kind) = (q.dev c', q.kind) := cell_inj (congrArg Prod.fst h)
  have h2 := congrArg Prod.snd h
  have e : p = q := duty_inj p q (congrArg Prod.snd h1) (congrArg Prod.fst h2) (congrArg Prod.snd h2)
  subst e
  rw [dev_inj p c c' (congrArg Prod.fst h1)]
/-- All rights to be minted. -/
def tokSet : Finset (GSem nD τ sig × ℕ × Fin 3) := Finset.univ.map ⟨tokAt, tokAt_inj⟩
/-- All semaphores of the schedule. -/
def cellSet : Finset (GSem nD τ sig) := Finset.univ.map ⟨fun p : Dev nD × Kind => cell p.1 p.2, cell_inj⟩

/-- Rights listed one by one are rights grouped by due. -/
theorem toks_flat (c : Dev nD) (l : List Due) :
    bigSepL (l.flatMap fun p => p :: (mate p).toList) (tok c) ⊢ (bigSepL l (toks c) : sProp 𝕄) := by
  induction l with
  | nil => exact BI.Entails.refl _
  | cons p l ih =>
    rw [List.flatMap_cons, bigSepL_append, bigSepL_cons]
    rw [show bigSepL (p :: l) (toks c) = BI.sep (toks c p) (bigSepL l (toks c)) from bigSepL_cons _ _ _]
    refine BI.sep_mono ?_ ih
    unfold toks
    refine BI.sep_mono (BI.Entails.refl _) ?_
    cases mate p with
    | none => exact BI.Entails.refl _
    | some q =>
      show bigSepL [q] (tok c) ⊢ tok c q
      exact Entails.of_eq (bigSepL_singleton _ _)

/-- All rights of a device are the rights of all its dues. -/
theorem toks_all (c : Dev nD) : (bigSep Finset.univ (tok c)) ⊢ (bigSepL dues (toks c) : sProp 𝕄) := by
  rw [bigSep_univ_eq_bigSepL (dues.flatMap fun p => p :: (mate p).toList) (by decide) (by decide)]
  exact toks_flat c dues

/-! ## Places -/

/-- All places at the start are the places on whole-round semaphores and those on the two credit semaphores. -/
theorem places (c : Dev nD) : (bigSep Finset.univ fun k : Kind => atPos ER (cell c k) 0 ∅ 0)
    ⊢ (iprop(pos c [] ∗ (cstAt c true 0 ∗ cstAt c false 0)) : sProp 𝕄) := by
  have hn : (Finset.univ.filter fun k : Kind => ¬ whole k = true) = {.cred true, .cred false} := by decide
  have hc (d : Bool) : (atPos ER (cell c (.cred d)) 0 ∅ 0 : sProp 𝕄) ⊢ cstAt c d 0 := by
    show _ ⊢ cst c d 0
    unfold cst Release.heard
    iintro H
    iexists ∅
    isplitr; · ipureintro; exact Nat.zero_le _
    isplitl [H]; · iexact H
    irw [bigSep_empty]
    iempintro
  rw [bigSep_filter_split Finset.univ (fun k : Kind => whole k = true), hn, bigSep_insert (by decide), bigSep_singleton]
  exact BI.sep_mono (BI.Entails.refl _) (BI.sep_mono (hc true) (hc false))

/-- A slot's key, told by the device before it. -/
def keyFwd : Key ≃ Key where
  toFun k := (nx k.2.1 k.1, k.2)
  invFun k := (pv k.2.1 k.1, k.2)
  left_inv k := by show (pv k.2.1 (nx k.2.1 k.1), k.2) = k; rw [pv_nx]
  right_inv k := by show (nx k.2.1 (pv k.2.1 k.1), k.2) = k; rw [nx_pv]

/-- What is held for each direction and number is held slot by slot. -/
theorem per_slot (Φ : Bool × Fin 3 → sProp 𝕄) :
    bigSep Finset.univ Φ ⊢ iprop((Φ (true, 0) ∗ Φ (true, 1) ∗ Φ (true, 2)) ∗ (Φ (false, 0) ∗ Φ (false, 1) ∗ Φ (false, 2))) := by
  rw [bigSep_univ_eq_bigSepL [(true, 0), (true, 1), (true, 2), (false, 0), (false, 1), (false, 2)] (by decide) (by decide)]
  show iprop(Φ (true, 0) ∗ Φ (true, 1) ∗ Φ (true, 2) ∗ Φ (false, 0) ∗ Φ (false, 1) ∗ Φ (false, 2)) ⊢ _
  iintro ⟨H1, H2, H3, H4⟩
  isplitl [H1 H2 H3]
  · isplitl [H1]; · iexact H1
    isplitl [H2] <;> iassumption
  iexact H4

/-- The rights to release slots go to the devices that own them. -/
theorem readers : (bigSep (Finset.univ : Finset Key) fun k => Release.readerAt ES k 0)
    ⊢ (bigSep Finset.univ fun c : Dev nD => iprop(rds c true ∗ rds c false) : sProp 𝕄) := by
  rw [bigSep_univ_prod]
  exact bigSep_mono fun c _ => per_slot fun y => Release.readerAt ES (c, y) 0

/-- The rights to write slots go to the devices before their owners. -/
theorem writers : (bigSep ((Finset.univ : Finset Key) ×ˢ Finset.range 1) fun y => Release.writeTok ES y.1 (y.2 + 1))
    ⊢ (bigSep Finset.univ fun c : Dev nD => iprop(wts c true ∗ wts c false) : sProp 𝕄) := by
  have e : ((Finset.univ : Finset Key) ×ˢ Finset.range 1) = (Finset.univ : Finset Key).map ⟨fun k => (k, 0), fun a b h => congrArg Prod.fst h⟩ := by decide
  rw [e, bigSep_map, bigSep_univ_equiv keyFwd, bigSep_univ_prod]
  exact bigSep_mono fun c _ => per_slot fun y => Release.writeTok ES (nx y.1 c, y) 1

/-! ## The kernel's semaphores -/

/-- The kernel's own semaphores: all but the barrier. -/
def osem : {k : Kind // k ≠ .bar} → SemLoc sig := fun k => semOf k.1
/-- The kernel's own semaphores are of its scope, distinct, and none of the pipeline's. -/
theorem ownSemFacts : Pipeline.OwnSemFacts cfg0.spec osem := by decide +kernel

/-- The kernel's own semaphores of a device, all at zero. -/
abbrev ownSems (c : Dev nD) : sProp 𝕄 := Pipeline.ownSems0 (Ix := ℕ) (Name := ℕ) (U := UU) (Lvl := ℕ) (Val := Elt F) (τ := τ) osem c

/-- The barrier semaphore and the kernel's own ones are all semaphores of the schedule. -/
theorem sems_eq (c : Dev nD) : (iprop(unscopedSems0 c ∗ ownSems c) : sProp 𝕄) = bigSep Finset.univ fun k : Kind => semVal (cell c k) 0 := by
  have hn : (Finset.univ.filter fun k : Kind => ¬ k ≠ .bar) = {.bar} := by decide
  have h1 : (unscopedSems0 c : sProp 𝕄) = semVal (cell c .bar) 0 := by
    unfold unscopedSems0; rw [bigSep_eq_bigSepL_of_eq [SemLoc.reg barS] (by decide) (by decide)]; rfl
  have h2 : (ownSems c : sProp 𝕄) = bigSep (Finset.univ.filter fun k : Kind => k ≠ .bar) fun k => semVal (cell c k) 0 := by
    exact bigSep_subtype (fun k : Kind => k ≠ .bar) fun k => semVal (cell c k) 0
  rw [h1, h2, bigSep_filter_split Finset.univ (fun k : Kind => k ≠ .bar), hn, bigSep_singleton]
  exact BI.Entails.antisymm BI.sep_comm BI.sep_comm

/-! ## Everything dealt -/

/-- What everybody knows, but for the levels. -/
def shared (κ : Dev nD × Kind → ℕ) (ι : Key → ℕ) : sProp 𝕄 :=
  iprop((bigSep Finset.univ fun p : Dev nD × Kind => cellInv ER (sched x w) (κ p) (cell p.1 p.2))
    ∗ (bigSep Finset.univ fun p : Dev nD × Kind => reached ER (cell p.1 p.2) 0)
    ∗ (bigSep Finset.univ fun k : Key => Release.slotInv ES (ι k) k (free (slot k.2.1 k.2.2) k.1)))
/-- What everybody knows may be used again and again. -/
instance shared_persistent (κ ι) : BI.Persistent (shared x w κ ι) := by unfold shared; infer_instance

/-- The slots' minted resources go to device 0. -/
def first (c : Dev nD) : sProp 𝕄 := if c = 0 then BI.own (ES (F := F) (Release.initSlots (Finset.univ : Finset Key) 1)) else BI.emp
/-- What all devices get of the slots' minted resources is all of them. -/
theorem first_eq : (bigSep Finset.univ (first (F := F))) = (BI.own (ES (F := F) (Release.initSlots (Finset.univ : Finset Key) 1)) : sProp 𝕄) := by
  unfold first
  rw [← bigSep_filter Finset.univ (fun c : Dev nD => c = 0) (fun _ => BI.own (ES (F := F) (Release.initSlots (Finset.univ : Finset Key) 1))),
    show (Finset.univ.filter fun c : Dev nD => c = 0) = {0} from by decide, bigSep_singleton]
/-- What the minted resources give each device. -/
def given (c : Dev nD) : sProp 𝕄 :=
  iprop((bigSep Finset.univ fun k : Kind => roundState ER (sched x w) (cell c k) 0) ∗ (bigSep Finset.univ fun k : Kind => reached ER (cell c k) 0)
    ∗ (bigSep Finset.univ fun k : Kind => atPos ER (cell c k) 0 ∅ 0) ∗ (bigSep Finset.univ (tok c))
    ∗ first c)
/-- What it starts from. -/
def dealt (c : Dev nD) : sProp 𝕄 := iprop(∃ κ ι, shared x w κ ι ∗ mine c ∗ bigSepL dues (toks c))

/-- The minted resources can be dealt out to the devices. -/
theorem fund_given : iprop(BI.own (ER (F := F) (initOf cellSet tokSet)) ∗ BI.own (ES (F := F) (Release.initSlots (Finset.univ : Finset Key) 1)))
    ⊢ (|==> bigSep Finset.univ (given x w) : sProp 𝕄) := by
  have hX (Φ : GSem nD τ sig → sProp 𝕄) : bigSep cellSet Φ = bigSep Finset.univ fun c : Dev nD => bigSep Finset.univ fun k : Kind => Φ (cell c k) := by
    unfold cellSet; rw [bigSep_map, bigSep_univ_prod]; rfl
  have hT : bigSep tokSet (fun y => (dutyTok ER y.1 y.2.1 y.2.2 : sProp 𝕄)) = bigSep Finset.univ fun c : Dev nD => bigSep Finset.univ (tok c) := by
    unfold tokSet; rw [bigSep_map, bigSep_univ_prod]; rfl
  have hS := Entails.of_eq (first_eq (F := F)).symm
  iintro ⟨HX, HS⟩
  imod (Rounds.fund ER (sched x w) cellSet tokSet) $$ HX with ⟨Hst, Hr, Hat, Htok⟩
  imodintro
  ihave Hst := (Entails.of_eq (hX fun g => roundState ER (sched x w) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  ihave HS := hS $$ HS
  unfold given; simp only [bigSep_sep']
  isplitl [Hst]; · iexact Hst
  isplitl [Hr]; · iexact Hr
  isplitl [Hat]; · iexact Hat
  isplitl [Htok]; · iexact Htok
  iexact HS

/-- The invariants of one device's semaphores are made. -/
theorem alloc_cells (c : Dev nD) :
    iprop((bigSep Finset.univ fun k : Kind => semVal (cell c k) 0) ∗ bigSep Finset.univ fun k : Kind => roundState ER (sched x w) (cell c k) 0)
      ⊢ (|={Set.univ}=> bigSep Finset.univ fun k : Kind => iprop(∃ κ : ℕ, cellInv ER (sched x w) κ (cell c k)) : sProp 𝕄) := by
  rw [← bigSep_sep']
  exact (bigSep_mono fun k _ => (Rounds.body_intro ER (sched x w) (cell c k)).trans inv_alloc).trans (bigSep_fupd _ _)

/-- What a device gets is what it starts from. -/
theorem deal_to (κ : Dev nD × Kind → ℕ) (ι : Key → ℕ) (c : Dev nD) :
    iprop(shared x w κ ι ∗ (bigSep Finset.univ fun k : Kind => atPos ER (cell c k) 0 ∅ 0) ∗ (bigSep Finset.univ (tok c))
      ∗ (wts c true ∗ wts c false) ∗ (rds c true ∗ rds c false)) ⊢ dealt x w c := by
  unfold dealt mine
  iintro ⟨#HS, Hp, Ht, Hw, Hd⟩
  ihave Hp := (places c) $$ Hp
  icases Hp with ⟨Hp, Hc⟩
  ihave Ht := (toks_all c) $$ Ht
  iexists κ; iexists ι
  isplitr; · iexact HS
  isplitr [Ht]
  · isplitl [Hp]; · iexact Hp
    isplitl [Hc]; · iexact Hc
    isplitl [Hw] <;> iassumption
  iexact Ht

/-- Semaphores at zero and the minted resources become what the devices start from. -/
theorem deal : (bigSep Finset.univ fun c : Dev nD => iprop(ownSems c ∗ unscopedSems0 c ∗ given x w c))
    ⊢ (|={Set.univ}=> bigSep Finset.univ (dealt x w) : sProp 𝕄) := by
  have h1 (c : Dev nD) : iprop(ownSems c ∗ unscopedSems0 c ∗ given x w c)
      ⊢ (|={Set.univ}=> iprop((bigSep Finset.univ fun k : Kind => iprop(∃ κ : ℕ, cellInv ER (sched x w) κ (cell c k)))
        ∗ (bigSep Finset.univ fun k : Kind => reached ER (cell c k) 0)
        ∗ (bigSep Finset.univ fun k : Kind => atPos ER (cell c k) 0 ∅ 0) ∗ (bigSep Finset.univ (tok c))
        ∗ first c) : sProp 𝕄) := by
    unfold given
    iintro ⟨Hos, Hus, Hst, Hr, Hat, Htok, HS⟩
    ihave Hv := (Entails.of_eq (sems_eq (F := F) c)) $$ [Hos Hus]
    · isplitl [Hus] <;> iassumption
    imod (alloc_cells x w c) $$ [Hv Hst] with Hinv
    · isplitl [Hv] <;> iassumption
    imodintro
    isplitl [Hinv]; · iexact Hinv
    isplitl [Hr]; · iexact Hr
    isplitl [Hat]; · iexact Hat
    isplitl [Htok] <;> iassumption
  have hS := Entails.of_eq (first_eq (F := F))
  have hS' := hS.trans (Release.slots_init (Es := Set.univ) ES (Finset.univ : Finset Key) 1 fun k => free (F := F) (slot k.2.1 k.2.2) k.1)
  have hP {I : Type} [DecidableEq I] {S : Finset I} {R : sProp 𝕄} [BI.Persistent R] {Φ Ψ : I → sProp 𝕄}
      (h : ∀ i ∈ S, iprop(R ∗ Φ i) ⊢ Ψ i) : iprop(R ∗ bigSep S Φ) ⊢ bigSep S Ψ :=
    (sep_mono_left (BI.bigSep_of_persistent S R)).trans (by rw [← bigSep_sep']; exact bigSep_mono h)
  refine BIBase.Entails.trans ((bigSep_mono fun c _ => h1 c).trans (bigSep_fupd _ _)) ?_
  rw [bigSep_sep', bigSep_sep', bigSep_sep', bigSep_sep', ← bigSep_univ_prod (fun p : Dev nD × Kind => iprop(∃ κ : ℕ, cellInv ER (sched x w) κ (cell p.1 p.2))),
    ← bigSep_univ_prod (fun p : Dev nD × Kind => (reached ER (cell p.1 p.2) 0 : sProp 𝕄))]
  iintro H
  imod H with ⟨HI, #HR, Hat, Htok, HS⟩
  imod hS' $$ HS with ⟨%ι, -, #Hsl, Hrd, Hwt⟩
  ihave HK := (BI.bigSep_exists_pi Finset.univ (fun (p : Dev nD × Kind) (κ : ℕ) => (cellInv ER (sched x w) κ (cell p.1 p.2) : sProp 𝕄))) $$ HI
  icases HK with ⟨%κ, #HI⟩
  ihave Hrd := (readers (F := F)) $$ Hrd
  ihave Hwt := (writers (F := F)) $$ Hwt
  imodintro
  iapply (hP (R := shared x w κ ι) fun c _ => deal_to x w κ ι c)
  isplitr
  · unfold shared
    isplitr; · iexact HI
    isplitr; · iexact HR
    iexact Hsl
  simp only [bigSep_sep']
  isplitl [Hat]; · iexact Hat
  isplitl [Htok]; · iexact Htok
  isplitl [Hwt]; · iexact Hwt
  iexact Hrd

end Cert.KernelIdeal.Ring

end
-- ==== Proof.Run.lean ====
/-
  THE RUN: the four devices' kernels from any memory, for any float values.
-/
module

public import proofs.«01_k».proof.Proof.Start
public import proofs.«01_k».proof.Proof.Gen.KernelIdeal.Launch
public import Idealize.ShloMosaic.Lib.Pipeline.CollectiveSegs

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (tallyL tallyL_pos)
open Cert.KernelIdeal.Gen

variable {F : FTy → Type} [FloatOps F]

local notation "𝕄" => MT nD τ sig ℕ (Elt F) ℕ UU ℕ

open Idealize.ShloMosaic.Pipeline (Dat BodyObligation)

variable (m : (ℓ : Loc nD τ sig) → Buf (Elt F) ℓ) (ρ : Dev nD → PrngReg)

/-- The memory a run starts from: no semaphore is up. -/
def s₀ : MemSt nD τ sig (Elt F) := ⟨m, fun _ => 0, ρ⟩

/-- A device's rows of the left operand, as staged, -/
def xs (c : Dev nD) : Vec F S1024x4096 .f32 := (win0_0.blk (0 : Fin 1)).view.read (Elt F) (m ((c : Thread nD τ).loc main_arg0))
/-- and its columns of the right one. -/
def ws (c : Dev nD) : Vec F S4096x512 .f32 := (win0_1.blk (0 : Fin 1)).view.read (Elt F) (m ((c : Thread nD τ).loc main_arg1))
/-- What a device's result buffer holds at the end. -/
def outs (c : Dev nD) : Vec F S4096x512 .f32 := outFull (xs m) (ws m) c

/-- What a device owes the others at the start. -/
def O₀ (c : Dev nD) : CellTallies nD τ sig ℕ := tallyL (dues.map (pay c))

/-- What a device's body starts from, its scratch apart. -/
def start (c : Dev nD) : sProp 𝕄 :=
  iprop(dealt (xs m) (ws m) c ∗ inc c inc0 ∗ levAts (SiteBlocks.L 22) SiteBlocks.lv)
/-- What a device holds before the body. -/
def Φ₀ (c : Dev nD) : sProp 𝕄 := iprop(start m c ∗ scratch c)
/-- At the end every semaphore is down again. -/
def Φ₁ (c : Dev nD) : sProp 𝕄 := iprop((bigSep Finset.univ fun k : Kind => semVal (cell c k) 0) ∗ scratch c)

/-- What the pipeline keeps: the arrays, what each staging buffer holds after the body, and what the body starts and ends with. -/
def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => xs m c
    | ⟨1, _⟩ => ws m c
    | ⟨2, _⟩ => outs m c
  Φ t := match t with
    | ⟨0, _⟩ => Φ₀ m c
    | ⟨_ + 1, _⟩ => Φ₁ c
  q _ := fullShare
  owed t := match t with
    | ⟨0, _⟩ => O₀ c
    | ⟨_ + 1, _⟩ => 0

/-- After the body the first staging buffer holds `x`. -/
theorem after_x (c : Dev nD) (t : Fin cfg0.N) : (dats m ρ 0 c).after (0 : Fin 3) t = xs m c := by dsimp only [dats]
/-- After the body the second staging buffer holds `w`. -/
theorem after_w (c : Dev nD) (t : Fin cfg0.N) : (dats m ρ 0 c).after (1 : Fin 3) t = ws m c := by dsimp only [dats]
/-- After the body the third staging buffer holds the result. -/
theorem after_o (c : Dev nD) (t : Fin cfg0.N) : (dats m ρ 0 c).after (2 : Fin 3) t = outs m c := by dsimp only [dats]

/-- To own a whole buffer reading `X` is to hold it with contents `X`. -/
theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer of a device with given contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

set_option maxRecDepth 65536 in
/-- What the body is run from. -/
def bodyPre (c : Dev nD) : sProp 𝕄 :=
  iprop(Φ₀ m c ∗ (dats m ρ 0 c).owesAt (0 : ℕ) t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

set_option maxRecDepth 65536 in
/-- What the body leaves. -/
def bodyPost (c : Dev nD) : sProp 𝕄 :=
  iprop(Φ₁ c ∗ (dats m ρ 0 c).owesAt (0 : ℕ) t0_0.succ ∗ stg c cc0_stg0_0 ((dats m ρ 0 c).after (0 : Fin 3) t0_0)
    ∗ stg c cc0_stg1_0 ((dats m ρ 0 c).after (1 : Fin 3) t0_0) ∗ stg c cc0_stg2_0 ((dats m ρ 0 c).after (2 : Fin 3) t0_0))

/-- The body ends with everything paid, everything down and the result in place. -/
theorem body_end (κ : Dev nD × Kind → ℕ) (ι : Key → ℕ) (c : Dev nD) :
    iprop(recs (xs m) (ws m) κ ι ∗ todo c [] ∗ pos c posE ∗ (cstAt c true 3 ∗ cstAt c false 3) ∗ at_ xM c (xs m c) ∗ at_ wM c (ws m c)
      ∗ at_ oM c (outFull (xs m) (ws m) c) ∗ scratch c) ⊢ (|={Set.univ}=> bodyPost m ρ c : sProp 𝕄) := by
  unfold todo
  iintro ⟨HR, ⟨⟨%W, HO⟩, -⟩, Hp, ⟨Hc1, Hc0⟩, Hx, Hw, Ho, Hs⟩
  imod (close_all (x := xs m) (w := ws m) (κ := κ) (ι := ι) c) $$ [HR Hp Hc1 Hc0] with Hz
  · isplitl [HR]; · iexact HR
    isplitl [Hp]; · iexact Hp
    isplitl [Hc1] <;> iassumption
  imodintro
  unfold bodyPost Φ₁ Dat.owesAt Pipeline.owesWithin
  rw [after_x, after_w, after_o]
  isplitl [Hz Hs]
  · isplitl [Hz] <;> iassumption
  isplitl [HO]
  · iexists W
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  iexists _; isplitr; · (ipureintro; rfl)
  iexact Ho

/-- The body, from what a device starts from. -/
theorem sound_body (c : Dev nD) : bodyPre m ρ c ⊢ run c (body (F := F)) fun _ => bodyPost m ρ c := by
  have hb (κ : Dev nD × Kind → ℕ) (ι : Key → ℕ) := body_rule (x := xs m) (w := ws m) (κ := κ) (ι := ι) c (fun _ => iprop(|={Set.univ}=> bodyPost m ρ c))
  have he (κ : Dev nD × Kind → ℕ) (ι : Key → ℕ) : iprop(recs (xs m) (ws m) κ ι) ⊢ iprop(todo c [] ∗ pos c posE ∗ (cstAt c true 3 ∗ cstAt c false 3) ∗ at_ xM c (xs m c) ∗ at_ wM c (ws m c)
      ∗ at_ oM c (outFull (xs m) (ws m) c) ∗ scratch c -∗ |={Set.univ}=> bodyPost m ρ c) := by
    iintro HR
    iintro H
    iapply (body_end m ρ κ ι c)
    isplitl [HR] <;> iassumption
  refine BIBase.Entails.trans ?_ (wp_fupd _ _ _ _ _)
  unfold body
  rw [wp_deviceId]
  unfold bodyPre Φ₀ start dealt shared Dat.owesAt Pipeline.owesWithin
  iintro ⟨⟨⟨⟨%κ, %ι, ⟨#HI, #HR, #HS⟩, Hm, Ht⟩, Hi, #Hl⟩, Hsc⟩, ⟨%W, -, HO⟩, ⟨%d0, %g0, %hg0, Hx⟩, ⟨%d1, %g1, %hg1, Hw⟩, ⟨%d2, %g2, %hg2, Ho⟩⟩
  have hx : g0 = xs m c := by rw [hg0]; unfold Dat.before; rw [if_pos (fetch0_0 t0_0)]; rfl
  have hw : g1 = ws m c := by rw [hg1]; unfold Dat.before; rw [if_pos (fetch0_1 t0_0)]; rfl
  subst hx hw
  ihave #HRR : recs (xs m) (ws m) κ ι $$ []
  · unfold recs
    isplitr; · iexact HI
    isplitr; · iexact HR
    isplitr; · iexact HS
    iexact Hl
  iapply (hb κ ι)
  isplitr; · iexact HRR
  isplitl [Hi]; · iexact Hi
  isplitl [HO Ht]
  · unfold todo
    isplitl [HO]; · iexists W; iexact HO
    iexact Ht
  isplitl [Hm]; · iexact Hm
  isplitl [Hx]; · iexact Hx
  isplitl [Hw]; · iexact Hw
  isplitl [Ho]; · iexists g2; iexact Ho
  isplitl [Hsc]; · iexact Hsc
  iapply (he κ ι); iexact HRR

set_option maxRecDepth 65536 in
/-- What the launch asks of the body. -/
theorem body_obligation (c : Dev nD) : BodyObligation (dats (F := F) m ρ 0 c) (defs₀ (F := F)) 𝒱₀ (0 : ℕ) Set.univ := fun t => by
  rw [fin_N0 t]
  rw [bigSep_W0, bigSep_W0]
  simp only [owns_whole_eq]
  show bodyPre m ρ c ⊢ wp frame (wpE (defs₀ (F := F)) 𝒱₀ (c : Thread nD τ) none) Set.univ (bodyAt0 (F := F) t0_0) (fun _ => bodyPost m ρ c)
  rw [body_eq]
  exact sound_body m ρ c

/-! ## The launch -/

/-- Every window is held whole. -/
theorem share_eq (c : Dev nD) (w : Fin cfg0.W) : (dats m ρ 0 c).share w = fullShare := by unfold Dat.share; split <;> rfl

/-- The pieces handed out at the launch. -/
def u₀ : UU :=
  (initOf (Pipeline.cells cfgs cellOf_inj) (Pipeline.launchToks cfgs cellOf_inj), (initOf cellSet tokSet, Release.initSlots (Finset.univ : Finset Key) 1))

/-- The minted resources give the pipeline its part and each device its own. -/
theorem fund_all : (ownU u₀ : sProp 𝕄) ⊢ (|={Set.univ}=> iprop(BI.own (EP (F := F) (initOf (Pipeline.cells cfgs cellOf_inj) (Pipeline.launchToks cfgs cellOf_inj)))
    ∗ bigSep Finset.univ (given (xs m) (ws m))) : sProp 𝕄) := by
  have hf : iprop(BI.own (((Emb.inl : Emb UB (UB × US)).trans (embR : Emb (UB × US) (MT nD τ sig ℕ (Elt F) ℕ UU ℕ))) (initOf cellSet tokSet))
      ∗ BI.own (((Emb.inr : Emb US (UB × US)).trans (embR : Emb (UB × US) (MT nD τ sig ℕ (Elt F) ℕ UU ℕ))) (Release.initSlots (Finset.univ : Finset Key) 1)))
      ⊢ (|==> bigSep Finset.univ (given (xs m) (ws m)) : sProp 𝕄) := fund_given (xs m) (ws m)
  unfold u₀
  iintro Hu
  ihave H := (ownU_pair _ _) $$ Hu
  icases H with ⟨HP, HX⟩
  ihave H := (own_pair_emb (F := embR) _ _) $$ HX
  imod hf $$ H with HG
  imodintro
  isplitl [HP]; · iexact HP
  iexact HG

/-- What the launch gives a device is what it starts from. -/
theorem start_intro (c : Dev nD) :
    iprop(Pipeline.unscopedRestP Pipeline.Prefetch.none cfg0.spec c (fun b => m ((c : Thread nD τ).loc b)) ∗ levAts (SiteBlocks.L 22) SiteBlocks.lv
        ∗ Pipeline.launchCred O₀ c ∗ prngReg c (ρ c) ∗ dealt (xs m) (ws m) c)
      ⊢ |={Set.univ}=> iprop(start m c ∗ emp) := by
  have hl : (Pipeline.launchCred O₀ c : sProp 𝕄) ⊢ inc c inc0 := launch_inc c
  iintro ⟨-, Hlev, Hcr, -, HG⟩
  ihave Hc := hl $$ Hcr
  imodintro
  unfold start
  isplitl
  · isplitl [HG]; · iexact HG
    isplitl [Hc]; · iexact Hc
    iexact Hlev
  · iempintro

/-- What a device starts from, with its scratch buffers, is what it holds before the body. -/
theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch
  iintro ⟨Hs, -, Hr⟩
  isplitl [Hs]; · iexact Hs
  iexact Hr

/-- What a device holds after the body is every semaphore at zero and its scratch buffers. -/
theorem phi1_exit (c : Dev nD) :
    (dats m ρ 0 c).Φ (Fin.last cfg0.N) ⊢ iprop(unscopedSems0 c ∗ ownSems c ∗ Pipeline.scopedRest cfg0.spec c) := by
  rw [show (dats m ρ 0 c).Φ (Fin.last cfg0.N) = Φ₁ c from rfl, scopedRest0_eq]
  unfold Φ₁ scratch
  rw [← sems_eq]
  iintro ⟨⟨Hu, Ho⟩, Hr⟩
  isplitl [Hu]; · iexact Hu
  isplitl [Ho]; · iexact Ho
  iexact Hr

/-- The pipeline's own waits lie below everything a device owes. -/
theorem waits (c : Dev nD) : (levAts (SiteBlocks.L 22) SiteBlocks.lv : sProp 𝕄) ⊢ Pipeline.cellsWaits cfgs (dats m ρ) (0 : ℕ) 0 c :=
  Pipeline.cellsWaits_intro cfgs (dats m ρ) (0 : ℕ) 0 c fun w s t => by
    rcases t with ⟨_ | _, ht⟩
    · exact mayWait c _ 0 dues (by decide) (by decide)
    · exact mayWait c _ 0 [] (by decide) (by decide)

/-! ## The run -/

/-- What an array holds at the end. -/
def finalA (c : Dev nD) (w : Fin cfg0.W) : Buf (Elt F) ((cfg0.win w).arr.view.loc (c : Thread nD τ)) := (dats m ρ 0 c).arrAt w cfg0.N

/-- Every array of every device holds what it should at the end. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 65536 in
/-- On four devices, for any float values, from any memory with no semaphore up: every weakly fair run of the
    program ends, with each array as stated and no semaphore up. -/
theorem run_all : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) (0 : ℕ) cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := SiteBlocks.L 22) (lv := SiteBlocks.lv) (hL := SiteBlocks.hL 22) (hwaits := waits m ρ)
    (G := given (xs m) (ws m)) (G' := dealt (xs m) (ws m)) (u₀ := u₀)
    (hu₀ := fund_all m)
    (hglob := deal (xs m) (ws m))
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The operands are what they were. -/
theorem finalA_x (c : Dev nD) : finalA m ρ c (0 : Fin 3) = m ((c : Thread nD τ).loc main_arg0) :=
  (dats (F := F) m ρ 0 c).arrAt_in (0 : Fin 3) rfl _
/-- The array `w` ends as it began. -/
theorem finalA_w (c : Dev nD) : finalA m ρ c (1 : Fin 3) = m ((c : Thread nD τ).loc main_arg1) :=
  (dats (F := F) m ρ 0 c).arrAt_in (1 : Fin 3) rfl _

end Cert.KernelIdeal.Ring

end
-- ==== Proof.Frames.lean ====
/-
  THE THREE PROGRAMS RUN: each ends, leaves its arguments as they were and every semaphore down.
-/
module

public import proofs.«01_k».proof.Defs
public import Idealize.ShloMosaic.Lib.Pipeline.Regions
public import proofs.«01_k».proof.Proof.Run
public import proofs.«01_k».proof.Proof.Gen.Kernel
public import proofs.«01_k».proof.Proof.Gen.ReferenceIdeal.Run
public import Idealize.ShloMosaic.Adequacy
public import Idealize.ShloMosaic.Init

@[expose] public section

noncomputable section

namespace Cert.Proof

open Idealize.ShloMosaic Idealize.ShloMosaic.TcCoe Idealize.SL.Sem

/-- What the run of the kernel says of its arguments and semaphores, for any float values. -/
theorem frame_run {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ fun r =>
      (∀ c : Dev Cert.KernelIdeal.nD,
        r.2.mem ((c : Thread Cert.KernelIdeal.nD Cert.KernelIdeal.τ).loc Cert.KernelIdeal.main_arg0) = m ((c : Thread Cert.KernelIdeal.nD Cert.KernelIdeal.τ).loc Cert.KernelIdeal.main_arg0)
        ∧ r.2.mem ((c : Thread Cert.KernelIdeal.nD Cert.KernelIdeal.τ).loc Cert.KernelIdeal.main_arg1) = m ((c : Thread Cert.KernelIdeal.nD Cert.KernelIdeal.τ).loc Cert.KernelIdeal.main_arg1))
      ∧ r.2.sem = fun _ => 0 :=
  (θ_run Cert.KernelIdeal.defs _ _).mono
    (fun _ h => ⟨fun c => ⟨(h.1 c 0).trans (Cert.KernelIdeal.Ring.finalA_x m ρ c), (h.1 c 1).trans (Cert.KernelIdeal.Ring.finalA_w m ρ c)⟩, h.2⟩)
    (Cert.KernelIdeal.Ring.run_all (F := F) m ρ)

set_option maxRecDepth 65536 in
/-- The kernel and its reading over the reals are one text. -/
theorem defs_eq : Cert.Kernel.defs (F := Bits) = Cert.KernelIdeal.defs (F := Bits) := by chain_rfl

/-- The kernel on words. -/
theorem frame_kernel : Cert.quiescent_Kernel (hKernel := Cert.Kernel.Gen.facts) := fun m ρ _ => by
  rw [defs_eq]
  exact frame_run (F := Bits) m ρ

/-- The kernel over the reals. -/
theorem frame_ideal : Cert.quiescent_KernelIdeal (hKernelIdeal := Cert.KernelIdeal.Gen.facts) := fun m ρ _ => frame_run (F := Ideal) m ρ

/-- The reference over the reals: it has one device and no semaphore. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.Products.lean ====
/-
  THE PRODUCTS, OVER THE EXTENDED REALS.

  The narrowing and the messages change nothing there, and the eight blocks of the contraction add up to the whole
  of it: `yv_apply`. So all the products of a device are a relu of one plain product: `yFull_apply`.
-/
module

public import proofs.«01_k».proof.Proof.Vals
public import Idealize.ShloMosaic.Lib.MatmulPlain
public import Idealize.ShloMosaic.Lib.ValueIdx
public import Idealize.ShloMosaic.Lib.ValueLayout
public import Idealize.ShloMosaic.Lib.Pointwise.Sums

@[expose] public section

noncomputable section

namespace Cert.KernelIdeal.Ring

open Idealize.ShloMosaic hiding ix2 ix3
open Idealize.ShloMosaic.TcCoe Idealize.ShloMosaic.ValueIdx
open Cert.KernelIdeal.Gen
open scoped BigOperators

variable (x : Dev nD → Vec Ideal S1024x4096 .f32) (w : Dev nD → Vec Ideal S4096x512 .f32)

/-- Row `a` of `X` times column `n` of `W`, no smaller than zero. -/
def dotR {R C : ℕ} (X : Fin R → Fin 4096 → EReal) (W : Fin 4096 → Fin C → EReal) (a : Fin R) (n : Fin C) : EReal :=
  max (∑ k : Fin 4096, X a k * W k n) 0

/-- The narrowed array is the array. -/
theorem half_eq (W : Vec Ideal S4096x512 .f32) : (half W : S4096x512.Idx → EReal) = W := by
  unfold half
  rw [shapeCast_self, shapeCast_self]
  rfl

/-- A message at an index. -/
theorem msgVal_apply (o : Dev nD) (j : Fin 4) (k : Fin 4096) (b : Fin 128) :
    msgVal w o j (ix2 (n0 := 4096) (n1 := 128) k b) = w o (ix2 (n0 := 4096) (n1 := 512) k ⟨128 * j.val + b.val, by omega⟩) := by
  unfold msgVal
  rw [show (half (w o) : S4096x512.Idx → EReal) = w o from half_eq (w o)]
  show w o _ = w o _
  congr 1
  funext a; apply Fin.ext
  match a with
  | ⟨0, _⟩ => show 0 + 1 * k.val = k.val; omega
  | ⟨1, _⟩ => show 128 * j.val + 1 * b.val = 128 * j.val + b.val; omega

/-- Block `b` of `X` at an index. -/
theorem xB_apply (X : Vec Ideal S1024x4096 .f32) (b : Fin 8) (a : Fin 1024) (k : Fin 512) :
    xB X b (ix2 (n0 := 1024) (n1 := 512) a k) = X (ix2 (n0 := 1024) (n1 := 4096) a ⟨b.val * 512 + k.val, by omega⟩) := by
  show X _ = X _
  congr 1
  funext c; apply Fin.ext
  match c with
  | ⟨0, _⟩ => show 0 + 1 * a.val = a.val; omega
  | ⟨1, _⟩ => show 512 * b.val + 1 * k.val = b.val * 512 + k.val; omega

/-- Block `b` of columns `128j …` of `W` at an index. -/
theorem wB_apply (W : Vec Ideal S4096x512 .f32) (j : Fin 4) (b : Fin 8) (k : Fin 512) (n : Fin 128) :
    wB W j b (ix2 (n0 := 512) (n1 := 128) k n)
      = W (ix2 (n0 := 4096) (n1 := 512) ⟨b.val * 512 + k.val, by omega⟩ ⟨128 * j.val + n.val, by omega⟩) := by
  show W _ = W _
  congr 1
  funext c; apply Fin.ext
  match c with
  | ⟨0, _⟩ => show 512 * b.val + 1 * k.val = b.val * 512 + k.val; omega
  | ⟨1, _⟩ => show 128 * j.val + 1 * n.val = 128 * j.val + n.val; omega

/-- One block's product at an index. -/
theorem mac_apply {φ₁ φ₂ : FTy} (X : FVec Ideal S1024x512 φ₁) (W : FVec Ideal S512x128 φ₂) (a : Fin 1024) (n : Fin 128) :
    matmul dot_S1024x512_S512x128_S1024x128_1_0_0_1_n_n none X W (constant S1024x128 .f32 0x00000000#32) (ix2 (n0 := 1024) (n1 := 128) a n)
      = ∑ k : Fin 512, X (ix2 (n0 := 1024) (n1 := 512) a k) * W (ix2 (n0 := 512) (n1 := 128) k n) := by
  have h := Ideal.matmul_plain_apply (M := 1024) (K := 512) (N := 128) none X W (constant S1024x128 .f32 0x00000000#32) a n
  rw [constant_apply, Ideal.ofBits_zero_f32, zero_add] at h
  exact h

/-- A running sum from zero is the sum. -/
theorem fold_blks (f : Fin 8 → EReal) : blks.foldl (fun a b => a + f b) 0 = ∑ b : Fin 8, f b := by
  simp only [blks, List.foldl_cons, List.foldl_nil, Fin.sum_univ_eight, zero_add]

/-- An accumulated array at an index is the sum accumulated there. -/
theorem fold_apply (step : FVec Ideal S1024x128 .f32 → Fin 8 → FVec Ideal S1024x128 .f32) (i : S1024x128.Idx) (f : Fin 8 → EReal)
    (h : ∀ a b, step a b i = a i + f b) : blks.foldl step acc0 i = ∑ b : Fin 8, f b := by
  have hl : ∀ (l : List (Fin 8)) (a : FVec Ideal S1024x128 .f32), l.foldl step a i = l.foldl (fun a b => a + f b) (a i) := fun l => by
    induction l with
    | nil => intro a; rfl
    | cons b l ih => intro a; rw [List.foldl_cons, List.foldl_cons, ih, h]
  rw [hl, show (acc0 : FVec Ideal S1024x128 .f32) i = 0 from Ideal.ofBits_zero_f32, fold_blks]

/-- The blocked product with a device's own columns is the product. -/
theorem gW_apply (X : Vec Ideal S1024x4096 .f32) (W : Vec Ideal S4096x512 .f32) (j : Fin 4) (a : Fin 1024) (n : Fin 128) :
    gW X W j (ix2 (n0 := 1024) (n1 := 128) a n) = ∑ k : Fin 4096, X (ix2 (n0 := 1024) (n1 := 4096) a k)
      * W (ix2 (n0 := 4096) (n1 := 512) k ⟨128 * j.val + n.val, by omega⟩) := by
  rw [Fin.sum_univ_tiles 8 512 rfl]
  refine fold_apply _ _ _ fun acc b => ?_
  unfold macW
  rw [addf_apply, mac_apply, shapeCast_self, shapeCast_self]
  exact congrArg (acc _ + ·) (Finset.sum_congr rfl fun k _ => by rw [xB_apply, wB_apply])

/-- The blocked product with a message is the product. -/
theorem gS_apply (X : Vec Ideal S1024x4096 .f32) (v : Vec Ideal S4096x128 .bf16) (a : Fin 1024) (n : Fin 128) :
    gS X v (ix2 (n0 := 1024) (n1 := 128) a n) = ∑ k : Fin 4096, X (ix2 (n0 := 1024) (n1 := 4096) a k)
      * v (ix2 (n0 := 4096) (n1 := 128) k n) := by
  rw [Fin.sum_univ_tiles 8 512 rfl]
  refine fold_apply _ _ _ fun acc b => ?_
  unfold macS
  rw [addf_apply, mac_apply, shapeCast_self]
  refine congrArg (acc _ + ·) (Finset.sum_congr rfl fun k _ => ?_)
  rw [xB_apply, shapeCast_1ab_ab_apply]
  refine congrArg (X _ * ·) ?_
  show v _ = v _
  congr 1
  funext c; apply Fin.ext
  match c with
  | ⟨0, _⟩ => show 512 * b.val + k.val = b.val * 512 + k.val; omega
  | ⟨1, _⟩ => rfl

/-- The products of device `c` with columns `128j …` of device `o`, at an index. -/
theorem yv_apply (c o : Dev nD) (j : Fin 4) (a : Fin 1024) (n : Fin 128) :
    yv x w c o j (ix2 (n0 := 1024) (n1 := 128) a n)
      = dotR (fun a k => x c (ix2 (n0 := 1024) (n1 := 4096) a k)) (fun k n => w o (ix2 (n0 := 4096) (n1 := 512) k n)) a ⟨128 * j.val + n.val, by omega⟩ := by
  have hr (g : FVec Ideal S1024x128 .f32) (i : S1024x128.Idx) : relu g i = max (g i) 0 := by
    show max (g i) (Ideal.ofBits .f32 0x00000000#32) = _
    rw [Ideal.ofBits_zero_f32]
  unfold yv dotR
  split
  · next h => subst h; rw [hr, gW_apply]
  · rw [hr, gS_apply]
    exact congrArg (max · 0) (Finset.sum_congr rfl fun k _ => by rw [msgVal_apply])

/-- All products of device `c`, at an index. -/
theorem yFull_apply (c o : Dev nD) (a : Fin 1024) (n : Fin 512) :
    yFull x w c (ix2 (n0 := 1024) (n1 := 2048) a ⟨512 * o.val + n.val, by have : o.val < 4 := o.isLt; omega⟩)
      = dotR (fun a k => x c (ix2 (n0 := 1024) (n1 := 4096) a k)) (fun k n => w o (ix2 (n0 := 4096) (n1 := 512) k n)) a n := by
  have ho : o.val < 4 := o.isLt
  have hn := n.isLt
  have key (o' : Dev nD) (n' : Fin 512) (h : o' = o) (h' : n' = n) :
      dotR (fun a k => x c (ix2 (n0 := 1024) (n1 := 4096) a k)) (fun k n => w o' (ix2 (n0 := 4096) (n1 := 512) k n)) a n'
        = dotR (fun a k => x c (ix2 (n0 := 1024) (n1 := 4096) a k)) (fun k n => w o (ix2 (n0 := 4096) (n1 := 512) k n)) a n := by
    rw [h, h']
  exact (yv_apply x w c _ _ a _).trans (key _ _ (Fin.ext (by show (512 * o.val + n.val) / 512 = o.val; omega))
    (Fin.ext (by show 128 * ((512 * o.val + n.val) % 512 / 128) + (512 * o.val + n.val) % 128 = n.val; omega)))

end Cert.KernelIdeal.Ring

end
-- ==== Proof.Maxima.lean ====
/-
  THE MAXIMA, OVER THE EXTENDED REALS.

  A maximum is known by what it is no larger than. So the largest product of a device, and the largest of the four
  devices, are known by the products alone, in whatever order they were compared: `lmaxOf_le`, `gmax_le`. In
  particular the scale is one number on all devices: `scale_eq`.
-/
module

public import proofs.«01_k».proof.Proof.Products
public import proofs.«01_k».proof.Proof.Tail
public import Idealize.ShloMosaic.PureOps.Ideal.Laws

@[expose] public section

noncomputable section

namespace Cert.KernelIdeal.Ring

open Idealize.ShloMosaic hiding ix2 ix3
open Idealize.ShloMosaic.TcCoe Idealize.ShloMosaic.ValueIdx
open Cert.KernelIdeal.Gen

variable (x : Dev nD → Vec Ideal S1024x4096 .f32) (w : Dev nD → Vec Ideal S4096x512 .f32)

/-- The start of a maximum is below everything. -/
theorem ofBits_bot : Ideal.ofBits .f32 0xFF800000#32 = ⊥ := by simp [Ideal.ofBits, Ideal.ieee]

/-- A maximum over all axes of a recast array is no larger than `u` when no element is. -/
theorem multiMax_le {r s : Shape} {axes : List (Fin s.rank)} (y : FVec Ideal r .f32) (hc : r.ShapeCasts s) (h : s.Reduces axes S1)
    (hφ : FKind.Formats .f32) (hacc : (0xFF800000#32 : BitVec 32) = FKind.maximumf.neutral .f32 hφ) (j : S1.Idx) (u : EReal) :
    multiReduction .maximumf axes S1 (shapeCast s y hc) 0xFF800000#32 h hφ hacc j ≤ u ↔ ∀ i, y i ≤ u := by
  rw [multiReduction_maximumf_eq_fold]
  refine Finset.fold_max_le _ |>.trans ?_
  have hj (i : s.Idx) : h.drop i = j := funext fun b => Fin.ext (by
    have h1 := (h.drop i b).isLt
    have h2 := (j b).isLt
    have hb : S1.size b = 1 := (by decide : ∀ b : Fin S1.rank, S1.size b = 1) b
    omega)
  rw [show (FloatOps.ofBits .f32 0xFF800000#32 : Ideal .f32) = ⊥ from ofBits_bot]
  constructor
  · intro hm i
    have h1 := hm.2 ((Shape.reshapeEquiv hc).symm i) (Finset.mem_filter.2 ⟨Finset.mem_univ _, hj _⟩)
    rw [show shapeCast s y hc ((Shape.reshapeEquiv hc).symm i) = y (Shape.reshapeEquiv hc ((Shape.reshapeEquiv hc).symm i)) from rfl,
      Equiv.apply_symm_apply] at h1
    exact h1
  · exact fun hm => ⟨bot_le, fun i _ => hm _⟩

/-- The running maximum after one more block. -/
theorem maxB_le (l : EReal) (y : FVec Ideal S1024x128 .f32) (u : EReal) : maxB (F := Ideal) l y ≤ u ↔ l ≤ u ∧ ∀ i, y i ≤ u :=
  max_le_iff.trans (and_congr_right fun _ => multiMax_le y _ _ (.inl rfl) rfl _ u)

/-- The largest of a list of blocks. -/
theorem foldMax_le {α : Type} (y : α → FVec Ideal S1024x128 .f32) (u : EReal) : ∀ (L : List α) (l : EReal),
    L.foldl (fun l p => maxB (F := Ideal) l (y p)) l ≤ u ↔ l ≤ u ∧ ∀ p ∈ L, ∀ i, y p i ≤ u
  | [], l => by simp
  | p :: L, l => by rw [List.foldl_cons, foldMax_le y u L, maxB_le, List.forall_mem_cons, and_assoc]

/-- The largest product of a device is no larger than `u` when none is. -/
theorem lmaxOf_le (c : Dev nD) (u : EReal) : lmaxOf x w c ≤ u ↔ 0 ≤ u ∧ ∀ o j i, yv x w c o j i ≤ u := by
  unfold lmaxOf
  refine (foldMax_le (fun p : Dev nD × Fin 4 => yv x w c p.1 p.2) u _ _).trans ?_
  rw [show (Scalar.ofBits .f32 0x00000000#32 : Ideal .f32) = (0 : EReal) from Ideal.ofBits_zero_f32]
  exact and_congr_right fun _ => ⟨fun h o j => h (o, j) (orders c o j), fun h p _ => h p.1 p.2⟩

/-- The same, of the products as they are. -/
theorem lmaxOf_le' (c : Dev nD) (u : EReal) : lmaxOf x w c ≤ u ↔ ∀ (o : Dev nD) (a : Fin 1024) (n : Fin 512),
    dotR (fun a k => x c (ix2 (n0 := 1024) (n1 := 4096) a k)) (fun k n => w o (ix2 (n0 := 4096) (n1 := 512) k n)) a n ≤ u := by
  rw [lmaxOf_le]
  constructor
  · intro h o a n
    have hn := n.isLt
    have h1 := h.2 o ⟨n.val / 128, by omega⟩ (ix2 (n0 := 1024) (n1 := 128) a ⟨n.val % 128, by omega⟩)
    rw [yv_apply] at h1
    have e : (⟨128 * (n.val / 128) + n.val % 128, by omega⟩ : Fin 512) = n := Fin.ext (by show 128 * (n.val / 128) + n.val % 128 = n.val; omega)
    rw [← e]
    exact h1
  · intro h
    refine ⟨le_trans (le_max_right _ _) (h c 0 0), fun o j i => ?_⟩
    rw [show i = ix2 (n0 := 1024) (n1 := 128) (i 0) (i 1) from ValueIdx.eq_ix2 i]
    exact (yv_apply x w c o j (i 0) (i 1)).trans_le (h o _ _)

/-- Every other device is one, two or three further on. -/
theorem others : ∀ c e : Dev nD, e = c ∨ ∃ i : Fin 3, rot (1 + i.val) c = e := by decide

/-- The largest of a device's own maximum and those that arrive. -/
def topOf (l : EReal) (g : FVec Ideal S3x8x128 .f32) : Ideal .f32 := Scalar.maximumf (F := Ideal) (φ := .f32) l (extractAt ![0, 0, 0, 0] (shapeCast S1x1x1x1
    (multiReduction .maximumf [1, 2, 3] S1 (shapeCast S1x3x8x128 g shapeCasts_S3x8x128_S1x3x8x128) 0xFF800000#32 reduces_S1x3x8x128_S1 (.inl rfl) rfl)
    shapeCasts_S1_S1x1x1x1) inpos_S1x1x1x1_p0_0_0_0)

/-- It is no larger than `u` when none of them is. -/
theorem topOf_le (l : EReal) (g : FVec Ideal S3x8x128 .f32) (u : EReal) : topOf l g ≤ u ↔ l ≤ u ∧ ∀ i, g i ≤ u :=
  max_le_iff.trans (and_congr_right fun _ => multiMax_le g _ _ (.inl rfl) rfl _ u)

/-- The scale is that maximum over 127. -/
theorem scaleOf_eq (l : EReal) (g : FVec Ideal S3x8x128 .f32) :
    scaleOf (F := Ideal) l g = Ideal.div (topOf l g) (Ideal.ofBits .f32 0x42FE0000#32) := by
  have h (t : Ideal .f32) : Scalar.divf (F := Ideal) t (Scalar.ofBits .f32 0x42FE0000#32) = Ideal.div t (Ideal.ofBits .f32 0x42FE0000#32) := rfl
  exact (show scaleOf (F := Ideal) l g = Scalar.divf (F := Ideal) (topOf l g) (Scalar.ofBits .f32 0x42FE0000#32) by
    delta scaleOf topOf; exact Eq.refl _).trans (h _)

/-- An element of the maxima that arrive. -/
theorem gFull_apply (c : Dev nD) (i : S3x8x128.Idx) : gFull x w c i = lmaxOf x w (rot (1 + (i 0).val) c) := by
  have hb (v : Ideal .f32) (k : S8x128.Idx) : broadcast S8x128 v k = v := rfl
  have hm (e : Dev nD) (k : S8x128.Idx) : mFull x w e k = lmaxOf x w e := by
    unfold mFull
    rw [shapeCast_self]
    exact hb _ _
  unfold gFull
  exact hm _ _

/-- The largest maximum at a device is no larger than `u` when no product of any device is. -/
theorem gmax_le (c : Dev nD) (u : EReal) : topOf (lmaxOf x w c) (gFull x w c) ≤ u ↔ ∀ (e o : Dev nD) (a : Fin 1024) (n : Fin 512),
    dotR (fun a k => x e (ix2 (n0 := 1024) (n1 := 4096) a k)) (fun k n => w o (ix2 (n0 := 4096) (n1 := 512) k n)) a n ≤ u := by
  rw [topOf_le]
  constructor
  · rintro ⟨hl, hg⟩ e
    rcases others c e with rfl | ⟨i, rfl⟩
    · exact (lmaxOf_le' x w _ u).1 hl
    · refine (lmaxOf_le' x w _ u).1 ?_
      have h := hg (ix3 (n0 := 3) (n1 := 8) (n2 := 128) i 0 0)
      rw [gFull_apply] at h
      exact h
  · exact fun h => ⟨(lmaxOf_le' x w _ u).2 (h _), fun i => (gFull_apply x w c i).trans_le ((lmaxOf_le' x w _ u).2 (h _))⟩

/-- The scale of every device is the largest of all products over 127. -/
theorem scale_eq (M : EReal) (hM : ∀ u, M ≤ u ↔ ∀ (e o : Dev nD) (a : Fin 1024) (n : Fin 512),
    dotR (fun a k => x e (ix2 (n0 := 1024) (n1 := 4096) a k)) (fun k n => w o (ix2 (n0 := 4096) (n1 := 512) k n)) a n ≤ u) (c : Dev nD) :
    scale x w c = Ideal.div M (Ideal.ofBits .f32 0x42FE0000#32) := by
  have h : topOf (lmaxOf x w c) (gFull x w c) = M := eq_of_forall_ge_iff fun u => (gmax_le x w c u).trans (hM u).symm
  rw [← h]
  exact scaleOf_eq _ _

end Cert.KernelIdeal.Ring

end
-- ==== Proof.Quant.lean ====
/-
  THE QUANTISER, OVER THE EXTENDED REALS.

  A value rounded and clipped to [-127, 127] is a whole number of eight bits, so its way through an eight-bit integer
  changes nothing: a tile that travels comes to the same as one that stays, and each element of the result is the
  quantiser of one product: `outFull_apply`.
-/
module

public import proofs.«01_k».proof.Proof.Maxima

@[expose] public section

noncomputable section

namespace Cert.KernelIdeal.Ring

open Idealize.ShloMosaic hiding ix2 ix3
open Idealize.ShloMosaic.TcCoe Idealize.ShloMosaic.ValueIdx
open Cert.KernelIdeal.Gen

variable (x : Dev nD → Vec Ideal S1024x4096 .f32) (w : Dev nD → Vec Ideal S4096x512 .f32)

/-- The upper bound of the quantiser is 127. -/
theorem ofBits_127 : Ideal.ofBits .f32 0x42FE0000#32 = ((127 : ℝ) : EReal) := by
  simp [Ideal.ofBits, Ideal.ieee]; rw [← EReal.coe_mul]; norm_num
/-- The lower bound of the quantiser is -127. -/
theorem ofBits_neg127 : Ideal.ofBits .f32 0xC2FE0000#32 = ((-127 : ℝ) : EReal) := by
  simp [Ideal.ofBits, Ideal.ieee]; rw [← EReal.coe_mul]; norm_num

/-- Rounded, and clipped. -/
def clip (t : EReal) : EReal :=
  min (Ideal.ofBits .f32 0x42FE0000#32) (max (Ideal.ofBits .f32 0xC2FE0000#32) (Ideal.liftRound Ideal.roundHalfEven t))

/-- Quantised with a scale, and scaled back. -/
def qd (sc y : EReal) : EReal := clip (Ideal.div y sc) * sc

/-- A clipped value is a whole number from -127 to 127. -/
theorem clip_int (t : EReal) : ∃ n : ℤ, -127 ≤ n ∧ n ≤ 127 ∧ clip t = ((n : ℝ) : EReal) := by
  unfold clip
  rw [ofBits_127, ofBits_neg127]
  induction t using EReal.rec with
  | bot => exact ⟨-127, by omega, by omega, by rw [Ideal.liftRound_bot, max_eq_left bot_le, min_eq_right (EReal.coe_le_coe_iff.2 (by norm_num))]; norm_num⟩
  | top => exact ⟨127, by omega, by omega, by rw [Ideal.liftRound_top, max_eq_right le_top, min_eq_left le_top]; norm_num⟩
  | coe r =>
    refine ⟨min 127 (max (-127) (Ideal.roundHalfEven r)), by omega, by omega, ?_⟩
    rw [Ideal.liftRound_coe]
    push_cast
    rfl

/-- Such a number comes back from eight bits. -/
theorem toInt_fptosi (n : ℤ) (h : -127 ≤ n) (h' : n ≤ 127) : (Ideal.fptosi 8 ((n : ℝ) : EReal)).toInt = n := by
  unfold Ideal.fptosi
  have e : Ideal.toIntClamped (-(2 ^ (8 - 1) : ℕ)) ((2 ^ (8 - 1) : ℕ) - 1) ((n : ℝ) : EReal) = n := by
    rw [Ideal.toIntClamped_coe, Int.floor_intCast, Int.ceil_intCast, ite_self]
    norm_num
    omega
  rw [e, BitVec.toInt_ofInt]
  norm_num [Int.bmod]
  split <;> omega

/-- A clipped value comes back from eight bits. -/
theorem sitofp_clip (t : EReal) : (((Ideal.fptosi 8 (clip t)).toInt : ℝ) : EReal) = clip t := by
  obtain ⟨n, h, h', e⟩ := clip_int t
  rw [e, toInt_fptosi n h h']

/-- A tile's element is one product. -/
theorem tile_apply (c o : Dev nD) (a : Fin 1024) (n : Fin 512) : tile x w c o (ix2 (n0 := 1024) (n1 := 512) a n)
    = dotR (fun a k => x c (ix2 (n0 := 1024) (n1 := 4096) a k)) (fun k n => w o (ix2 (n0 := 4096) (n1 := 512) k n)) a n := by
  rw [← yFull_apply]
  show yFull x w c _ = yFull x w c _
  congr 1
  funext b; apply Fin.ext
  match b with
  | ⟨0, _⟩ => show 0 + 1 * a.val = a.val; omega
  | ⟨1, _⟩ => show 512 * o.val + 1 * n.val = 512 * o.val + n.val; omega

/-- A tile that stays. -/
theorem deq_apply (sc : EReal) (t : Vec Ideal S1024x512 .f32) (i : S1024x512.Idx) : deq (F := Ideal) sc t i = qd sc (t i) := rfl

/-- A tile that travels. -/
theorem deq8_apply (sc sc' : EReal) (t : Vec Ideal S1024x512 .f32) (a : Fin 1024) (n : Fin 512) :
    deq8 (F := Ideal) sc (fun i => quant8 (F := Ideal) sc' t (ix2 (n0 := 1024) (n1 := 512) (i 1) (i 2))) (ix2 (n0 := 1024) (n1 := 512) a n)
      = clip (Ideal.div (t (ix2 (n0 := 1024) (n1 := 512) a n)) sc') * sc := by
  unfold deq8 quant8
  rw [mulf_apply, shapeCast_self]
  refine congrArg (· * sc) ?_
  refine Eq.trans ?_ (sitofp_clip _)
  show ((((shapeCast S1024x512 _ shapeCasts_S1x1024x512_S1024x512 (ix2 (n0 := 1024) (n1 := 512) a n) : BitVec 8).toInt : ℝ)) : EReal) = _
  rw [shapeCast_1ab_ab_apply]
  rfl

/-- Each element of the result is the quantiser of one product. -/
theorem outFull_apply (M : EReal) (hM : ∀ u, M ≤ u ↔ ∀ (e o : Dev nD) (a : Fin 1024) (n : Fin 512),
    dotR (fun a k => x e (ix2 (n0 := 1024) (n1 := 4096) a k)) (fun k n => w o (ix2 (n0 := 4096) (n1 := 512) k n)) a n ≤ u)
    (c : Dev nD) (i : Fin 4096) (n : Fin 512) :
    outFull x w c (ix2 (n0 := 4096) (n1 := 512) i n) = qd (Ideal.div M (Ideal.ofBits .f32 0x42FE0000#32))
      (dotR (fun a k => x ⟨i.val / 1024, by show _ < 4; omega⟩ (ix2 (n0 := 1024) (n1 := 4096) a k))
        (fun k n => w c (ix2 (n0 := 4096) (n1 := 512) k n)) ⟨i.val % 1024, by omega⟩ n) := by
  have h (o : Dev nD) (a : Fin 1024) : outV x w c o (ix2 (n0 := 1024) (n1 := 512) a n) = qd (Ideal.div M (Ideal.ofBits .f32 0x42FE0000#32))
      (dotR (fun a k => x o (ix2 (n0 := 1024) (n1 := 4096) a k)) (fun k n => w c (ix2 (n0 := 4096) (n1 := 512) k n)) a n) := by
    unfold outV
    split
    · next e => subst e; rw [deq_apply, scale_eq x w M hM, tile_apply]
    · unfold tileV
      refine (deq8_apply (scale x w c) (scale x w o) (tile x w o c) a n).trans ?_
      rw [scale_eq x w M hM, scale_eq x w M hM, tile_apply]
      rfl
  exact h _ _

end Cert.KernelIdeal.Ring

end
-- ==== Proof.Result.lean ====
/-
  WHAT THE RUN LEAVES IN THE RESULT.

  The three windows are whole arrays, so what a device reads of its operands is the operands, and what is written back
  is all of its result: `final_result`.
-/
module

public import proofs.«01_k».proof.Proof.Run
public import proofs.«01_k».proof.Proof.Quant

@[expose] public section

noncomputable section

namespace Cert.KernelIdeal.Ring

open Idealize.ShloMosaic Idealize.ShloMosaic.TcCoe
open Cert.KernelIdeal.Gen

variable {F : FTy → Type} [FloatOps F]
variable (m : (ℓ : Loc nD τ sig) → Buf (Elt F) ℓ) (ρ : Dev nD → PrngReg)

/-- A device's rows are its left operand, -/
theorem xs_eq (c : Dev nD) : xs m c = m ((c : Thread nD τ).loc main_arg0) :=
  Memref.read_access_unit_zero (Elt F) main_arg0 (funext fun a => by fin_cases a <;> decide) (fun a => by fin_cases a <;> decide) _
/-- and its columns its right one. -/
theorem ws_eq (c : Dev nD) : ws m c = m ((c : Thread nD τ).loc main_arg1) :=
  Memref.read_access_unit_zero (Elt F) main_arg1 (funext fun a => by fin_cases a <;> decide) (fun a => by fin_cases a <;> decide) _

/-- The result's one block, read back, is what the body left. -/
theorem final_block (c : Dev nD) : (win0_2.blk (0 : Fin 1)).view.read (Elt F) (finalA m ρ c (2 : Fin 3)) = outs m c := by
  unfold finalA
  rw [show cfg0.N = t0_0.val + 1 from rfl, (dats m ρ 0 c).arrAt_succ (2 : Fin 3) t0_0, flush0_2, if_pos rfl]
  refine (View.read_write_univ _ _).trans ?_
  exact after_o m ρ c t0_0

/-- So the result is what the body left. -/
theorem final_result (c : Dev nD) : finalA m ρ c (2 : Fin 3)
    = outFull (fun c : Dev nD => m ((c : Thread nD τ).loc main_arg0)) (fun c : Dev nD => m ((c : Thread nD τ).loc main_arg1)) c := by
  have h := final_block m ρ c
  rw [outs, show xs m = fun c : Dev nD => m ((c : Thread nD τ).loc main_arg0) from funext (xs_eq m),
    show ws m = fun c : Dev nD => m ((c : Thread nD τ).loc main_arg1) from funext (ws_eq m)] at h
  refine Eq.trans ?_ h
  exact (Memref.read_access_unit_zero (Elt F) main_v1 (funext fun a => by fin_cases a <;> decide) (fun a => by fin_cases a <;> decide) _).symm

end Cert.KernelIdeal.Ring

end
-- ==== Proof.Reference.lean ====
/-
  THE REFERENCE AT AN INDEX, OVER THE EXTENDED REALS.

  Its products are a relu of one plain product, none below zero; its absolute values change nothing; its largest is no
  larger than `u` when no product is. So an element of its result is the quantiser of one product: `refVal_apply`.
-/
module

public import proofs.«01_k».proof.Proof.Quant
public import proofs.«01_k».proof.Proof.Gen.ReferenceIdeal.Run
public import Idealize.ShloMosaic.Lib.StackMember

@[expose] public section

noncomputable section

namespace Cert.ReferenceIdeal.Ring

open Idealize.ShloMosaic hiding ix2 ix3
open Idealize.ShloMosaic.TcCoe Idealize.ShloMosaic.ValueIdx
open Cert.ReferenceIdeal.Gen Cert.ReferenceIdeal
open Cert.KernelIdeal.Ring (dotR qd ofBits_bot)
open scoped BigOperators

/-- The products after the relu. -/
def yR (A : FVec Ideal S4096x4096 .f32) (B : FVec Ideal S4096x2048 .f32) : FVec Ideal S4096x2048 .f32 :=
  maximumf (Host.dotGeneral dot_S4096x4096_S4096x2048_S4096x2048_1_0_0_1_n_n none A B)
    (broadcastInDim S4096x2048 ![] bcast_S_S4096x2048 (constant S_ .f32 0x00000000#32))
/-- The largest absolute value, over no axes. -/
def topR (y : FVec Ideal S4096x2048 .f32) : FVec Ideal S_ .f32 :=
  Host.reduce FloatOps.maximumf (Host.absf y) (constant S_ .f32 0xFF800000#32) reducesTo_S4096x2048_S_d0_1 h_S_
/-- The scale. -/
def scR (y : FVec Ideal S4096x2048 .f32) : FVec Ideal S_ .f32 := Host.divf (topR y) (constant S_ .f32 0x42FE0000#32)
/-- The quantised array, scaled back. -/
def qR (y : FVec Ideal S4096x2048 .f32) : FVec Ideal S4096x2048 .f32 :=
  mulf (minimumf (broadcastInDim S4096x2048 ![] bcast_S_S4096x2048 (id (constant S_ .f32 0x42FE0000#32)))
    (maximumf (broadcastInDim S4096x2048 ![] bcast_S_S4096x2048 (id (constant S_ .f32 0xC2FE0000#32)))
      (Host.roundeven (Host.divf y (broadcastInDim S4096x2048 ![] bcast_S_S4096x2048 (scR y))))))
    (broadcastInDim S4096x2048 ![] bcast_S_S4096x2048 (scR y))
/-- The reference's result. -/
def refVal (A : FVec Ideal S4096x4096 .f32) (B : FVec Ideal S4096x2048 .f32) : FVec Ideal S4096x2048 .f32 := qR (yR A B)

/-- The one index of no axes. -/
abbrev none0 : S_.Idx := Shape.Idx.first h_S_

/-- There is only one index into a scalar. -/
theorem none0_eq (j : S_.Idx) : j = none0 := funext fun a => a.elim0

/-- A number laid over an array is that number everywhere. -/
theorem bcast_apply (v : FVec Ideal S_ .f32) (i : S4096x2048.Idx) : broadcastInDim S4096x2048 ![] bcast_S_S4096x2048 v i = v none0 :=
  congrArg v (none0_eq _)

/-- A product of the reference. -/
theorem yR_apply (A : FVec Ideal S4096x4096 .f32) (B : FVec Ideal S4096x2048 .f32) (i : Fin 4096) (n : Fin 2048) :
    yR A B (ix2 (n0 := 4096) (n1 := 2048) i n) = dotR (fun a k => A (ix2 (n0 := 4096) (n1 := 4096) a k)) (fun k n => B (ix2 (n0 := 4096) (n1 := 2048) k n)) i n := by
  unfold yR dotR
  rw [maximumf_apply, bcast_apply, constant_apply, Ideal.ofBits_zero_f32]
  exact congrArg (max · 0) (StackMember.dotGeneral_plain_apply (m := 4096) (k := 4096) (n := 2048) none A B i n)

/-- No product is below zero. -/
theorem yR_nonneg (A : FVec Ideal S4096x4096 .f32) (B : FVec Ideal S4096x2048 .f32) (i : S4096x2048.Idx) : (0 : EReal) ≤ yR A B i := by
  rw [show i = ix2 (n0 := 4096) (n1 := 2048) (i 0) (i 1) from ValueIdx.eq_ix2 i]
  exact (le_max_right _ _).trans_eq (yR_apply A B (i 0) (i 1)).symm

/-- The largest is no larger than `u` when no element is. -/
theorem topR_le (y : FVec Ideal S4096x2048 .f32) (hy : ∀ i, (0 : EReal) ≤ y i) (u : EReal) : topR y none0 ≤ u ↔ ∀ i, y i ≤ u := by
  have ha (i : S4096x2048.Idx) : Host.absf y i = y i :=
    max_eq_left (show -(y i : EReal) ≤ y i from le_trans (EReal.neg_le_zero.2 (hy i)) (hy i))
  unfold topR
  rw [Host.reduce_eq_fold]
  refine Finset.fold_max_le _ |>.trans ?_
  rw [constant_apply, ofBits_bot]
  constructor
  · exact fun h i => (ha i).symm.trans_le (h.2 i (Finset.mem_filter.2 ⟨Finset.mem_univ _, (none0_eq _)⟩))
  · exact fun h => ⟨bot_le, fun i _ => (ha i).trans_le (h i)⟩

/-- An element of the quantised array. -/
theorem qR_apply (y : FVec Ideal S4096x2048 .f32) (i : S4096x2048.Idx) :
    qR y i = qd (Ideal.div (topR y none0) (Ideal.ofBits .f32 0x42FE0000#32)) (y i) := by
  have hs : scR y none0 = Ideal.div (topR y none0) (Ideal.ofBits .f32 0x42FE0000#32) := rfl
  rw [← hs]
  unfold qR
  rw [mulf_apply, bcast_apply, minimumf_apply, maximumf_apply, bcast_apply, bcast_apply]
  have hd : Host.roundeven (Host.divf y (broadcastInDim S4096x2048 ![] bcast_S_S4096x2048 (scR y))) i
      = Ideal.liftRound Ideal.roundHalfEven (Ideal.div (y i) (broadcastInDim S4096x2048 ![] bcast_S_S4096x2048 (scR y) i)) := rfl
  rw [hd, bcast_apply]
  rfl

end Cert.ReferenceIdeal.Ring

end
-- ==== Proof.Equal.lean ====
/-
  THE KERNEL'S RESULT IS THE REFERENCE'S.

  With the rows of the left operand and the columns of the right one dealt over the four devices, every product of a
  device is a product of the reference (`product_eq`), so the largest are the same, and so is every element of every
  device's block (`result_block`). `algebraic` puts the two runs together.
-/
module

public import proofs.«01_k».proof.Defs
public import proofs.«01_k».proof.Proof.Frames
public import proofs.«01_k».proof.Proof.Result
public import proofs.«01_k».proof.Proof.Reference

@[expose] public section

noncomputable section

namespace Cert.Proof

open Idealize.ShloMosaic hiding ix2 ix3
open Idealize.ShloMosaic.TcCoe Idealize.ShloMosaic.ValueIdx Idealize.SL.Sem
open Cert.KernelIdeal.Ring (dotR outFull outFull_apply qd)
open Cert.ReferenceIdeal.Ring (yR yR_apply yR_nonneg topR topR_le qR_apply refVal none0)
open scoped BigOperators

section Values

variable (x : Dev Cert.KernelIdeal.nD → Vec Ideal Cert.KernelIdeal.S1024x4096 .f32) (w : Dev Cert.KernelIdeal.nD → Vec Ideal Cert.KernelIdeal.S4096x512 .f32)
  (A : FVec Ideal Cert.ReferenceIdeal.S4096x4096 .f32) (B : FVec Ideal Cert.ReferenceIdeal.S4096x2048 .f32)
  (hx : ∀ c : Dev Cert.KernelIdeal.nD, x c = Layout.block ⟨2, ![1024, 4096]⟩ ⟨2, ![4096, 4096]⟩ 0 4 c A)
  (hw : ∀ c : Dev Cert.KernelIdeal.nD, w c = Layout.block ⟨2, ![4096, 512]⟩ ⟨2, ![4096, 2048]⟩ 1 4 c B)

include hx hw

/-- A device's product is the reference's, in its place. -/
theorem product_eq (e o : Dev Cert.KernelIdeal.nD) (a : Fin 1024) (n : Fin 512) (r : Fin 4096) (l : Fin 2048)
    (hr : e.val * 1024 + a.val = r.val) (hl : o.val * 512 + n.val = l.val) :
    dotR (fun a k => x e (ix2 (n0 := 1024) (n1 := 4096) a k)) (fun k n => w o (ix2 (n0 := 4096) (n1 := 512) k n)) a n
      = yR A B (ix2 (n0 := 4096) (n1 := 2048) r l) := by
  rw [yR_apply]
  unfold dotR
  refine congrArg (max · 0) (Finset.sum_congr rfl fun k _ => ?_)
  dsimp only
  rw [hx, hw, Layout.block_apply, Layout.block_apply]
  refine congrArg₂ (· * ·) (congrArg A ?_) (congrArg B ?_)
  · funext b; apply Fin.ext
    match b with
    | ⟨0, _⟩ => exact hr
    | ⟨1, _⟩ => rfl
  · funext b; apply Fin.ext
    match b with
    | ⟨0, _⟩ => rfl
    | ⟨1, _⟩ => exact hl

/-- The reference's largest is the largest of all devices' products. -/
theorem top_eq (u : EReal) : topR (yR A B) none0 ≤ u ↔ ∀ (e o : Dev Cert.KernelIdeal.nD) (a : Fin 1024) (n : Fin 512),
    dotR (fun a k => x e (ix2 (n0 := 1024) (n1 := 4096) a k)) (fun k n => w o (ix2 (n0 := 4096) (n1 := 512) k n)) a n ≤ u := by
  rw [topR_le _ (yR_nonneg A B)]
  constructor
  · intro h e o a n
    have he : e.val < 4 := e.isLt
    have ho : o.val < 4 := o.isLt
    rw [product_eq x w A B hx hw e o a n ⟨e.val * 1024 + a.val, by omega⟩ ⟨o.val * 512 + n.val, by omega⟩ rfl rfl]
    exact h _
  · intro h i
    have h0 : (i 0).val < 4096 := (i 0).isLt
    have h1 : (i 1).val < 2048 := (i 1).isLt
    have hp := product_eq x w A B hx hw ⟨(i 0).val / 1024, by show _ < 4; omega⟩ ⟨(i 1).val / 512, by show _ < 4; omega⟩
      ⟨(i 0).val % 1024, by omega⟩ ⟨(i 1).val % 512, by omega⟩ (i 0) (i 1)
      (by show (i 0).val / 1024 * 1024 + (i 0).val % 1024 = (i 0).val; omega)
      (by show (i 1).val / 512 * 512 + (i 1).val % 512 = (i 1).val; omega)
    rw [show i = ix2 (n0 := 4096) (n1 := 2048) (i 0) (i 1) from ValueIdx.eq_ix2 i, ← hp]
    exact h _ _ _ _

/-- A device's result is its block of columns of the reference's. -/
theorem result_block (c : Dev Cert.KernelIdeal.nD) :
    outFull x w c = Layout.block ⟨2, ![4096, 512]⟩ ⟨2, ![4096, 2048]⟩ 1 4 c (refVal A B) := by
  funext i
  have hc : c.val < 4 := c.isLt
  have h0 : (i 0).val < 4096 := (i 0).isLt
  have h1 : (i 1).val < 512 := (i 1).isLt
  have hi : (Layout.Tiles.idx (by decide : Layout.Tiles ⟨2, ![4096, 512]⟩ ⟨2, ![4096, 2048]⟩ 1 4) c i)
      = ix2 (n0 := 4096) (n1 := 2048) ⟨(i 0).val, h0⟩ ⟨c.val * 512 + (i 1).val, by omega⟩ := by
    funext b; apply Fin.ext
    match b with
    | ⟨0, _⟩ => rfl
    | ⟨1, _⟩ => rfl
  rw [Layout.block_apply, hi]
  refine Eq.trans ?_ (qR_apply _ _).symm
  rw [← product_eq x w A B hx hw ⟨(i 0).val / 1024, by show _ < 4; omega⟩ c ⟨(i 0).val % 1024, by omega⟩ ⟨(i 1).val, h1⟩ ⟨(i 0).val, h0⟩
    ⟨c.val * 512 + (i 1).val, by omega⟩ (by show (i 0).val / 1024 * 1024 + (i 0).val % 1024 = (i 0).val; omega) rfl]
  have ho := outFull_apply x w (topR (yR A B) none0) (top_eq x w A B hx hw) c ⟨(i 0).val, h0⟩ ⟨(i 1).val, h1⟩
  exact (congrArg (outFull x w c) (ValueIdx.eq_ix2 i)).trans ho

end Values

/-- Over the extended reals, from operands dealt over the devices, the kernel and the reference end with the same
    result. -/
theorem algebraic : Cert.algebraic_KernelIdeal_ReferenceIdeal (hKernelIdeal := Cert.KernelIdeal.Gen.facts)
    (hReferenceIdeal := Cert.ReferenceIdeal.Gen.facts) := fun m g m' g' _ hin =>
  ⟨refVal (m' (((0 : Dev Cert.ReferenceIdeal.nD) : Thread Cert.ReferenceIdeal.nD Cert.ReferenceIdeal.τ).loc Cert.ReferenceIdeal.main_arg0))
      (m' (((0 : Dev Cert.ReferenceIdeal.nD) : Thread Cert.ReferenceIdeal.nD Cert.ReferenceIdeal.τ).loc Cert.ReferenceIdeal.main_arg1)),
    (θ_run Cert.KernelIdeal.defs _ _).mono
      (fun _ h c => ⟨(h.1 c 2).trans ((Cert.KernelIdeal.Ring.final_result m g c).trans
          (result_block _ _ _ _ (fun c => (hin c).1) (fun c => (hin c).2) c)),
        (h.1 c 0).trans (Cert.KernelIdeal.Ring.finalA_x m g c), (h.1 c 1).trans (Cert.KernelIdeal.Ring.finalA_w m g c)⟩)
      (Cert.KernelIdeal.Ring.run_all (F := Ideal) m g),
    (θ_run Cert.ReferenceIdeal.defs _ _).mono (fun _ h => h 0) (Cert.ReferenceIdeal.Value.run (F := Ideal) m' g')⟩

end Cert.Proof

end
-- ==== Proof.lean ====
module

public import proofs.«01_k».proof.Defs
public import proofs.«01_k».proof.Proof.Frames
public import proofs.«01_k».proof.Proof.Equal
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, frame_kernel, frame_ideal, frame_reference, trivial, algebraic⟩

end Cert.Proof

end
